-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S32x64x16 : Shape := ⟨3, ![32, 64, 16]⟩
abbrev S32x64x64x5 : Shape := ⟨4, ![32, 64, 64, 5]⟩
abbrev S32x64 : Shape := ⟨2, ![32, 64]⟩
abbrev S16 : Shape := ⟨1, ![16]⟩
abbrev S5 : Shape := ⟨1, ![5]⟩
abbrev S50 : Shape := ⟨1, ![50]⟩
abbrev S32x64x64 : Shape := ⟨3, ![32, 64, 64]⟩
abbrev S_ : Shape := ⟨0, ![]⟩

class Facts : Prop where
  reducesTo_S32x64_S_d0_1 : S32x64.ReducesTo [0, 1] S_
  h_S_ : 0 < S_.numel
  transposes_S32x64x64x5_S32x64x64x5_0_2_1_3 : S32x64x64x5.Transposes [0, 2, 1, 3] S32x64x64x5
  reducesTo_S32x64x64x5_S_d0_1_2_3 : S32x64x64x5.ReducesTo [0, 1, 2, 3] S_
  bcast_S_S32x64x16 : S_.BroadcastsInDim S32x64x16 (![] : Fin 0 → Fin S32x64x16.rank)
  reducesTo_S32x64x16_S32x64_d2 : S32x64x16.ReducesTo [2] S32x64
  bcast_S_S32x64x64x5 : S_.BroadcastsInDim S32x64x64x5 (![] : Fin 0 → Fin S32x64x64x5.rank)
  reducesTo_S32x64x64x5_S32x64x64_d3 : S32x64x64x5.ReducesTo [3] S32x64x64
  reducesTo_S32x64x64_S_d0_1_2 : S32x64x64.ReducesTo [0, 1, 2] S_
  bcast_S_S16 : S_.BroadcastsInDim S16 (![] : Fin 0 → Fin S16.rank)
  reducesTo_S16_S_d0 : S16.ReducesTo [0] S_
  bcast_S_S5 : S_.BroadcastsInDim S5 (![] : Fin 0 → Fin S5.rank)
  reducesTo_S5_S_d0 : S5.ReducesTo [0] S_
  bcast_S_S50 : S_.BroadcastsInDim S50 (![] : Fin 0 → Fin S50.rank)
  reducesTo_S50_S_d0 : S50.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg3 : FVec F S16 .f32) (main_arg4 : FVec F S5 .f32) (main_arg5 : FVec F S50 .f32) (main_v11 : IVec S_ 1) (main_v16 : IVec S32x64x64 1) : IVec S_ 1 :=
  let main_c_5 : IVec S_ 1 := constantI S_ 1 1#1
  let main_v17 : IVec S_ 1 := (fun x v => Host.reduce IntOp.andi x v reducesTo_S32x64x64_S_d0_1_2 h_S_) main_v16 main_c_5
  let main_v18 : IVec S_ 1 := andi main_v11 main_v17
  let main_cst_6 : FVec F S_ .f32 := constant S_ .f32 0x00000000#32
  let main_v19 : FVec F S16 .f32 := broadcastInDim S16 ![] bcast_S_S16 main_cst_6
  let main_v20 : IVec S16 1 := cmpf .oge main_arg3 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v18 main_v21
  let main_cst_8 : FVec F S_ .f32 := constant S_ .f32 0x00000000#32
  let main_v23 : FVec F S5 .f32 := broadcastInDim S5 ![] bcast_S_S5 main_cst_8
  let main_v24 : IVec S5 1 := cmpf .oge main_arg4 main_v23
  let main_c_9 : IVec S_ 1 := constantI S_ 1 1#1
  let main_v25 : IVec S_ 1 := (fun x v => Host.reduce IntOp.andi x v reducesTo_S5_S_d0 h_S_) main_v24 main_c_9
  let main_v26 : IVec S_ 1 := andi main_v22 main_v25
  let main_cst_10 : FVec F S_ .f32 := constant S_ .f32 0x00000000#32
  let main_v27 : FVec F S50 .f32 := broadcastInDim S50 ![] bcast_S_S50 main_cst_10
  let main_v28 : IVec S50 1 := cmpf .oge main_arg5 main_v27
  let main_cst_11 : FVec F S_ .f32 := constant S_ .f32 0x3F7FFFE0#32
  let main_v29 : FVec F S50 .f32 := broadcastInDim S50 ![] bcast_S_S50 main_cst_11
  let main_v30 : IVec S50 1 := cmpf .ole main_arg5 main_v29
  let main_v31 : IVec S50 1 := andi main_v28 main_v30
  let main_c_12 : IVec S_ 1 := constantI S_ 1 1#1
  let main_v32 : IVec S_ 1 := (fun x v => Host.reduce IntOp.andi x v reducesTo_S50_S_d0 h_S_) main_v31 main_c_12
  fn_part2 (F := F) main_v26 main_v32

def fn {F : FTy → Type} [FloatOps F] (main_arg0 : FVec F S32x64x16 .f32) (main_arg1 : FVec F S32x64x64x5 .f32) (main_arg2 : IVec S32x64 1) (main_arg3 : FVec F S16 .f32) (main_arg4 : FVec F S5 .f32) (main_arg5 : FVec F S50 .f32) : IVec S_ 1 :=
  let main_v0 : IVec S32x64x64 32 := iotaInDim S32x64x64 32 1
  let main_v1 : IVec S32x64x64 32 := iotaInDim S32x64x64 32 2
  let main_c : IVec S_ 1 := constantI S_ 1 1#1
  let main_v2 : IVec S_ 1 := (fun x v => Host.reduce IntOp.andi x v reducesTo_S32x64_S_d0_1 h_S_) main_arg2 main_c
  let main_v3 : FVec F S32x64x64x5 .f32 := (transpose S32x64x64x5 [0, 2, 1, 3] · transposes_S32x64x64x5_S32x64x64x5_0_2_1_3) main_arg1
  let main_v4 : IVec S32x64x64x5 1 := cmpf .oeq main_arg1 main_v3
  let main_c_0 : IVec S_ 1 := constantI S_ 1 1#1
  let main_v5 : IVec S_ 1 := (fun x v => Host.reduce IntOp.andi x v reducesTo_S32x64x64x5_S_d0_1_2_3 h_S_) main_v4 main_c_0
  let main_v6 : IVec S_ 1 := andi main_v2 main_v5
  let main_cst : FVec F S_ .f32 := constant S_ .f32 0x36000000#32
  let main_v7 : FVec F S32x64x16 .f32 := broadcastInDim S32x64x16 ![] bcast_S_S32x64x16 main_cst
  let main_v8 : IVec S32x64x16 1 := cmpf .oge main_arg0 main_v7
  let main_c_1 : IVec S_ 1 := constantI S_ 1 0#1
  let main_v9 : IVec S32x64 1 := (fun x v => Host.reduce IntOp.ori x v reducesTo_S32x64x16_S32x64_d2 h_S_) main_v8 main_c_1
  let main_c_2 : IVec S_ 1 := constantI S_ 1 1#1
  let main_v10 : IVec S_ 1 := (fun x v => Host.reduce IntOp.andi x v reducesTo_S32x64_S_d0_1 h_S_) main_v9 main_c_2
  let main_v11 : IVec S_ 1 := andi main_v6 main_v10
  let main_cst_3 : FVec F S_ .f32 := constant S_ .f32 0x36000000#32
  let main_v12 : FVec F S32x64x64x5 .f32 := broadcastInDim S32x64x64x5 ![] bcast_S_S32x64x64x5 main_cst_3
  let main_v13 : IVec S32x64x64x5 1 := cmpf .oge main_arg1 main_v12
  let main_c_4 : IVec S_ 1 := constantI S_ 1 0#1
  let main_v14 : IVec S32x64x64 1 := (fun x v => Host.reduce IntOp.ori x v reducesTo_S32x64x64x5_S32x64x64_d3 h_S_) main_v13 main_c_4
  let main_v15 : IVec S32x64x64 1 := cmpi .eq main_v0 main_v1
  let main_v16 : IVec S32x64x64 1 := ori main_v14 main_v15
  fn_part1 (F := F) main_arg3 main_arg4 main_arg5 main_v11 main_v16
-- ==== Kernel.lean ====
abbrev S32x64x16 : Shape := ⟨3, ![32, 64, 16]⟩
abbrev S32x64x64x5 : Shape := ⟨4, ![32, 64, 64, 5]⟩
abbrev S32x64 : Shape := ⟨2, ![32, 64]⟩
abbrev S16 : Shape := ⟨1, ![16]⟩
abbrev S5 : Shape := ⟨1, ![5]⟩
abbrev S50 : Shape := ⟨1, ![50]⟩
abbrev S50x4 : Shape := ⟨2, ![50, 4]⟩
abbrev S32x16x64 : Shape := ⟨3, ![32, 16, 64]⟩
abbrev S32x5x64x64 : Shape := ⟨4, ![32, 5, 64, 64]⟩
abbrev S16x2x5x64x64 : Shape := ⟨5, ![16, 2, 5, 64, 64]⟩
abbrev S16x5x64x2x64 : Shape := ⟨5, ![16, 5, 64, 2, 64]⟩
abbrev S16x5x64x128 : Shape := ⟨4, ![16, 5, 64, 128]⟩
abbrev S50x1x4 : Shape := ⟨3, ![50, 1, 4]⟩
abbrev S50x1x1 : Shape := ⟨3, ![50, 1, 1]⟩
abbrev S1x16x1 : Shape := ⟨3, ![1, 16, 1]⟩
abbrev S1x5x1x1 : Shape := ⟨4, ![1, 5, 1, 1]⟩
abbrev S32x50x16x64 : Shape := ⟨4, ![32, 50, 16, 64]⟩
abbrev S32x50x5x64x64 : Shape := ⟨5, ![32, 50, 5, 64, 64]⟩
abbrev S16x16x64 : Shape := ⟨3, ![16, 16, 64]⟩
abbrev S8x5x64x128 : Shape := ⟨4, ![8, 5, 64, 128]⟩
abbrev S1x1x4 : Shape := ⟨3, ![1, 1, 4]⟩
abbrev S1x1x1 : Shape := ⟨3, ![1, 1, 1]⟩
abbrev S16x1x16x64 : Shape := ⟨4, ![16, 1, 16, 64]⟩
abbrev S16x1x5x64x64 : Shape := ⟨5, ![16, 1, 5, 64, 64]⟩
abbrev S1x5x64x64 : Shape := ⟨4, ![1, 5, 64, 64]⟩
abbrev S5x64x64 : Shape := ⟨3, ![5, 64, 64]⟩
abbrev S1x1x5x64x64 : Shape := ⟨5, ![1, 1, 5, 64, 64]⟩
abbrev S16x1x64 : Shape := ⟨3, ![16, 1, 64]⟩
abbrev S16x64 : Shape := ⟨2, ![16, 64]⟩
abbrev S16x1x1x64 : Shape := ⟨4, ![16, 1, 1, 64]⟩
abbrev S8x1x64x128 : Shape := ⟨4, ![8, 1, 64, 128]⟩
abbrev S8x64x128 : Shape := ⟨3, ![8, 64, 128]⟩
abbrev S1x64x64 : Shape := ⟨3, ![1, 64, 64]⟩
abbrev S64x64 : Shape := ⟨2, ![64, 64]⟩
abbrev S1x1x1x64x64 : Shape := ⟨5, ![1, 1, 1, 64, 64]⟩
abbrev S32x50x64x16 : Shape := ⟨4, ![32, 50, 64, 16]⟩
abbrev S32x50x64x64x5 : Shape := ⟨5, ![32, 50, 64, 64, 5]⟩
abbrev S_ : Shape := ⟨0, ![]⟩
abbrev S1x50x1 : Shape := ⟨3, ![1, 50, 1]⟩
abbrev S32x50x1 : Shape := ⟨3, ![32, 50, 1]⟩

abbrev nBuf : Space → Nat
  | .hbm => 31
  | .vmem => 16
  | .smem => 4
  | _ => 0

abbrev bufTy : (tb : Table) → Fin (tcTables nBuf tb) → BufTy
  | .hbm, ⟨0, _⟩ => ⟨S32x64x16, .f32⟩
  | .hbm, ⟨1, _⟩ => ⟨S32x64x64x5, .f32⟩
  | .hbm, ⟨2, _⟩ => ⟨S32x64, .i1⟩
  | .hbm, ⟨3, _⟩ => ⟨S16, .f32⟩
  | .hbm, ⟨4, _⟩ => ⟨S5, .f32⟩
  | .hbm, ⟨5, _⟩ => ⟨S50, .f32⟩
  | .hbm, ⟨6, _⟩ => ⟨S50x4, .i32⟩
  | .hbm, ⟨7, _⟩ => ⟨S32x16x64, .f32⟩
  | .hbm, ⟨8, _⟩ => ⟨S32x5x64x64, .f32⟩
  | .hbm, ⟨9, _⟩ => ⟨S16x2x5x64x64, .f32⟩
  | .hbm, ⟨10, _⟩ => ⟨S16x5x64x2x64, .f32⟩
  | .hbm, ⟨11, _⟩ => ⟨S16x5x64x128, .f32⟩
  | .hbm, ⟨12, _⟩ => ⟨S50x1x4, .i32⟩
  | .hbm, ⟨13, _⟩ => ⟨S50x1x1, .f32⟩
  | .hbm, ⟨14, _⟩ => ⟨S1x16x1, .f32⟩
  | .hbm, ⟨15, _⟩ => ⟨S1x5x1x1, .f32⟩
  | .hbm, ⟨16, _⟩ => ⟨S32x50x16x64, .f32⟩
  | .hbm, ⟨17, _⟩ => ⟨S32x50x5x64x64, .f32⟩
  | .hbm, ⟨18, _⟩ => ⟨S32x50x16x64, .f32⟩
  | .hbm, ⟨19, _⟩ => ⟨S32x50x5x64x64, .f32⟩
  | .hbm, ⟨20, _⟩ => ⟨S32x50x64x16, .f32⟩
  | .hbm, ⟨21, _⟩ => ⟨S32x50x64x64x5, .f32⟩
  | .hbm, ⟨22, _⟩ => ⟨S32x50x64x16, .f32⟩
  | .hbm, ⟨23, _⟩ => ⟨S32x50x64x64x5, .f32⟩
  | .hbm, ⟨24, _⟩ => ⟨S_, .f32⟩
  | .hbm, ⟨25, _⟩ => ⟨S_, .f32⟩
  | .hbm, ⟨26, _⟩ => ⟨S50, .f32⟩
  | .hbm, ⟨27, _⟩ => ⟨S1x50x1, .f32⟩
  | .hbm, ⟨28, _⟩ => ⟨S32x50x1, .f32⟩
  | .hbm, ⟨29, _⟩ => ⟨S1x50x1, .f32⟩
  | .hbm, ⟨30, _⟩ => ⟨S32x50x1, .f32⟩
  | .local _ .vmem, ⟨0, _⟩ => ⟨S16x16x64, .f32⟩
  | .local _ .vmem, ⟨1, _⟩ => ⟨S16x16x64, .f32⟩
  | .local _ .vmem, ⟨2, _⟩ => ⟨S8x5x64x128, .f32⟩
  | .local _ .vmem, ⟨3, _⟩ => ⟨S8x5x64x128, .f32⟩
  | .local _ .vmem, ⟨4, _⟩ => ⟨S1x16x1, .f32⟩
  | .local _ .vmem, ⟨5, _⟩ => ⟨S1x5x1x1, .f32⟩
  | .local _ .vmem, ⟨6, _⟩ => ⟨S16x1x16x64, .f32⟩
  | .local _ .vmem, ⟨7, _⟩ => ⟨S16x1x16x64, .f32⟩
  | .local _ .vmem, ⟨8, _⟩ => ⟨S16x1x5x64x64, .f32⟩
  | .local _ .vmem, ⟨9, _⟩ => ⟨S16x1x5x64x64, .f32⟩
  | .local _ .vmem, ⟨10, _⟩ => ⟨S16x1x16x64, .f32⟩
  | .local _ .vmem, ⟨11, _⟩ => ⟨S16x1x16x64, .f32⟩
  | .local _ .vmem, ⟨12, _⟩ => ⟨S16x1x5x64x64, .f32⟩
  | .local _ .vmem, ⟨13, _⟩ => ⟨S16x1x5x64x64, .f32⟩
  | .local _ .vmem, ⟨14, _⟩ => ⟨S16x16x64, .f32⟩
  | .local _ .vmem, ⟨15, _⟩ => ⟨S8x5x64x128, .f32⟩
  | .local _ .smem, ⟨0, _⟩ => ⟨S1x1x4, .i32⟩
  | .local _ .smem, ⟨1, _⟩ => ⟨S1x1x4, .i32⟩
  | .local _ .smem, ⟨2, _⟩ => ⟨S1x1x1, .f32⟩
  | .local _ .smem, ⟨3, _⟩ => ⟨S1x1x1, .f32⟩
  | _, _ => ⟨S32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_call0_cst : Ref sig .tc := ⟨.hbm, 24, rfl⟩
abbrev main_call0_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_stg3_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S16x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x5x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .smem S1x1x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .smem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x1x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1x5x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1x5x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32x64x16 : Shape := ⟨3, ![32, 64, 16]⟩
abbrev S32x64x64x5 : Shape := ⟨4, ![32, 64, 64, 5]⟩
abbrev S32x64 : Shape := ⟨2, ![32, 64]⟩
abbrev S16 : Shape := ⟨1, ![16]⟩
abbrev S5 : Shape := ⟨1, ![5]⟩
abbrev S50 : Shape := ⟨1, ![50]⟩
abbrev S_ : Shape := ⟨0, ![]⟩
abbrev S1 : Shape := ⟨1, ![1]⟩
abbrev S2 : Shape := ⟨1, ![2]⟩
abbrev S32x64x1 : Shape := ⟨3, ![32, 64, 1]⟩
abbrev S32x64x1x1 : Shape := ⟨4, ![32, 64, 1, 1]⟩
abbrev S32x1x64x1 : Shape := ⟨4, ![32, 1, 64, 1]⟩
abbrev S50x32x64x16 : Shape := ⟨4, ![50, 32, 64, 16]⟩
abbrev S50x32x64x64x5 : Shape := ⟨5, ![50, 32, 64, 64, 5]⟩
abbrev S32x64x64 : Shape := ⟨3, ![32, 64, 64]⟩
abbrev S32x64x64x1 : Shape := ⟨4, ![32, 64, 64, 1]⟩
abbrev S1x1x16 : Shape := ⟨3, ![1, 1, 16]⟩
abbrev S64x64 : Shape := ⟨2, ![64, 64]⟩
abbrev S1x1x1x5 : Shape := ⟨4, ![1, 1, 1, 5]⟩
abbrev S1x32x64x16 : Shape := ⟨4, ![1, 32, 64, 16]⟩
abbrev S1x32x64x64x5 : Shape := ⟨5, ![1, 32, 64, 64, 5]⟩
abbrev S1x50x1 : Shape := ⟨3, ![1, 50, 1]⟩
abbrev S32x50x1 : Shape := ⟨3, ![32, 50, 1]⟩
abbrev S32x50x64x16 : Shape := ⟨4, ![32, 50, 64, 16]⟩
abbrev S32x50x64x64x5 : Shape := ⟨5, ![32, 50, 64, 64, 5]⟩

abbrev nBuf : Space → Nat
  | .hbm => 1457
  | .vmem => 0
  | .smem => 0
  | _ => 0

abbrev hbmTy0_0 (i : Nat) : BufTy := match i % 128 with
  | 0 => ⟨S32x64x16, .f32⟩
  | 1 => ⟨S32x64x64x5, .f32⟩
  | 2 => ⟨S32x64, .i1⟩
  | 3 => ⟨S16, .f32⟩
  | 4 => ⟨S5, .f32⟩
  | 5 => ⟨S50, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S32x64x1, .i1⟩
  | 17 => ⟨S32x64x1, .f32⟩
  | 18 => ⟨S32x64x1x1, .i1⟩
  | 19 => ⟨S32x64x1x1, .f32⟩
  | 20 => ⟨S32x1x64x1, .i1⟩
  | 21 => ⟨S32x1x64x1, .f32⟩
  | 22 => ⟨S32x64x16, .f32⟩
  | 23 => ⟨S32x64x16, .f32⟩
  | 24 => ⟨S32x64x64x5, .f32⟩
  | 25 => ⟨S32x64x64x5, .f32⟩
  | 26 => ⟨S32x64x64x5, .f32⟩
  | 27 => ⟨S32x64x64x5, .f32⟩
  | 28 => ⟨S32x64x16, .f32⟩
  | 29 => ⟨S32x64x64x5, .f32⟩
  | 30 => ⟨S32x64x1, .i1⟩
  | 31 => ⟨S32x64x1, .f32⟩
  | 32 => ⟨S32x64x1x1, .i1⟩
  | 33 => ⟨S32x64x1x1, .f32⟩
  | 34 => ⟨S32x1x64x1, .i1⟩
  | 35 => ⟨S32x1x64x1, .f32⟩
  | 36 => ⟨S32x64x16, .f32⟩
  | 37 => ⟨S32x64x16, .f32⟩
  | 38 => ⟨S32x64x64x5, .f32⟩
  | 39 => ⟨S32x64x64x5, .f32⟩
  | 40 => ⟨S32x64x64x5, .f32⟩
  | 41 => ⟨S32x64x64x5, .f32⟩
  | 42 => ⟨S50, .i32⟩
  | 43 => ⟨S_, .f32⟩
  | 44 => ⟨S50x32x64x16, .f32⟩
  | 45 => ⟨S_, .f32⟩
  | 46 => ⟨S50x32x64x64x5, .f32⟩
  | 47 => ⟨S_, .f32⟩
  | 48 => ⟨S50x32x64x16, .f32⟩
  | 49 => ⟨S_, .f32⟩
  | 50 => ⟨S50x32x64x64x5, .f32⟩
  | 51 => ⟨S_, .i32⟩
  | 52 => ⟨S50, .i32⟩
  | 53 => ⟨S50, .f32⟩
  | 54 => ⟨S32x64x16, .f32⟩
  | 55 => ⟨S32x64x64x5, .f32⟩
  | 56 => ⟨S2, .i32⟩
  | 57 => ⟨S32x64, .i1⟩
  | 58 => ⟨S_, .i32⟩
  | 59 => ⟨S32x64x16, .f32⟩
  | 60 => ⟨S32x64x64x5, .f32⟩
  | 61 => ⟨S50x32x64x16, .f32⟩
  | 62 => ⟨S50x32x64x64x5, .f32⟩
  | 63 => ⟨S50x32x64x16, .f32⟩
  | 64 => ⟨S50x32x64x64x5, .f32⟩
  | 65 => ⟨S_, .i32⟩
  | 66 => ⟨S_, .i1⟩
  | 67 => ⟨S1, .i32⟩
  | 68 => ⟨S_, .i32⟩
  | 69 => ⟨S1, .f32⟩
  | 70 => ⟨S_, .f32⟩
  | 71 => ⟨S_, .f32⟩
  | 72 => ⟨S_, .f32⟩
  | 73 => ⟨S32x64x16, .f32⟩
  | 74 => ⟨S32x64x16, .f32⟩
  | 75 => ⟨S32x64x16, .f32⟩
  | 76 => ⟨S32x64x16, .f32⟩
  | 77 => ⟨S32x64x16, .f32⟩
  | 78 => ⟨S_, .f32⟩
  | 79 => ⟨S_, .f32⟩
  | 80 => ⟨S_, .f32⟩
  | 81 => ⟨S32x64x16, .f32⟩
  | 82 => ⟨S32x64x16, .f32⟩
  | 83 => ⟨S_, .f32⟩
  | 84 => ⟨S32x64x16, .f32⟩
  | 85 => ⟨S32x64x16, .f32⟩
  | 86 => ⟨S_, .f32⟩
  | 87 => ⟨S_, .f32⟩
  | 88 => ⟨S32x64x64x5, .f32⟩
  | 89 => ⟨S32x64x64x5, .f32⟩
  | 90 => ⟨S32x64x64x5, .f32⟩
  | 91 => ⟨S32x64x64x5, .f32⟩
  | 92 => ⟨S32x64x64x5, .f32⟩
  | 93 => ⟨S_, .f32⟩
  | 94 => ⟨S_, .f32⟩
  | 95 => ⟨S_, .f32⟩
  | 96 => ⟨S32x64x64x5, .f32⟩
  | 97 => ⟨S32x64x64x5, .f32⟩
  | 98 => ⟨S_, .f32⟩
  | 99 => ⟨S32x64x64x5, .f32⟩
  | 100 => ⟨S32x64x64x5, .f32⟩
  | 101 => ⟨S_, .i32⟩
  | 102 => ⟨S_, .i32⟩
  | 103 => ⟨S1, .i32⟩
  | 104 => ⟨S1, .i32⟩
  | 105 => ⟨S2, .i32⟩
  | 106 => ⟨S1, .i32⟩
  | 107 => ⟨S_, .i32⟩
  | 108 => ⟨S1, .i32⟩
  | 109 => ⟨S_, .i32⟩
  | 110 => ⟨S1, .i32⟩
  | 111 => ⟨S1, .i32⟩
  | 112 => ⟨S_, .i32⟩
  | 113 => ⟨S_, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S32x64x16, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S32x64x16, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S2, .i32⟩
  | 79 => ⟨S_, .i32⟩
  | 80 => ⟨S_, .i32⟩
  | 81 => ⟨S1, .i32⟩
  | 82 => ⟨S1, .i32⟩
  | 83 => ⟨S2, .i32⟩
  | 84 => ⟨S1, .i32⟩
  | 85 => ⟨S_, .i32⟩
  | 86 => ⟨S1, .i32⟩
  | 87 => ⟨S_, .i32⟩
  | 88 => ⟨S1, .i32⟩
  | 89 => ⟨S1, .i32⟩
  | 90 => ⟨S_, .i32⟩
  | 91 => ⟨S_, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S32x64x16, .f32⟩

abbrev hbmTy0_3 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S1, .i32⟩
  | 126 => ⟨S_, .i32⟩
  | 127 => ⟨S1, .i32⟩
  | _ => ⟨S32x64x16, .f32⟩

abbrev hbmTy0_4 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S_, .i32⟩
  | 36 => ⟨S1, .i32⟩
  | 37 => ⟨S1, .i32⟩
  | 38 => ⟨S1, .i32⟩
  | 39 => ⟨S1, .i32⟩
  | 40 => ⟨S1, .i32⟩
  | 41 => ⟨S_, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S2, .i32⟩
  | 57 => ⟨S_, .i32⟩
  | 58 => ⟨S_, .i32⟩
  | 59 => ⟨S1, .i32⟩
  | 60 => ⟨S1, .i32⟩
  | 61 => ⟨S2, .i32⟩
  | 62 => ⟨S1, .i32⟩
  | 63 => ⟨S_, .i32⟩
  | 64 => ⟨S1, .i32⟩
  | 65 => ⟨S_, .i32⟩
  | 66 => ⟨S1, .i32⟩
  | 67 => ⟨S1, .i32⟩
  | 68 => ⟨S_, .i32⟩
  | 69 => ⟨S_, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S32x64x16, .f32⟩

abbrev hbmTy0_5 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S32x64x16, .f32⟩

abbrev hbmTy0_6 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S2, .i32⟩
  | 35 => ⟨S_, .f32⟩
  | 36 => ⟨S32x64, .f32⟩
  | 37 => ⟨S32x64x1, .f32⟩
  | 38 => ⟨S_, .f32⟩
  | 39 => ⟨S_, .f32⟩
  | 40 => ⟨S32x64x1, .f32⟩
  | 41 => ⟨S32x64x1, .f32⟩
  | 42 => ⟨S32x64x16, .f32⟩
  | 43 => ⟨S32x64x16, .f32⟩
  | 44 => ⟨S_, .f32⟩
  | 45 => ⟨S32x64x64, .f32⟩
  | 46 => ⟨S32x64x64x1, .f32⟩
  | 47 => ⟨S_, .f32⟩
  | 48 => ⟨S_, .f32⟩
  | 49 => ⟨S32x64x64x1, .f32⟩
  | 50 => ⟨S32x64x64x1, .f32⟩
  | 51 => ⟨S32x64x64x5, .f32⟩
  | 52 => ⟨S32x64x64x5, .f32⟩
  | 53 => ⟨S1, .i32⟩
  | 54 => ⟨S_, .i32⟩
  | 55 => ⟨S1, .i32⟩
  | 56 => ⟨S_, .i32⟩
  | 57 => ⟨S32x64x16, .i64⟩
  | 58 => ⟨S32x64x16, .i64⟩
  | 59 => ⟨S32x64x16, .i64⟩
  | 60 => ⟨S_, .i64⟩
  | 61 => ⟨S32x64x16, .i64⟩
  | 62 => ⟨S32x64x16, .i64⟩
  | 63 => ⟨S_, .i64⟩
  | 64 => ⟨S32x64x16, .i64⟩
  | 65 => ⟨S32x64x16, .i64⟩
  | 66 => ⟨S_, .i64⟩
  | 67 => ⟨S32x64x16, .i64⟩
  | 68 => ⟨S32x64x16, .i64⟩
  | 69 => ⟨S32x64x16, .i64⟩
  | 70 => ⟨S32x64x16, .i64⟩
  | 71 => ⟨S_, .i64⟩
  | 72 => ⟨S32x64x16, .i64⟩
  | 73 => ⟨S32x64x16, .i64⟩
  | 74 => ⟨S32x64x16, .i32⟩
  | 75 => ⟨S32x64x16, .i32⟩
  | 76 => ⟨S_, .i32⟩
  | 77 => ⟨S_, .i32⟩
  | 78 => ⟨S_, .i32⟩
  | 79 => ⟨S32x64x16, .i32⟩
  | 80 => ⟨S32x64x16, .i32⟩
  | 81 => ⟨S32x64x16, .i32⟩
  | 82 => ⟨S32x64x16, .i32⟩
  | 83 => ⟨S32x64x16, .i32⟩
  | 84 => ⟨S_, .i32⟩
  | 85 => ⟨S32x64x16, .i32⟩
  | 86 => ⟨S32x64x16, .i32⟩
  | 87 => ⟨S_, .i32⟩
  | 88 => ⟨S32x64x16, .i32⟩
  | 89 => ⟨S32x64x16, .i32⟩
  | 90 => ⟨S32x64x16, .i32⟩
  | 91 => ⟨S32x64x16, .i32⟩
  | 92 => ⟨S32x64x16, .i32⟩
  | 93 => ⟨S_, .i32⟩
  | 94 => ⟨S32x64x16, .i32⟩
  | 95 => ⟨S32x64x16, .i32⟩
  | 96 => ⟨S_, .i32⟩
  | 97 => ⟨S32x64x16, .i32⟩
  | 98 => ⟨S32x64x16, .i32⟩
  | 99 => ⟨S32x64x16, .i32⟩
  | 100 => ⟨S32x64x16, .i32⟩
  | 101 => ⟨S32x64x16, .i32⟩
  | 102 => ⟨S_, .i32⟩
  | 103 => ⟨S32x64x16, .i32⟩
  | 104 => ⟨S32x64x16, .i32⟩
  | 105 => ⟨S_, .i32⟩
  | 106 => ⟨S32x64x16, .i32⟩
  | 107 => ⟨S32x64x16, .i32⟩
  | 108 => ⟨S32x64x16, .i32⟩
  | 109 => ⟨S32x64x16, .i32⟩
  | 110 => ⟨S32x64x16, .i32⟩
  | 111 => ⟨S_, .i32⟩
  | 112 => ⟨S32x64x16, .i32⟩
  | 113 => ⟨S32x64x16, .i32⟩
  | 114 => ⟨S_, .i32⟩
  | 115 => ⟨S32x64x16, .i32⟩
  | 116 => ⟨S32x64x16, .i32⟩
  | 117 => ⟨S32x64x16, .i32⟩
  | 118 => ⟨S32x64x16, .i32⟩
  | 119 => ⟨S32x64x16, .i32⟩
  | 120 => ⟨S32x64x16, .i32⟩
  | 121 => ⟨S32x64x16, .i32⟩
  | 122 => ⟨S32x64x16, .i32⟩
  | 123 => ⟨S_, .i32⟩
  | 124 => ⟨S32x64x16, .i32⟩
  | 125 => ⟨S32x64x16, .i32⟩
  | 126 => ⟨S32x64x16, .i32⟩
  | 127 => ⟨S_, .i32⟩
  | _ => ⟨S32x64x16, .f32⟩

abbrev hbmTy0_7 (i : Nat) : BufTy := match i % 128 with
  | 0 => ⟨S32x64x16, .i32⟩
  | 1 => ⟨S32x64x16, .i32⟩
  | 2 => ⟨S_, .i32⟩
  | 3 => ⟨S32x64x16, .i32⟩
  | 4 => ⟨S32x64x16, .i32⟩
  | 5 => ⟨S32x64x16, .i32⟩
  | 6 => ⟨S32x64x16, .i32⟩
  | 7 => ⟨S32x64x16, .i32⟩
  | 8 => ⟨S_, .i32⟩
  | 9 => ⟨S32x64x16, .i32⟩
  | 10 => ⟨S32x64x16, .i32⟩
  | 11 => ⟨S_, .i32⟩
  | 12 => ⟨S32x64x16, .i32⟩
  | 13 => ⟨S32x64x16, .i32⟩
  | 14 => ⟨S32x64x16, .i32⟩
  | 15 => ⟨S32x64x16, .i32⟩
  | 16 => ⟨S32x64x16, .i32⟩
  | 17 => ⟨S_, .i32⟩
  | 18 => ⟨S32x64x16, .i32⟩
  | 19 => ⟨S32x64x16, .i32⟩
  | 20 => ⟨S_, .i32⟩
  | 21 => ⟨S32x64x16, .i32⟩
  | 22 => ⟨S32x64x16, .i32⟩
  | 23 => ⟨S32x64x16, .i32⟩
  | 24 => ⟨S32x64x16, .i32⟩
  | 25 => ⟨S32x64x16, .i32⟩
  | 26 => ⟨S_, .i32⟩
  | 27 => ⟨S32x64x16, .i32⟩
  | 28 => ⟨S32x64x16, .i32⟩
  | 29 => ⟨S_, .i32⟩
  | 30 => ⟨S32x64x16, .i32⟩
  | 31 => ⟨S32x64x16, .i32⟩
  | 32 => ⟨S32x64x16, .i32⟩
  | 33 => ⟨S32x64x16, .i32⟩
  | 34 => ⟨S32x64x16, .i32⟩
  | 35 => ⟨S32x64x16, .i32⟩
  | 36 => ⟨S32x64x16, .i32⟩
  | 37 => ⟨S32x64x16, .i32⟩
  | 38 => ⟨S_, .i32⟩
  | 39 => ⟨S32x64x16, .i32⟩
  | 40 => ⟨S32x64x16, .i32⟩
  | 41 => ⟨S32x64x16, .i32⟩
  | 42 => ⟨S_, .i32⟩
  | 43 => ⟨S32x64x16, .i32⟩
  | 44 => ⟨S32x64x16, .i32⟩
  | 45 => ⟨S_, .i32⟩
  | 46 => ⟨S32x64x16, .i32⟩
  | 47 => ⟨S32x64x16, .i32⟩
  | 48 => ⟨S32x64x16, .i32⟩
  | 49 => ⟨S32x64x16, .i32⟩
  | 50 => ⟨S32x64x16, .i32⟩
  | 51 => ⟨S_, .i32⟩
  | 52 => ⟨S32x64x16, .i32⟩
  | 53 => ⟨S32x64x16, .i32⟩
  | 54 => ⟨S_, .i32⟩
  | 55 => ⟨S32x64x16, .i32⟩
  | 56 => ⟨S32x64x16, .i32⟩
  | 57 => ⟨S32x64x16, .i32⟩
  | 58 => ⟨S32x64x16, .i32⟩
  | 59 => ⟨S32x64x16, .i32⟩
  | 60 => ⟨S_, .i32⟩
  | 61 => ⟨S32x64x16, .i32⟩
  | 62 => ⟨S32x64x16, .i32⟩
  | 63 => ⟨S_, .i32⟩
  | 64 => ⟨S32x64x16, .i32⟩
  | 65 => ⟨S32x64x16, .i32⟩
  | 66 => ⟨S32x64x16, .i32⟩
  | 67 => ⟨S32x64x16, .i32⟩
  | 68 => ⟨S32x64x16, .i32⟩
  | 69 => ⟨S_, .i32⟩
  | 70 => ⟨S32x64x16, .i32⟩
  | 71 => ⟨S32x64x16, .i32⟩
  | 72 => ⟨S_, .i32⟩
  | 73 => ⟨S32x64x16, .i32⟩
  | 74 => ⟨S32x64x16, .i32⟩
  | 75 => ⟨S32x64x16, .i32⟩
  | 76 => ⟨S32x64x16, .i32⟩
  | 77 => ⟨S32x64x16, .i32⟩
  | 78 => ⟨S32x64x16, .i32⟩
  | 79 => ⟨S32x64x16, .i32⟩
  | 80 => ⟨S32x64x16, .i32⟩
  | 81 => ⟨S_, .i32⟩
  | 82 => ⟨S32x64x16, .i32⟩
  | 83 => ⟨S32x64x16, .i32⟩
  | 84 => ⟨S32x64x16, .i32⟩
  | 85 => ⟨S_, .i32⟩
  | 86 => ⟨S32x64x16, .i32⟩
  | 87 => ⟨S32x64x16, .i32⟩
  | 88 => ⟨S_, .i32⟩
  | 89 => ⟨S32x64x16, .i32⟩
  | 90 => ⟨S32x64x16, .i32⟩
  | 91 => ⟨S32x64x16, .i32⟩
  | 92 => ⟨S32x64x16, .i32⟩
  | 93 => ⟨S32x64x16, .i32⟩
  | 94 => ⟨S_, .i32⟩
  | 95 => ⟨S32x64x16, .i32⟩
  | 96 => ⟨S32x64x16, .i32⟩
  | 97 => ⟨S_, .i32⟩
  | 98 => ⟨S32x64x16, .i32⟩
  | 99 => ⟨S32x64x16, .i32⟩
  | 100 => ⟨S32x64x16, .i32⟩
  | 101 => ⟨S32x64x16, .i32⟩
  | 102 => ⟨S32x64x16, .i32⟩
  | 103 => ⟨S_, .i32⟩
  | 104 => ⟨S32x64x16, .i32⟩
  | 105 => ⟨S32x64x16, .i32⟩
  | 106 => ⟨S_, .i32⟩
  | 107 => ⟨S32x64x16, .i32⟩
  | 108 => ⟨S32x64x16, .i32⟩
  | 109 => ⟨S32x64x16, .i32⟩
  | 110 => ⟨S32x64x16, .i32⟩
  | 111 => ⟨S32x64x16, .i32⟩
  | 112 => ⟨S_, .i32⟩
  | 113 => ⟨S32x64x16, .i32⟩
  | 114 => ⟨S32x64x16, .i32⟩
  | 115 => ⟨S_, .i32⟩
  | 116 => ⟨S32x64x16, .i32⟩
  | 117 => ⟨S32x64x16, .i32⟩
  | 118 => ⟨S32x64x16, .i32⟩
  | 119 => ⟨S32x64x16, .i32⟩
  | 120 => ⟨S32x64x16, .i32⟩
  | 121 => ⟨S32x64x16, .i32⟩
  | 122 => ⟨S32x64x16, .i32⟩
  | 123 => ⟨S32x64x16, .i32⟩
  | 124 => ⟨S_, .i32⟩
  | 125 => ⟨S32x64x16, .i32⟩
  | 126 => ⟨S32x64x16, .i32⟩
  | 127 => ⟨S32x64x16, .i32⟩
  | _ => ⟨S32x64x16, .f32⟩

abbrev hbmTy0_8 (i : Nat) : BufTy := match i % 128 with
  | 0 => ⟨S_, .i32⟩
  | 1 => ⟨S32x64x16, .i32⟩
  | 2 => ⟨S32x64x16, .i32⟩
  | 3 => ⟨S_, .i32⟩
  | 4 => ⟨S32x64x16, .i32⟩
  | 5 => ⟨S32x64x16, .i32⟩
  | 6 => ⟨S32x64x16, .i32⟩
  | 7 => ⟨S32x64x16, .i32⟩
  | 8 => ⟨S32x64x16, .i32⟩
  | 9 => ⟨S_, .i32⟩
  | 10 => ⟨S32x64x16, .i32⟩
  | 11 => ⟨S32x64x16, .i32⟩
  | 12 => ⟨S_, .i32⟩
  | 13 => ⟨S32x64x16, .i32⟩
  | 14 => ⟨S32x64x16, .i32⟩
  | 15 => ⟨S32x64x16, .i32⟩
  | 16 => ⟨S32x64x16, .i32⟩
  | 17 => ⟨S32x64x16, .i32⟩
  | 18 => ⟨S_, .i32⟩
  | 19 => ⟨S32x64x16, .i32⟩
  | 20 => ⟨S32x64x16, .i32⟩
  | 21 => ⟨S_, .i32⟩
  | 22 => ⟨S32x64x16, .i32⟩
  | 23 => ⟨S32x64x16, .i32⟩
  | 24 => ⟨S32x64x16, .i32⟩
  | 25 => ⟨S32x64x16, .i32⟩
  | 26 => ⟨S32x64x16, .i32⟩
  | 27 => ⟨S_, .i32⟩
  | 28 => ⟨S32x64x16, .i32⟩
  | 29 => ⟨S32x64x16, .i32⟩
  | 30 => ⟨S_, .i32⟩
  | 31 => ⟨S32x64x16, .i32⟩
  | 32 => ⟨S32x64x16, .i32⟩
  | 33 => ⟨S32x64x16, .i32⟩
  | 34 => ⟨S32x64x16, .i32⟩
  | 35 => ⟨S32x64x16, .i32⟩
  | 36 => ⟨S32x64x16, .i32⟩
  | 37 => ⟨S32x64x16, .i32⟩
  | 38 => ⟨S32x64x16, .i32⟩
  | 39 => ⟨S_, .i32⟩
  | 40 => ⟨S32x64x16, .i32⟩
  | 41 => ⟨S32x64x16, .i32⟩
  | 42 => ⟨S32x64x16, .i32⟩
  | 43 => ⟨S_, .i32⟩
  | 44 => ⟨S32x64x16, .i32⟩
  | 45 => ⟨S32x64x16, .i32⟩
  | 46 => ⟨S_, .i32⟩
  | 47 => ⟨S32x64x16, .i32⟩
  | 48 => ⟨S32x64x16, .i32⟩
  | 49 => ⟨S32x64x16, .f32⟩
  | 50 => ⟨S_, .f32⟩
  | 51 => ⟨S32x64x16, .f32⟩
  | 52 => ⟨S32x64x16, .f32⟩
  | 53 => ⟨S_, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S_, .f32⟩
  | 61 => ⟨S32x64x16, .f32⟩
  | 62 => ⟨S32x64x16, .f32⟩
  | 63 => ⟨S32x64x16, .f32⟩
  | 64 => ⟨S32x64x16, .f32⟩
  | 65 => ⟨S32x64x16, .i32⟩
  | 66 => ⟨S_, .f32⟩
  | 67 => ⟨S32x64, .f32⟩
  | 68 => ⟨S32x64x1, .f32⟩
  | 69 => ⟨S32x64x16, .f32⟩
  | 70 => ⟨S32x64x16, .i1⟩
  | 71 => ⟨S_, .i32⟩
  | 72 => ⟨S_, .i32⟩
  | 73 => ⟨S32x64x16, .i32⟩
  | 74 => ⟨S32x64x16, .i32⟩
  | 75 => ⟨S_, .i32⟩
  | 76 => ⟨S32x64, .i32⟩
  | 77 => ⟨S32x64x1, .i32⟩
  | 78 => ⟨S1x1x16, .i32⟩
  | 79 => ⟨S32x64x16, .i32⟩
  | 80 => ⟨S32x64x16, .i32⟩
  | 81 => ⟨S32x64x16, .i1⟩
  | 82 => ⟨S32x64x16, .f32⟩
  | 83 => ⟨S1, .i32⟩
  | 84 => ⟨S_, .i32⟩
  | 85 => ⟨S1, .i32⟩
  | 86 => ⟨S_, .i32⟩
  | 87 => ⟨S32x64x64x5, .i64⟩
  | 88 => ⟨S32x64x64x5, .i64⟩
  | 89 => ⟨S32x64x64x5, .i64⟩
  | 90 => ⟨S32x64x64x5, .i64⟩
  | 91 => ⟨S_, .i64⟩
  | 92 => ⟨S32x64x64x5, .i64⟩
  | 93 => ⟨S32x64x64x5, .i64⟩
  | 94 => ⟨S_, .i64⟩
  | 95 => ⟨S32x64x64x5, .i64⟩
  | 96 => ⟨S32x64x64x5, .i64⟩
  | 97 => ⟨S_, .i64⟩
  | 98 => ⟨S32x64x64x5, .i64⟩
  | 99 => ⟨S32x64x64x5, .i64⟩
  | 100 => ⟨S_, .i64⟩
  | 101 => ⟨S32x64x64x5, .i64⟩
  | 102 => ⟨S32x64x64x5, .i64⟩
  | 103 => ⟨S32x64x64x5, .i64⟩
  | 104 => ⟨S32x64x64x5, .i64⟩
  | 105 => ⟨S32x64x64x5, .i64⟩
  | 106 => ⟨S_, .i64⟩
  | 107 => ⟨S32x64x64x5, .i64⟩
  | 108 => ⟨S32x64x64x5, .i64⟩
  | 109 => ⟨S32x64x64x5, .i32⟩
  | 110 => ⟨S32x64x64x5, .i32⟩
  | 111 => ⟨S_, .i32⟩
  | 112 => ⟨S_, .i32⟩
  | 113 => ⟨S_, .i32⟩
  | 114 => ⟨S32x64x64x5, .i32⟩
  | 115 => ⟨S32x64x64x5, .i32⟩
  | 116 => ⟨S32x64x64x5, .i32⟩
  | 117 => ⟨S32x64x64x5, .i32⟩
  | 118 => ⟨S32x64x64x5, .i32⟩
  | 119 => ⟨S_, .i32⟩
  | 120 => ⟨S32x64x64x5, .i32⟩
  | 121 => ⟨S32x64x64x5, .i32⟩
  | 122 => ⟨S_, .i32⟩
  | 123 => ⟨S32x64x64x5, .i32⟩
  | 124 => ⟨S32x64x64x5, .i32⟩
  | 125 => ⟨S32x64x64x5, .i32⟩
  | 126 => ⟨S32x64x64x5, .i32⟩
  | 127 => ⟨S32x64x64x5, .i32⟩
  | _ => ⟨S32x64x16, .f32⟩

abbrev hbmTy0_9 (i : Nat) : BufTy := match i % 128 with
  | 0 => ⟨S_, .i32⟩
  | 1 => ⟨S32x64x64x5, .i32⟩
  | 2 => ⟨S32x64x64x5, .i32⟩
  | 3 => ⟨S_, .i32⟩
  | 4 => ⟨S32x64x64x5, .i32⟩
  | 5 => ⟨S32x64x64x5, .i32⟩
  | 6 => ⟨S32x64x64x5, .i32⟩
  | 7 => ⟨S32x64x64x5, .i32⟩
  | 8 => ⟨S32x64x64x5, .i32⟩
  | 9 => ⟨S_, .i32⟩
  | 10 => ⟨S32x64x64x5, .i32⟩
  | 11 => ⟨S32x64x64x5, .i32⟩
  | 12 => ⟨S_, .i32⟩
  | 13 => ⟨S32x64x64x5, .i32⟩
  | 14 => ⟨S32x64x64x5, .i32⟩
  | 15 => ⟨S32x64x64x5, .i32⟩
  | 16 => ⟨S32x64x64x5, .i32⟩
  | 17 => ⟨S32x64x64x5, .i32⟩
  | 18 => ⟨S_, .i32⟩
  | 19 => ⟨S32x64x64x5, .i32⟩
  | 20 => ⟨S32x64x64x5, .i32⟩
  | 21 => ⟨S_, .i32⟩
  | 22 => ⟨S32x64x64x5, .i32⟩
  | 23 => ⟨S32x64x64x5, .i32⟩
  | 24 => ⟨S32x64x64x5, .i32⟩
  | 25 => ⟨S32x64x64x5, .i32⟩
  | 26 => ⟨S32x64x64x5, .i32⟩
  | 27 => ⟨S32x64x64x5, .i32⟩
  | 28 => ⟨S32x64x64x5, .i32⟩
  | 29 => ⟨S32x64x64x5, .i32⟩
  | 30 => ⟨S_, .i32⟩
  | 31 => ⟨S32x64x64x5, .i32⟩
  | 32 => ⟨S32x64x64x5, .i32⟩
  | 33 => ⟨S32x64x64x5, .i32⟩
  | 34 => ⟨S_, .i32⟩
  | 35 => ⟨S32x64x64x5, .i32⟩
  | 36 => ⟨S32x64x64x5, .i32⟩
  | 37 => ⟨S_, .i32⟩
  | 38 => ⟨S32x64x64x5, .i32⟩
  | 39 => ⟨S32x64x64x5, .i32⟩
  | 40 => ⟨S32x64x64x5, .i32⟩
  | 41 => ⟨S32x64x64x5, .i32⟩
  | 42 => ⟨S32x64x64x5, .i32⟩
  | 43 => ⟨S_, .i32⟩
  | 44 => ⟨S32x64x64x5, .i32⟩
  | 45 => ⟨S32x64x64x5, .i32⟩
  | 46 => ⟨S_, .i32⟩
  | 47 => ⟨S32x64x64x5, .i32⟩
  | 48 => ⟨S32x64x64x5, .i32⟩
  | 49 => ⟨S32x64x64x5, .i32⟩
  | 50 => ⟨S32x64x64x5, .i32⟩
  | 51 => ⟨S32x64x64x5, .i32⟩
  | 52 => ⟨S_, .i32⟩
  | 53 => ⟨S32x64x64x5, .i32⟩
  | 54 => ⟨S32x64x64x5, .i32⟩
  | 55 => ⟨S_, .i32⟩
  | 56 => ⟨S32x64x64x5, .i32⟩
  | 57 => ⟨S32x64x64x5, .i32⟩
  | 58 => ⟨S32x64x64x5, .i32⟩
  | 59 => ⟨S32x64x64x5, .i32⟩
  | 60 => ⟨S32x64x64x5, .i32⟩
  | 61 => ⟨S_, .i32⟩
  | 62 => ⟨S32x64x64x5, .i32⟩
  | 63 => ⟨S32x64x64x5, .i32⟩
  | 64 => ⟨S_, .i32⟩
  | 65 => ⟨S32x64x64x5, .i32⟩
  | 66 => ⟨S32x64x64x5, .i32⟩
  | 67 => ⟨S32x64x64x5, .i32⟩
  | 68 => ⟨S32x64x64x5, .i32⟩
  | 69 => ⟨S32x64x64x5, .i32⟩
  | 70 => ⟨S32x64x64x5, .i32⟩
  | 71 => ⟨S32x64x64x5, .i32⟩
  | 72 => ⟨S32x64x64x5, .i32⟩
  | 73 => ⟨S_, .i32⟩
  | 74 => ⟨S32x64x64x5, .i32⟩
  | 75 => ⟨S32x64x64x5, .i32⟩
  | 76 => ⟨S32x64x64x5, .i32⟩
  | 77 => ⟨S_, .i32⟩
  | 78 => ⟨S32x64x64x5, .i32⟩
  | 79 => ⟨S32x64x64x5, .i32⟩
  | 80 => ⟨S_, .i32⟩
  | 81 => ⟨S32x64x64x5, .i32⟩
  | 82 => ⟨S32x64x64x5, .i32⟩
  | 83 => ⟨S32x64x64x5, .i32⟩
  | 84 => ⟨S32x64x64x5, .i32⟩
  | 85 => ⟨S32x64x64x5, .i32⟩
  | 86 => ⟨S_, .i32⟩
  | 87 => ⟨S32x64x64x5, .i32⟩
  | 88 => ⟨S32x64x64x5, .i32⟩
  | 89 => ⟨S_, .i32⟩
  | 90 => ⟨S32x64x64x5, .i32⟩
  | 91 => ⟨S32x64x64x5, .i32⟩
  | 92 => ⟨S32x64x64x5, .i32⟩
  | 93 => ⟨S32x64x64x5, .i32⟩
  | 94 => ⟨S32x64x64x5, .i32⟩
  | 95 => ⟨S_, .i32⟩
  | 96 => ⟨S32x64x64x5, .i32⟩
  | 97 => ⟨S32x64x64x5, .i32⟩
  | 98 => ⟨S_, .i32⟩
  | 99 => ⟨S32x64x64x5, .i32⟩
  | 100 => ⟨S32x64x64x5, .i32⟩
  | 101 => ⟨S32x64x64x5, .i32⟩
  | 102 => ⟨S32x64x64x5, .i32⟩
  | 103 => ⟨S32x64x64x5, .i32⟩
  | 104 => ⟨S_, .i32⟩
  | 105 => ⟨S32x64x64x5, .i32⟩
  | 106 => ⟨S32x64x64x5, .i32⟩
  | 107 => ⟨S_, .i32⟩
  | 108 => ⟨S32x64x64x5, .i32⟩
  | 109 => ⟨S32x64x64x5, .i32⟩
  | 110 => ⟨S32x64x64x5, .i32⟩
  | 111 => ⟨S32x64x64x5, .i32⟩
  | 112 => ⟨S32x64x64x5, .i32⟩
  | 113 => ⟨S32x64x64x5, .i32⟩
  | 114 => ⟨S32x64x64x5, .i32⟩
  | 115 => ⟨S32x64x64x5, .i32⟩
  | 116 => ⟨S_, .i32⟩
  | 117 => ⟨S32x64x64x5, .i32⟩
  | 118 => ⟨S32x64x64x5, .i32⟩
  | 119 => ⟨S32x64x64x5, .i32⟩
  | 120 => ⟨S_, .i32⟩
  | 121 => ⟨S32x64x64x5, .i32⟩
  | 122 => ⟨S32x64x64x5, .i32⟩
  | 123 => ⟨S_, .i32⟩
  | 124 => ⟨S32x64x64x5, .i32⟩
  | 125 => ⟨S32x64x64x5, .i32⟩
  | 126 => ⟨S32x64x64x5, .i32⟩
  | 127 => ⟨S32x64x64x5, .i32⟩
  | _ => ⟨S32x64x16, .f32⟩

abbrev hbmTy0_10 (i : Nat) : BufTy := match i % 128 with
  | 0 => ⟨S32x64x64x5, .i32⟩
  | 1 => ⟨S_, .i32⟩
  | 2 => ⟨S32x64x64x5, .i32⟩
  | 3 => ⟨S32x64x64x5, .i32⟩
  | 4 => ⟨S_, .i32⟩
  | 5 => ⟨S32x64x64x5, .i32⟩
  | 6 => ⟨S32x64x64x5, .i32⟩
  | 7 => ⟨S32x64x64x5, .i32⟩
  | 8 => ⟨S32x64x64x5, .i32⟩
  | 9 => ⟨S32x64x64x5, .i32⟩
  | 10 => ⟨S_, .i32⟩
  | 11 => ⟨S32x64x64x5, .i32⟩
  | 12 => ⟨S32x64x64x5, .i32⟩
  | 13 => ⟨S_, .i32⟩
  | 14 => ⟨S32x64x64x5, .i32⟩
  | 15 => ⟨S32x64x64x5, .i32⟩
  | 16 => ⟨S32x64x64x5, .i32⟩
  | 17 => ⟨S32x64x64x5, .i32⟩
  | 18 => ⟨S32x64x64x5, .i32⟩
  | 19 => ⟨S_, .i32⟩
  | 20 => ⟨S32x64x64x5, .i32⟩
  | 21 => ⟨S32x64x64x5, .i32⟩
  | 22 => ⟨S_, .i32⟩
  | 23 => ⟨S32x64x64x5, .i32⟩
  | 24 => ⟨S32x64x64x5, .i32⟩
  | 25 => ⟨S32x64x64x5, .i32⟩
  | 26 => ⟨S32x64x64x5, .i32⟩
  | 27 => ⟨S32x64x64x5, .i32⟩
  | 28 => ⟨S32x64x64x5, .i32⟩
  | 29 => ⟨S32x64x64x5, .i32⟩
  | 30 => ⟨S32x64x64x5, .i32⟩
  | 31 => ⟨S_, .i32⟩
  | 32 => ⟨S32x64x64x5, .i32⟩
  | 33 => ⟨S32x64x64x5, .i32⟩
  | 34 => ⟨S32x64x64x5, .i32⟩
  | 35 => ⟨S_, .i32⟩
  | 36 => ⟨S32x64x64x5, .i32⟩
  | 37 => ⟨S32x64x64x5, .i32⟩
  | 38 => ⟨S_, .i32⟩
  | 39 => ⟨S32x64x64x5, .i32⟩
  | 40 => ⟨S32x64x64x5, .i32⟩
  | 41 => ⟨S32x64x64x5, .i32⟩
  | 42 => ⟨S32x64x64x5, .i32⟩
  | 43 => ⟨S32x64x64x5, .i32⟩
  | 44 => ⟨S_, .i32⟩
  | 45 => ⟨S32x64x64x5, .i32⟩
  | 46 => ⟨S32x64x64x5, .i32⟩
  | 47 => ⟨S_, .i32⟩
  | 48 => ⟨S32x64x64x5, .i32⟩
  | 49 => ⟨S32x64x64x5, .i32⟩
  | 50 => ⟨S32x64x64x5, .i32⟩
  | 51 => ⟨S32x64x64x5, .i32⟩
  | 52 => ⟨S32x64x64x5, .i32⟩
  | 53 => ⟨S_, .i32⟩
  | 54 => ⟨S32x64x64x5, .i32⟩
  | 55 => ⟨S32x64x64x5, .i32⟩
  | 56 => ⟨S_, .i32⟩
  | 57 => ⟨S32x64x64x5, .i32⟩
  | 58 => ⟨S32x64x64x5, .i32⟩
  | 59 => ⟨S32x64x64x5, .i32⟩
  | 60 => ⟨S32x64x64x5, .i32⟩
  | 61 => ⟨S32x64x64x5, .i32⟩
  | 62 => ⟨S_, .i32⟩
  | 63 => ⟨S32x64x64x5, .i32⟩
  | 64 => ⟨S32x64x64x5, .i32⟩
  | 65 => ⟨S_, .i32⟩
  | 66 => ⟨S32x64x64x5, .i32⟩
  | 67 => ⟨S32x64x64x5, .i32⟩
  | 68 => ⟨S32x64x64x5, .i32⟩
  | 69 => ⟨S32x64x64x5, .i32⟩
  | 70 => ⟨S32x64x64x5, .i32⟩
  | 71 => ⟨S32x64x64x5, .i32⟩
  | 72 => ⟨S32x64x64x5, .i32⟩
  | 73 => ⟨S32x64x64x5, .i32⟩
  | 74 => ⟨S_, .i32⟩
  | 75 => ⟨S32x64x64x5, .i32⟩
  | 76 => ⟨S32x64x64x5, .i32⟩
  | 77 => ⟨S32x64x64x5, .i32⟩
  | 78 => ⟨S_, .i32⟩
  | 79 => ⟨S32x64x64x5, .i32⟩
  | 80 => ⟨S32x64x64x5, .i32⟩
  | 81 => ⟨S_, .i32⟩
  | 82 => ⟨S32x64x64x5, .i32⟩
  | 83 => ⟨S32x64x64x5, .i32⟩
  | 84 => ⟨S32x64x64x5, .f32⟩
  | 85 => ⟨S_, .f32⟩
  | 86 => ⟨S32x64x64x5, .f32⟩
  | 87 => ⟨S32x64x64x5, .f32⟩
  | 88 => ⟨S_, .f32⟩
  | 89 => ⟨S32x64x64x5, .f32⟩
  | 90 => ⟨S32x64x64x5, .f32⟩
  | 91 => ⟨S32x64x64x5, .f32⟩
  | 92 => ⟨S32x64x64x5, .f32⟩
  | 93 => ⟨S32x64x64x5, .f32⟩
  | 94 => ⟨S32x64x64x5, .f32⟩
  | 95 => ⟨S_, .f32⟩
  | 96 => ⟨S32x64x64x5, .f32⟩
  | 97 => ⟨S32x64x64x5, .f32⟩
  | 98 => ⟨S32x64x64x5, .f32⟩
  | 99 => ⟨S32x64x64x5, .f32⟩
  | 100 => ⟨S32x64x64x5, .i32⟩
  | 101 => ⟨S_, .f32⟩
  | 102 => ⟨S32x64x64, .f32⟩
  | 103 => ⟨S32x64x64x1, .f32⟩
  | 104 => ⟨S32x64x64x5, .f32⟩
  | 105 => ⟨S32x64x64x5, .i1⟩
  | 106 => ⟨S_, .i32⟩
  | 107 => ⟨S_, .i32⟩
  | 108 => ⟨S32x64x64x5, .i32⟩
  | 109 => ⟨S32x64x64x5, .i32⟩
  | 110 => ⟨S_, .i32⟩
  | 111 => ⟨S32x64x64, .i32⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i1⟩
  | 118 => ⟨S32x64x64, .i1⟩
  | 119 => ⟨S_, .i32⟩
  | 120 => ⟨S32x64x64, .i32⟩
  | 121 => ⟨S32x64x64, .i32⟩
  | 122 => ⟨S32x64x64, .i32⟩
  | 123 => ⟨S32x64x64, .i32⟩
  | 124 => ⟨S32x64x64x1, .i32⟩
  | 125 => ⟨S1x1x1x5, .i32⟩
  | 126 => ⟨S32x64x64x5, .i32⟩
  | 127 => ⟨S32x64x64x5, .i32⟩
  | _ => ⟨S32x64x16, .f32⟩

abbrev hbmTy0_11 (i : Nat) : BufTy := match i % 128 with
  | 0 => ⟨S32x64x64x5, .i1⟩
  | 1 => ⟨S32x64x64x5, .f32⟩
  | 2 => ⟨S32x64x1, .i1⟩
  | 3 => ⟨S32x64x1, .f32⟩
  | 4 => ⟨S32x64x1x1, .i1⟩
  | 5 => ⟨S32x64x1x1, .f32⟩
  | 6 => ⟨S32x1x64x1, .i1⟩
  | 7 => ⟨S32x1x64x1, .f32⟩
  | 8 => ⟨S32x64x16, .f32⟩
  | 9 => ⟨S32x64x16, .f32⟩
  | 10 => ⟨S32x64x64x5, .f32⟩
  | 11 => ⟨S32x64x64x5, .f32⟩
  | 12 => ⟨S32x64x64x5, .f32⟩
  | 13 => ⟨S32x64x64x5, .f32⟩
  | 14 => ⟨S1x32x64x16, .f32⟩
  | 15 => ⟨S_, .i32⟩
  | 16 => ⟨S_, .i32⟩
  | 17 => ⟨S_, .i32⟩
  | 18 => ⟨S50x32x64x16, .f32⟩
  | 19 => ⟨S1x32x64x64x5, .f32⟩
  | 20 => ⟨S_, .i32⟩
  | 21 => ⟨S_, .i32⟩
  | 22 => ⟨S_, .i32⟩
  | 23 => ⟨S_, .i32⟩
  | 24 => ⟨S50x32x64x64x5, .f32⟩
  | 25 => ⟨S1x32x64x16, .f32⟩
  | 26 => ⟨S_, .i32⟩
  | 27 => ⟨S_, .i32⟩
  | 28 => ⟨S_, .i32⟩
  | 29 => ⟨S50x32x64x16, .f32⟩
  | 30 => ⟨S1x32x64x64x5, .f32⟩
  | 31 => ⟨S_, .i32⟩
  | 32 => ⟨S_, .i32⟩
  | 33 => ⟨S_, .i32⟩
  | 34 => ⟨S_, .i32⟩
  | 35 => ⟨S50x32x64x64x5, .f32⟩
  | 36 => ⟨S_, .i32⟩
  | 37 => ⟨S_, .i32⟩
  | 38 => ⟨S_, .f32⟩
  | 39 => ⟨S_, .f32⟩
  | 40 => ⟨S50, .f32⟩
  | 41 => ⟨S1x50x1, .f32⟩
  | 42 => ⟨S32x50x1, .f32⟩
  | 43 => ⟨S1x50x1, .f32⟩
  | 44 => ⟨S32x50x1, .f32⟩
  | 45 => ⟨S32x50x64x16, .f32⟩
  | 46 => ⟨S32x50x64x64x5, .f32⟩
  | 47 => ⟨S32x50x64x16, .f32⟩
  | 48 => ⟨S32x50x64x64x5, .f32⟩
  | _ => ⟨S32x64x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S32x64x16, .f32⟩

abbrev bufTy : (tb : Table) → Fin (tcTables nBuf tb) → BufTy
  | .hbm, ⟨i, _⟩ => hbmTy i
  | _, _ => ⟨S32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_c_5 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev main_v38_5 : Ref sig .tc := ⟨.hbm, 57, rfl⟩
abbrev main_v38_6 : Ref sig .tc := ⟨.hbm, 58, rfl⟩
abbrev main_v38_7 : Ref sig .tc := ⟨.hbm, 59, rfl⟩
abbrev main_v38_8 : Ref sig .tc := ⟨.hbm, 60, rfl⟩
abbrev main_v38_9 : Ref sig .tc := ⟨.hbm, 61, rfl⟩
abbrev main_v38_10 : Ref sig .tc := ⟨.hbm, 62, rfl⟩
abbrev main_v38_11 : Ref sig .tc := ⟨.hbm, 63, rfl⟩
abbrev main_v38_12 : Ref sig .tc := ⟨.hbm, 64, rfl⟩
abbrev main_while0c_c_18 : Ref sig .tc := ⟨.hbm, 65, rfl⟩
abbrev main_while0c_v48 : Ref sig .tc := ⟨.hbm, 66, rfl⟩
abbrev main_while0b_call0_v0 : Ref sig .tc := ⟨.hbm, 67, rfl⟩
abbrev main_while0b_v48 : Ref sig .tc := ⟨.hbm, 68, rfl⟩
abbrev main_while0b_call1_v0 : Ref sig .tc := ⟨.hbm, 69, rfl⟩
abbrev main_while0b_v49 : Ref sig .tc := ⟨.hbm, 70, rfl⟩
abbrev main_while0b_cst_18 : Ref sig .tc := ⟨.hbm, 71, rfl⟩
abbrev main_while0b_v50 : Ref sig .tc := ⟨.hbm, 72, rfl⟩
abbrev main_while0b_v51 : Ref sig .tc := ⟨.hbm, 73, rfl⟩
abbrev main_while0b_v52 : Ref sig .tc := ⟨.hbm, 74, rfl⟩
abbrev main_while0b_v53 : Ref sig .tc := ⟨.hbm, 75, rfl⟩
abbrev main_while0b_v54 : Ref sig .tc := ⟨.hbm, 76, rfl⟩
abbrev main_while0b_v55 : Ref sig .tc := ⟨.hbm, 77, rfl⟩
abbrev main_while0b_cst_19 : Ref sig .tc := ⟨.hbm, 78, rfl⟩
abbrev main_while0b_cst_20 : Ref sig .tc := ⟨.hbm, 79, rfl⟩
abbrev main_while0b_call2_v0 : Ref sig .tc := ⟨.hbm, 80, rfl⟩
abbrev main_while0b_call2_v1 : Ref sig .tc := ⟨.hbm, 81, rfl⟩
abbrev main_while0b_call2_v2 : Ref sig .tc := ⟨.hbm, 82, rfl⟩
abbrev main_while0b_call2_v3 : Ref sig .tc := ⟨.hbm, 83, rfl⟩
abbrev main_while0b_call2_v4 : Ref sig .tc := ⟨.hbm, 84, rfl⟩
abbrev main_while0b_v56 : Ref sig .tc := ⟨.hbm, 85, rfl⟩
abbrev main_while0b_cst_21 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_cst_22 : Ref sig .tc := ⟨.hbm, 93, rfl⟩
abbrev main_while0b_cst_23 : Ref sig .tc := ⟨.hbm, 94, rfl⟩
abbrev main_while0b_call3_v0 : Ref sig .tc := ⟨.hbm, 95, rfl⟩
abbrev main_while0b_call3_v1 : Ref sig .tc := ⟨.hbm, 96, rfl⟩
abbrev main_while0b_call3_v2 : Ref sig .tc := ⟨.hbm, 97, rfl⟩
abbrev main_while0b_call3_v3 : Ref sig .tc := ⟨.hbm, 98, rfl⟩
abbrev main_while0b_call3_v4 : Ref sig .tc := ⟨.hbm, 99, rfl⟩
abbrev main_while0b_v63 : Ref sig .tc := ⟨.hbm, 100, rfl⟩
abbrev main_while0b_v64 : Ref sig .tc := ⟨.hbm, 101, rfl⟩
abbrev main_while0b_c_24 : Ref sig .tc := ⟨.hbm, 102, rfl⟩
abbrev main_while0b_v65 : Ref sig .tc := ⟨.hbm, 103, rfl⟩
abbrev main_while0b_v66 : Ref sig .tc := ⟨.hbm, 104, rfl⟩
abbrev main_while0b_v67 : Ref sig .tc := ⟨.hbm, 105, rfl⟩
abbrev main_while0b_v68 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_call4_v0 : Ref sig .tc := ⟨.hbm, 112, rfl⟩
abbrev main_while0b_call4_c : Ref sig .tc := ⟨.hbm, 113, rfl⟩
abbrev main_while0b_call4_v1 : Ref sig .tc := ⟨.hbm, 114, rfl⟩
abbrev main_while0b_call4_v2 : Ref sig .tc := ⟨.hbm, 115, rfl⟩
abbrev main_while0b_call4_v3 : Ref sig .tc := ⟨.hbm, 116, rfl⟩
abbrev main_while0b_call4_v4 : Ref sig .tc := ⟨.hbm, 117, rfl⟩
abbrev main_while0b_call4_v5 : Ref sig .tc := ⟨.hbm, 118, rfl⟩
abbrev main_while0b_call4_v6 : Ref sig .tc := ⟨.hbm, 119, rfl⟩
abbrev main_while0b_call4_c_0 : Ref sig .tc := ⟨.hbm, 120, rfl⟩
abbrev main_while0b_call4_v7 : Ref sig .tc := ⟨.hbm, 121, rfl⟩
abbrev main_while0b_call4_v8 : Ref sig .tc := ⟨.hbm, 122, rfl⟩
abbrev main_while0b_call4_c_1 : Ref sig .tc := ⟨.hbm, 123, rfl⟩
abbrev main_while0b_call4_v9 : Ref sig .tc := ⟨.hbm, 124, rfl⟩
abbrev main_while0b_call4_v10 : Ref sig .tc := ⟨.hbm, 125, rfl⟩
abbrev main_while0b_call4_v11 : Ref sig .tc := ⟨.hbm, 126, rfl⟩
abbrev main_while0b_call4_v12 : Ref sig .tc := ⟨.hbm, 127, rfl⟩
abbrev main_while0b_call4_v13 : Ref sig .tc := ⟨.hbm, 128, rfl⟩
abbrev main_while0b_call4_c_2 : Ref sig .tc := ⟨.hbm, 129, rfl⟩
abbrev main_while0b_call4_v14 : Ref sig .tc := ⟨.hbm, 130, rfl⟩
abbrev main_while0b_call4_v15 : Ref sig .tc := ⟨.hbm, 131, rfl⟩
abbrev main_while0b_call4_c_3 : Ref sig .tc := ⟨.hbm, 132, rfl⟩
abbrev main_while0b_call4_v16 : Ref sig .tc := ⟨.hbm, 133, rfl⟩
abbrev main_while0b_call4_v17 : Ref sig .tc := ⟨.hbm, 134, rfl⟩
abbrev main_while0b_call4_v18 : Ref sig .tc := ⟨.hbm, 135, rfl⟩
abbrev main_while0b_call4_v19 : Ref sig .tc := ⟨.hbm, 136, rfl⟩
abbrev main_while0b_call4_v20 : Ref sig .tc := ⟨.hbm, 137, rfl⟩
abbrev main_while0b_call4_c_4 : Ref sig .tc := ⟨.hbm, 138, rfl⟩
abbrev main_while0b_call4_v21 : Ref sig .tc := ⟨.hbm, 139, rfl⟩
abbrev main_while0b_call4_v22 : Ref sig .tc := ⟨.hbm, 140, rfl⟩
abbrev main_while0b_call4_c_5 : Ref sig .tc := ⟨.hbm, 141, rfl⟩
abbrev main_while0b_call4_v23 : Ref sig .tc := ⟨.hbm, 142, rfl⟩
abbrev main_while0b_call4_v24 : Ref sig .tc := ⟨.hbm, 143, rfl⟩
abbrev main_while0b_call4_v25 : Ref sig .tc := ⟨.hbm, 144, rfl⟩
abbrev main_while0b_call4_v26 : Ref sig .tc := ⟨.hbm, 145, rfl⟩
abbrev main_while0b_call4_v27 : Ref sig .tc := ⟨.hbm, 146, rfl⟩
abbrev main_while0b_call4_c_6 : Ref sig .tc := ⟨.hbm, 147, rfl⟩
abbrev main_while0b_call4_v28 : Ref sig .tc := ⟨.hbm, 148, rfl⟩
abbrev main_while0b_call4_v29 : Ref sig .tc := ⟨.hbm, 149, rfl⟩
abbrev main_while0b_call4_c_7 : Ref sig .tc := ⟨.hbm, 150, rfl⟩
abbrev main_while0b_call4_v30 : Ref sig .tc := ⟨.hbm, 151, rfl⟩
abbrev main_while0b_call4_v31 : Ref sig .tc := ⟨.hbm, 152, rfl⟩
abbrev main_while0b_call4_v32 : Ref sig .tc := ⟨.hbm, 153, rfl⟩
abbrev main_while0b_call4_v33 : Ref sig .tc := ⟨.hbm, 154, rfl⟩
abbrev main_while0b_call4_v34 : Ref sig .tc := ⟨.hbm, 155, rfl⟩
abbrev main_while0b_call4_v35 : Ref sig .tc := ⟨.hbm, 156, rfl⟩
abbrev main_while0b_call4_v36 : Ref sig .tc := ⟨.hbm, 157, rfl⟩
abbrev main_while0b_call4_v37 : Ref sig .tc := ⟨.hbm, 158, rfl⟩
abbrev main_while0b_call4_c_8 : Ref sig .tc := ⟨.hbm, 159, rfl⟩
abbrev main_while0b_call4_v38 : Ref sig .tc := ⟨.hbm, 160, rfl⟩
abbrev main_while0b_call4_v39 : Ref sig .tc := ⟨.hbm, 161, rfl⟩
abbrev main_while0b_call4_v40 : Ref sig .tc := ⟨.hbm, 162, rfl⟩
abbrev main_while0b_call4_c_9 : Ref sig .tc := ⟨.hbm, 163, rfl⟩
abbrev main_while0b_call4_v41 : Ref sig .tc := ⟨.hbm, 164, rfl⟩
abbrev main_while0b_call4_v42 : Ref sig .tc := ⟨.hbm, 165, rfl⟩
abbrev main_while0b_call4_c_10 : Ref sig .tc := ⟨.hbm, 166, rfl⟩
abbrev main_while0b_call4_v43 : Ref sig .tc := ⟨.hbm, 167, rfl⟩
abbrev main_while0b_call4_v44 : Ref sig .tc := ⟨.hbm, 168, rfl⟩
abbrev main_while0b_call4_v45 : Ref sig .tc := ⟨.hbm, 169, rfl⟩
abbrev main_while0b_call4_v46 : Ref sig .tc := ⟨.hbm, 170, rfl⟩
abbrev main_while0b_call4_v47 : Ref sig .tc := ⟨.hbm, 171, rfl⟩
abbrev main_while0b_call4_c_11 : Ref sig .tc := ⟨.hbm, 172, rfl⟩
abbrev main_while0b_call4_v48 : Ref sig .tc := ⟨.hbm, 173, rfl⟩
abbrev main_while0b_call4_v49 : Ref sig .tc := ⟨.hbm, 174, rfl⟩
abbrev main_while0b_call4_c_12 : Ref sig .tc := ⟨.hbm, 175, rfl⟩
abbrev main_while0b_call4_v50 : Ref sig .tc := ⟨.hbm, 176, rfl⟩
abbrev main_while0b_call4_v51 : Ref sig .tc := ⟨.hbm, 177, rfl⟩
abbrev main_while0b_call4_v52 : Ref sig .tc := ⟨.hbm, 178, rfl⟩
abbrev main_while0b_call4_v53 : Ref sig .tc := ⟨.hbm, 179, rfl⟩
abbrev main_while0b_call4_v54 : Ref sig .tc := ⟨.hbm, 180, rfl⟩
abbrev main_while0b_call4_c_13 : Ref sig .tc := ⟨.hbm, 181, rfl⟩
abbrev main_while0b_call4_v55 : Ref sig .tc := ⟨.hbm, 182, rfl⟩
abbrev main_while0b_call4_v56 : Ref sig .tc := ⟨.hbm, 183, rfl⟩
abbrev main_while0b_call4_c_14 : Ref sig .tc := ⟨.hbm, 184, rfl⟩
abbrev main_while0b_call4_v57 : Ref sig .tc := ⟨.hbm, 185, rfl⟩
abbrev main_while0b_call4_v58 : Ref sig .tc := ⟨.hbm, 186, rfl⟩
abbrev main_while0b_call4_v59 : Ref sig .tc := ⟨.hbm, 187, rfl⟩
abbrev main_while0b_call4_v60 : Ref sig .tc := ⟨.hbm, 188, rfl⟩
abbrev main_while0b_call4_v61 : Ref sig .tc := ⟨.hbm, 189, rfl⟩
abbrev main_while0b_call4_c_15 : Ref sig .tc := ⟨.hbm, 190, rfl⟩
abbrev main_while0b_call4_v62 : Ref sig .tc := ⟨.hbm, 191, rfl⟩
abbrev main_while0b_call4_v63 : Ref sig .tc := ⟨.hbm, 192, rfl⟩
abbrev main_while0b_call4_c_16 : Ref sig .tc := ⟨.hbm, 193, rfl⟩
abbrev main_while0b_call4_v64 : Ref sig .tc := ⟨.hbm, 194, rfl⟩
abbrev main_while0b_call4_v65 : Ref sig .tc := ⟨.hbm, 195, rfl⟩
abbrev main_while0b_call4_v66 : Ref sig .tc := ⟨.hbm, 196, rfl⟩
abbrev main_while0b_call4_v67 : Ref sig .tc := ⟨.hbm, 197, rfl⟩
abbrev main_while0b_call4_v68 : Ref sig .tc := ⟨.hbm, 198, rfl⟩
abbrev main_while0b_call4_v69 : Ref sig .tc := ⟨.hbm, 199, rfl⟩
abbrev main_while0b_call4_v70 : Ref sig .tc := ⟨.hbm, 200, rfl⟩
abbrev main_while0b_call4_v71 : Ref sig .tc := ⟨.hbm, 201, rfl⟩
abbrev main_while0b_call4_c_17 : Ref sig .tc := ⟨.hbm, 202, rfl⟩
abbrev main_while0b_call4_v72 : Ref sig .tc := ⟨.hbm, 203, rfl⟩
abbrev main_while0b_call4_v73 : Ref sig .tc := ⟨.hbm, 204, rfl⟩
abbrev main_while0b_call4_v74 : Ref sig .tc := ⟨.hbm, 205, rfl⟩
abbrev main_while0b_call4_c_18 : Ref sig .tc := ⟨.hbm, 206, rfl⟩
abbrev main_while0b_call4_v75 : Ref sig .tc := ⟨.hbm, 207, rfl⟩
abbrev main_while0b_call4_v76 : Ref sig .tc := ⟨.hbm, 208, rfl⟩
abbrev main_while0b_call4_c_19 : Ref sig .tc := ⟨.hbm, 209, rfl⟩
abbrev main_while0b_call4_v77 : Ref sig .tc := ⟨.hbm, 210, rfl⟩
abbrev main_while0b_call4_v78 : Ref sig .tc := ⟨.hbm, 211, rfl⟩
abbrev main_while0b_call4_v79 : Ref sig .tc := ⟨.hbm, 212, rfl⟩
abbrev main_while0b_call4_v80 : Ref sig .tc := ⟨.hbm, 213, rfl⟩
abbrev main_while0b_call4_v81 : Ref sig .tc := ⟨.hbm, 214, rfl⟩
abbrev main_while0b_call4_c_20 : Ref sig .tc := ⟨.hbm, 215, rfl⟩
abbrev main_while0b_call4_v82 : Ref sig .tc := ⟨.hbm, 216, rfl⟩
abbrev main_while0b_call4_v83 : Ref sig .tc := ⟨.hbm, 217, rfl⟩
abbrev main_while0b_call4_c_21 : Ref sig .tc := ⟨.hbm, 218, rfl⟩
abbrev main_while0b_call4_v84 : Ref sig .tc := ⟨.hbm, 219, rfl⟩
abbrev main_while0b_call4_v85 : Ref sig .tc := ⟨.hbm, 220, rfl⟩
abbrev main_while0b_call4_v86 : Ref sig .tc := ⟨.hbm, 221, rfl⟩
abbrev main_while0b_call4_v87 : Ref sig .tc := ⟨.hbm, 222, rfl⟩
abbrev main_while0b_call4_v88 : Ref sig .tc := ⟨.hbm, 223, rfl⟩
abbrev main_while0b_call4_c_22 : Ref sig .tc := ⟨.hbm, 224, rfl⟩
abbrev main_while0b_call4_v89 : Ref sig .tc := ⟨.hbm, 225, rfl⟩
abbrev main_while0b_call4_v90 : Ref sig .tc := ⟨.hbm, 226, rfl⟩
abbrev main_while0b_call4_c_23 : Ref sig .tc := ⟨.hbm, 227, rfl⟩
abbrev main_while0b_call4_v91 : Ref sig .tc := ⟨.hbm, 228, rfl⟩
abbrev main_while0b_call4_v92 : Ref sig .tc := ⟨.hbm, 229, rfl⟩
abbrev main_while0b_call4_v93 : Ref sig .tc := ⟨.hbm, 230, rfl⟩
abbrev main_while0b_call4_v94 : Ref sig .tc := ⟨.hbm, 231, rfl⟩
abbrev main_while0b_call4_v95 : Ref sig .tc := ⟨.hbm, 232, rfl⟩
abbrev main_while0b_call4_c_24 : Ref sig .tc := ⟨.hbm, 233, rfl⟩
abbrev main_while0b_call4_v96 : Ref sig .tc := ⟨.hbm, 234, rfl⟩
abbrev main_while0b_call4_v97 : Ref sig .tc := ⟨.hbm, 235, rfl⟩
abbrev main_while0b_call4_c_25 : Ref sig .tc := ⟨.hbm, 236, rfl⟩
abbrev main_while0b_call4_v98 : Ref sig .tc := ⟨.hbm, 237, rfl⟩
abbrev main_while0b_call4_v99 : Ref sig .tc := ⟨.hbm, 238, rfl⟩
abbrev main_while0b_call4_v100 : Ref sig .tc := ⟨.hbm, 239, rfl⟩
abbrev main_while0b_call4_v101 : Ref sig .tc := ⟨.hbm, 240, rfl⟩
abbrev main_while0b_call4_v102 : Ref sig .tc := ⟨.hbm, 241, rfl⟩
abbrev main_while0b_call4_v103 : Ref sig .tc := ⟨.hbm, 242, rfl⟩
abbrev main_while0b_call4_v104 : Ref sig .tc := ⟨.hbm, 243, rfl⟩
abbrev main_while0b_call4_v105 : Ref sig .tc := ⟨.hbm, 244, rfl⟩
abbrev main_while0b_call4_c_26 : Ref sig .tc := ⟨.hbm, 245, rfl⟩
abbrev main_while0b_call4_v106 : Ref sig .tc := ⟨.hbm, 246, rfl⟩
abbrev main_while0b_call4_v107 : Ref sig .tc := ⟨.hbm, 247, rfl⟩
abbrev main_while0b_call4_v108 : Ref sig .tc := ⟨.hbm, 248, rfl⟩
abbrev main_while0b_call4_c_27 : Ref sig .tc := ⟨.hbm, 249, rfl⟩
abbrev main_while0b_call4_v109 : Ref sig .tc := ⟨.hbm, 250, rfl⟩
abbrev main_while0b_call4_v110 : Ref sig .tc := ⟨.hbm, 251, rfl⟩
abbrev main_while0b_call4_c_28 : Ref sig .tc := ⟨.hbm, 252, rfl⟩
abbrev main_while0b_call4_v111 : Ref sig .tc := ⟨.hbm, 253, rfl⟩
abbrev main_while0b_call4_v112 : Ref sig .tc := ⟨.hbm, 254, rfl⟩
abbrev main_while0b_call4_v113 : Ref sig .tc := ⟨.hbm, 255, rfl⟩
abbrev main_while0b_call4_v114 : Ref sig .tc := ⟨.hbm, 256, rfl⟩
abbrev main_while0b_call4_v115 : Ref sig .tc := ⟨.hbm, 257, rfl⟩
abbrev main_while0b_call4_c_29 : Ref sig .tc := ⟨.hbm, 258, rfl⟩
abbrev main_while0b_call4_v116 : Ref sig .tc := ⟨.hbm, 259, rfl⟩
abbrev main_while0b_call4_v117 : Ref sig .tc := ⟨.hbm, 260, rfl⟩
abbrev main_while0b_call4_c_30 : Ref sig .tc := ⟨.hbm, 261, rfl⟩
abbrev main_while0b_call4_v118 : Ref sig .tc := ⟨.hbm, 262, rfl⟩
abbrev main_while0b_call4_v119 : Ref sig .tc := ⟨.hbm, 263, rfl⟩
abbrev main_while0b_call4_v120 : Ref sig .tc := ⟨.hbm, 264, rfl⟩
abbrev main_while0b_call4_v121 : Ref sig .tc := ⟨.hbm, 265, rfl⟩
abbrev main_while0b_call4_v122 : Ref sig .tc := ⟨.hbm, 266, rfl⟩
abbrev main_while0b_call4_c_31 : Ref sig .tc := ⟨.hbm, 267, rfl⟩
abbrev main_while0b_call4_v123 : Ref sig .tc := ⟨.hbm, 268, rfl⟩
abbrev main_while0b_call4_v124 : Ref sig .tc := ⟨.hbm, 269, rfl⟩
abbrev main_while0b_call4_c_32 : Ref sig .tc := ⟨.hbm, 270, rfl⟩
abbrev main_while0b_call4_v125 : Ref sig .tc := ⟨.hbm, 271, rfl⟩
abbrev main_while0b_call4_v126 : Ref sig .tc := ⟨.hbm, 272, rfl⟩
abbrev main_while0b_call4_v127 : Ref sig .tc := ⟨.hbm, 273, rfl⟩
abbrev main_while0b_call4_v128 : Ref sig .tc := ⟨.hbm, 274, rfl⟩
abbrev main_while0b_call4_v129 : Ref sig .tc := ⟨.hbm, 275, rfl⟩
abbrev main_while0b_call4_c_33 : Ref sig .tc := ⟨.hbm, 276, rfl⟩
abbrev main_while0b_call4_v130 : Ref sig .tc := ⟨.hbm, 277, rfl⟩
abbrev main_while0b_call4_v131 : Ref sig .tc := ⟨.hbm, 278, rfl⟩
abbrev main_while0b_call4_c_34 : Ref sig .tc := ⟨.hbm, 279, rfl⟩
abbrev main_while0b_call4_v132 : Ref sig .tc := ⟨.hbm, 280, rfl⟩
abbrev main_while0b_call4_v133 : Ref sig .tc := ⟨.hbm, 281, rfl⟩
abbrev main_while0b_call4_v134 : Ref sig .tc := ⟨.hbm, 282, rfl⟩
abbrev main_while0b_call4_v135 : Ref sig .tc := ⟨.hbm, 283, rfl⟩
abbrev main_while0b_call4_v136 : Ref sig .tc := ⟨.hbm, 284, rfl⟩
abbrev main_while0b_call4_v137 : Ref sig .tc := ⟨.hbm, 285, rfl⟩
abbrev main_while0b_call4_v138 : Ref sig .tc := ⟨.hbm, 286, rfl⟩
abbrev main_while0b_call4_v139 : Ref sig .tc := ⟨.hbm, 287, rfl⟩
abbrev main_while0b_call4_c_35 : Ref sig .tc := ⟨.hbm, 288, rfl⟩
abbrev main_while0b_call4_v140 : Ref sig .tc := ⟨.hbm, 289, rfl⟩
abbrev main_while0b_call4_v141 : Ref sig .tc := ⟨.hbm, 290, rfl⟩
abbrev main_while0b_call4_v142 : Ref sig .tc := ⟨.hbm, 291, rfl⟩
abbrev main_while0b_call4_c_36 : Ref sig .tc := ⟨.hbm, 292, rfl⟩
abbrev main_while0b_call4_v143 : Ref sig .tc := ⟨.hbm, 293, rfl⟩
abbrev main_while0b_call4_v144 : Ref sig .tc := ⟨.hbm, 294, rfl⟩
abbrev main_while0b_call4_c_37 : Ref sig .tc := ⟨.hbm, 295, rfl⟩
abbrev main_while0b_call4_v145 : Ref sig .tc := ⟨.hbm, 296, rfl⟩
abbrev main_while0b_call4_v146 : Ref sig .tc := ⟨.hbm, 297, rfl⟩
abbrev main_while0b_call4_v147 : Ref sig .tc := ⟨.hbm, 298, rfl⟩
abbrev main_while0b_call4_v148 : Ref sig .tc := ⟨.hbm, 299, rfl⟩
abbrev main_while0b_call4_v149 : Ref sig .tc := ⟨.hbm, 300, rfl⟩
abbrev main_while0b_call4_c_38 : Ref sig .tc := ⟨.hbm, 301, rfl⟩
abbrev main_while0b_call4_v150 : Ref sig .tc := ⟨.hbm, 302, rfl⟩
abbrev main_while0b_call4_v151 : Ref sig .tc := ⟨.hbm, 303, rfl⟩
abbrev main_while0b_call4_c_39 : Ref sig .tc := ⟨.hbm, 304, rfl⟩
abbrev main_while0b_call4_v152 : Ref sig .tc := ⟨.hbm, 305, rfl⟩
abbrev main_while0b_call4_v153 : Ref sig .tc := ⟨.hbm, 306, rfl⟩
abbrev main_while0b_call4_v154 : Ref sig .tc := ⟨.hbm, 307, rfl⟩
abbrev main_while0b_call4_v155 : Ref sig .tc := ⟨.hbm, 308, rfl⟩
abbrev main_while0b_call4_v156 : Ref sig .tc := ⟨.hbm, 309, rfl⟩
abbrev main_while0b_call4_c_40 : Ref sig .tc := ⟨.hbm, 310, rfl⟩
abbrev main_while0b_call4_v157 : Ref sig .tc := ⟨.hbm, 311, rfl⟩
abbrev main_while0b_call4_v158 : Ref sig .tc := ⟨.hbm, 312, rfl⟩
abbrev main_while0b_call4_c_41 : Ref sig .tc := ⟨.hbm, 313, rfl⟩
abbrev main_while0b_call4_v159 : Ref sig .tc := ⟨.hbm, 314, rfl⟩
abbrev main_while0b_call4_v160 : Ref sig .tc := ⟨.hbm, 315, rfl⟩
abbrev main_while0b_call4_v161 : Ref sig .tc := ⟨.hbm, 316, rfl⟩
abbrev main_while0b_call4_v162 : Ref sig .tc := ⟨.hbm, 317, rfl⟩
abbrev main_while0b_call4_v163 : Ref sig .tc := ⟨.hbm, 318, rfl⟩
abbrev main_while0b_call4_c_42 : Ref sig .tc := ⟨.hbm, 319, rfl⟩
abbrev main_while0b_call4_v164 : Ref sig .tc := ⟨.hbm, 320, rfl⟩
abbrev main_while0b_call4_v165 : Ref sig .tc := ⟨.hbm, 321, rfl⟩
abbrev main_while0b_call4_c_43 : Ref sig .tc := ⟨.hbm, 322, rfl⟩
abbrev main_while0b_call4_v166 : Ref sig .tc := ⟨.hbm, 323, rfl⟩
abbrev main_while0b_call4_v167 : Ref sig .tc := ⟨.hbm, 324, rfl⟩
abbrev main_while0b_call4_v168 : Ref sig .tc := ⟨.hbm, 325, rfl⟩
abbrev main_while0b_call4_v169 : Ref sig .tc := ⟨.hbm, 326, rfl⟩
abbrev main_while0b_call4_v170 : Ref sig .tc := ⟨.hbm, 327, rfl⟩
abbrev main_while0b_v74_0 : Ref sig .tc := ⟨.hbm, 328, rfl⟩
abbrev main_while0b_call4_v172 : Ref sig .tc := ⟨.hbm, 329, rfl⟩
abbrev main_while0b_call4_v173 : Ref sig .tc := ⟨.hbm, 330, rfl⟩
abbrev main_while0b_call4_c_44 : Ref sig .tc := ⟨.hbm, 331, rfl⟩
abbrev main_while0b_call4_v174 : Ref sig .tc := ⟨.hbm, 332, rfl⟩
abbrev main_while0b_v74_1 : Ref sig .tc := ⟨.hbm, 333, rfl⟩
abbrev main_while0b_v75 : Ref sig .tc := ⟨.hbm, 334, rfl⟩
abbrev main_while0b_c_25 : Ref sig .tc := ⟨.hbm, 335, rfl⟩
abbrev main_while0b_c_26 : Ref sig .tc := ⟨.hbm, 336, rfl⟩
abbrev main_while0b_v76 : Ref sig .tc := ⟨.hbm, 337, rfl⟩
abbrev main_while0b_v77 : Ref sig .tc := ⟨.hbm, 338, rfl⟩
abbrev main_while0b_v78 : Ref sig .tc := ⟨.hbm, 339, rfl⟩
abbrev main_while0b_v79 : Ref sig .tc := ⟨.hbm, 340, rfl⟩
abbrev main_while0b_v80 : Ref sig .tc := ⟨.hbm, 341, rfl⟩
abbrev main_while0b_v81 : Ref sig .tc := ⟨.hbm, 342, rfl⟩
abbrev main_while0b_v82 : Ref sig .tc := ⟨.hbm, 343, rfl⟩
abbrev main_while0b_v83 : Ref sig .tc := ⟨.hbm, 344, rfl⟩
abbrev main_while0b_v84 : Ref sig .tc := ⟨.hbm, 345, rfl⟩
abbrev main_while0b_call5_v0 : Ref sig .tc := ⟨.hbm, 346, rfl⟩
abbrev main_while0b_call5_c : Ref sig .tc := ⟨.hbm, 347, rfl⟩
abbrev main_while0b_call5_v1 : Ref sig .tc := ⟨.hbm, 348, rfl⟩
abbrev main_while0b_call5_v2 : Ref sig .tc := ⟨.hbm, 349, rfl⟩
abbrev main_while0b_call5_v3 : Ref sig .tc := ⟨.hbm, 350, rfl⟩
abbrev main_while0b_call5_v4 : Ref sig .tc := ⟨.hbm, 351, rfl⟩
abbrev main_while0b_call5_v5 : Ref sig .tc := ⟨.hbm, 352, rfl⟩
abbrev main_while0b_call5_v6 : Ref sig .tc := ⟨.hbm, 353, rfl⟩
abbrev main_while0b_call5_c_0 : Ref sig .tc := ⟨.hbm, 354, rfl⟩
abbrev main_while0b_call5_v7 : Ref sig .tc := ⟨.hbm, 355, rfl⟩
abbrev main_while0b_call5_v8 : Ref sig .tc := ⟨.hbm, 356, rfl⟩
abbrev main_while0b_call5_c_1 : Ref sig .tc := ⟨.hbm, 357, rfl⟩
abbrev main_while0b_call5_v9 : Ref sig .tc := ⟨.hbm, 358, rfl⟩
abbrev main_while0b_call5_v10 : Ref sig .tc := ⟨.hbm, 359, rfl⟩
abbrev main_while0b_call5_v11 : Ref sig .tc := ⟨.hbm, 360, rfl⟩
abbrev main_while0b_call5_v12 : Ref sig .tc := ⟨.hbm, 361, rfl⟩
abbrev main_while0b_call5_v13 : Ref sig .tc := ⟨.hbm, 362, rfl⟩
abbrev main_while0b_call5_c_2 : Ref sig .tc := ⟨.hbm, 363, rfl⟩
abbrev main_while0b_call5_v14 : Ref sig .tc := ⟨.hbm, 364, rfl⟩
abbrev main_while0b_call5_v15 : Ref sig .tc := ⟨.hbm, 365, rfl⟩
abbrev main_while0b_call5_c_3 : Ref sig .tc := ⟨.hbm, 366, rfl⟩
abbrev main_while0b_call5_v16 : Ref sig .tc := ⟨.hbm, 367, rfl⟩
abbrev main_while0b_call5_v17 : Ref sig .tc := ⟨.hbm, 368, rfl⟩
abbrev main_while0b_call5_v18 : Ref sig .tc := ⟨.hbm, 369, rfl⟩
abbrev main_while0b_call5_v19 : Ref sig .tc := ⟨.hbm, 370, rfl⟩
abbrev main_while0b_call5_v20 : Ref sig .tc := ⟨.hbm, 371, rfl⟩
abbrev main_while0b_call5_c_4 : Ref sig .tc := ⟨.hbm, 372, rfl⟩
abbrev main_while0b_call5_v21 : Ref sig .tc := ⟨.hbm, 373, rfl⟩
abbrev main_while0b_call5_v22 : Ref sig .tc := ⟨.hbm, 374, rfl⟩
abbrev main_while0b_call5_c_5 : Ref sig .tc := ⟨.hbm, 375, rfl⟩
abbrev main_while0b_call5_v23 : Ref sig .tc := ⟨.hbm, 376, rfl⟩
abbrev main_while0b_call5_v24 : Ref sig .tc := ⟨.hbm, 377, rfl⟩
abbrev main_while0b_call5_v25 : Ref sig .tc := ⟨.hbm, 378, rfl⟩
abbrev main_while0b_call5_v26 : Ref sig .tc := ⟨.hbm, 379, rfl⟩
abbrev main_while0b_call5_v27 : Ref sig .tc := ⟨.hbm, 380, rfl⟩
abbrev main_while0b_call5_c_6 : Ref sig .tc := ⟨.hbm, 381, rfl⟩
abbrev main_while0b_call5_v28 : Ref sig .tc := ⟨.hbm, 382, rfl⟩
abbrev main_while0b_call5_v29 : Ref sig .tc := ⟨.hbm, 383, rfl⟩
abbrev main_while0b_call5_c_7 : Ref sig .tc := ⟨.hbm, 384, rfl⟩
abbrev main_while0b_call5_v30 : Ref sig .tc := ⟨.hbm, 385, rfl⟩
abbrev main_while0b_call5_v31 : Ref sig .tc := ⟨.hbm, 386, rfl⟩
abbrev main_while0b_call5_v32 : Ref sig .tc := ⟨.hbm, 387, rfl⟩
abbrev main_while0b_call5_v33 : Ref sig .tc := ⟨.hbm, 388, rfl⟩
abbrev main_while0b_call5_v34 : Ref sig .tc := ⟨.hbm, 389, rfl⟩
abbrev main_while0b_call5_v35 : Ref sig .tc := ⟨.hbm, 390, rfl⟩
abbrev main_while0b_call5_v36 : Ref sig .tc := ⟨.hbm, 391, rfl⟩
abbrev main_while0b_call5_v37 : Ref sig .tc := ⟨.hbm, 392, rfl⟩
abbrev main_while0b_call5_c_8 : Ref sig .tc := ⟨.hbm, 393, rfl⟩
abbrev main_while0b_call5_v38 : Ref sig .tc := ⟨.hbm, 394, rfl⟩
abbrev main_while0b_call5_v39 : Ref sig .tc := ⟨.hbm, 395, rfl⟩
abbrev main_while0b_call5_v40 : Ref sig .tc := ⟨.hbm, 396, rfl⟩
abbrev main_while0b_call5_c_9 : Ref sig .tc := ⟨.hbm, 397, rfl⟩
abbrev main_while0b_call5_v41 : Ref sig .tc := ⟨.hbm, 398, rfl⟩
abbrev main_while0b_call5_v42 : Ref sig .tc := ⟨.hbm, 399, rfl⟩
abbrev main_while0b_call5_c_10 : Ref sig .tc := ⟨.hbm, 400, rfl⟩
abbrev main_while0b_call5_v43 : Ref sig .tc := ⟨.hbm, 401, rfl⟩
abbrev main_while0b_call5_v44 : Ref sig .tc := ⟨.hbm, 402, rfl⟩
abbrev main_while0b_call5_v45 : Ref sig .tc := ⟨.hbm, 403, rfl⟩
abbrev main_while0b_call5_v46 : Ref sig .tc := ⟨.hbm, 404, rfl⟩
abbrev main_while0b_call5_v47 : Ref sig .tc := ⟨.hbm, 405, rfl⟩
abbrev main_while0b_call5_c_11 : Ref sig .tc := ⟨.hbm, 406, rfl⟩
abbrev main_while0b_call5_v48 : Ref sig .tc := ⟨.hbm, 407, rfl⟩
abbrev main_while0b_call5_v49 : Ref sig .tc := ⟨.hbm, 408, rfl⟩
abbrev main_while0b_call5_c_12 : Ref sig .tc := ⟨.hbm, 409, rfl⟩
abbrev main_while0b_call5_v50 : Ref sig .tc := ⟨.hbm, 410, rfl⟩
abbrev main_while0b_call5_v51 : Ref sig .tc := ⟨.hbm, 411, rfl⟩
abbrev main_while0b_call5_v52 : Ref sig .tc := ⟨.hbm, 412, rfl⟩
abbrev main_while0b_call5_v53 : Ref sig .tc := ⟨.hbm, 413, rfl⟩
abbrev main_while0b_call5_v54 : Ref sig .tc := ⟨.hbm, 414, rfl⟩
abbrev main_while0b_call5_c_13 : Ref sig .tc := ⟨.hbm, 415, rfl⟩
abbrev main_while0b_call5_v55 : Ref sig .tc := ⟨.hbm, 416, rfl⟩
abbrev main_while0b_call5_v56 : Ref sig .tc := ⟨.hbm, 417, rfl⟩
abbrev main_while0b_call5_c_14 : Ref sig .tc := ⟨.hbm, 418, rfl⟩
abbrev main_while0b_call5_v57 : Ref sig .tc := ⟨.hbm, 419, rfl⟩
abbrev main_while0b_call5_v58 : Ref sig .tc := ⟨.hbm, 420, rfl⟩
abbrev main_while0b_call5_v59 : Ref sig .tc := ⟨.hbm, 421, rfl⟩
abbrev main_while0b_call5_v60 : Ref sig .tc := ⟨.hbm, 422, rfl⟩
abbrev main_while0b_call5_v61 : Ref sig .tc := ⟨.hbm, 423, rfl⟩
abbrev main_while0b_call5_c_15 : Ref sig .tc := ⟨.hbm, 424, rfl⟩
abbrev main_while0b_call5_v62 : Ref sig .tc := ⟨.hbm, 425, rfl⟩
abbrev main_while0b_call5_v63 : Ref sig .tc := ⟨.hbm, 426, rfl⟩
abbrev main_while0b_call5_c_16 : Ref sig .tc := ⟨.hbm, 427, rfl⟩
abbrev main_while0b_call5_v64 : Ref sig .tc := ⟨.hbm, 428, rfl⟩
abbrev main_while0b_call5_v65 : Ref sig .tc := ⟨.hbm, 429, rfl⟩
abbrev main_while0b_call5_v66 : Ref sig .tc := ⟨.hbm, 430, rfl⟩
abbrev main_while0b_call5_v67 : Ref sig .tc := ⟨.hbm, 431, rfl⟩
abbrev main_while0b_call5_v68 : Ref sig .tc := ⟨.hbm, 432, rfl⟩
abbrev main_while0b_call5_v69 : Ref sig .tc := ⟨.hbm, 433, rfl⟩
abbrev main_while0b_call5_v70 : Ref sig .tc := ⟨.hbm, 434, rfl⟩
abbrev main_while0b_call5_v71 : Ref sig .tc := ⟨.hbm, 435, rfl⟩
abbrev main_while0b_call5_c_17 : Ref sig .tc := ⟨.hbm, 436, rfl⟩
abbrev main_while0b_call5_v72 : Ref sig .tc := ⟨.hbm, 437, rfl⟩
abbrev main_while0b_call5_v73 : Ref sig .tc := ⟨.hbm, 438, rfl⟩
abbrev main_while0b_call5_v74 : Ref sig .tc := ⟨.hbm, 439, rfl⟩
abbrev main_while0b_call5_c_18 : Ref sig .tc := ⟨.hbm, 440, rfl⟩
abbrev main_while0b_call5_v75 : Ref sig .tc := ⟨.hbm, 441, rfl⟩
abbrev main_while0b_call5_v76 : Ref sig .tc := ⟨.hbm, 442, rfl⟩
abbrev main_while0b_call5_c_19 : Ref sig .tc := ⟨.hbm, 443, rfl⟩
abbrev main_while0b_call5_v77 : Ref sig .tc := ⟨.hbm, 444, rfl⟩
abbrev main_while0b_call5_v78 : Ref sig .tc := ⟨.hbm, 445, rfl⟩
abbrev main_while0b_call5_v79 : Ref sig .tc := ⟨.hbm, 446, rfl⟩
abbrev main_while0b_call5_v80 : Ref sig .tc := ⟨.hbm, 447, rfl⟩
abbrev main_while0b_call5_v81 : Ref sig .tc := ⟨.hbm, 448, rfl⟩
abbrev main_while0b_call5_c_20 : Ref sig .tc := ⟨.hbm, 449, rfl⟩
abbrev main_while0b_call5_v82 : Ref sig .tc := ⟨.hbm, 450, rfl⟩
abbrev main_while0b_call5_v83 : Ref sig .tc := ⟨.hbm, 451, rfl⟩
abbrev main_while0b_call5_c_21 : Ref sig .tc := ⟨.hbm, 452, rfl⟩
abbrev main_while0b_call5_v84 : Ref sig .tc := ⟨.hbm, 453, rfl⟩
abbrev main_while0b_call5_v85 : Ref sig .tc := ⟨.hbm, 454, rfl⟩
abbrev main_while0b_call5_v86 : Ref sig .tc := ⟨.hbm, 455, rfl⟩
abbrev main_while0b_call5_v87 : Ref sig .tc := ⟨.hbm, 456, rfl⟩
abbrev main_while0b_call5_v88 : Ref sig .tc := ⟨.hbm, 457, rfl⟩
abbrev main_while0b_call5_c_22 : Ref sig .tc := ⟨.hbm, 458, rfl⟩
abbrev main_while0b_call5_v89 : Ref sig .tc := ⟨.hbm, 459, rfl⟩
abbrev main_while0b_call5_v90 : Ref sig .tc := ⟨.hbm, 460, rfl⟩
abbrev main_while0b_call5_c_23 : Ref sig .tc := ⟨.hbm, 461, rfl⟩
abbrev main_while0b_call5_v91 : Ref sig .tc := ⟨.hbm, 462, rfl⟩
abbrev main_while0b_call5_v92 : Ref sig .tc := ⟨.hbm, 463, rfl⟩
abbrev main_while0b_call5_v93 : Ref sig .tc := ⟨.hbm, 464, rfl⟩
abbrev main_while0b_call5_v94 : Ref sig .tc := ⟨.hbm, 465, rfl⟩
abbrev main_while0b_call5_v95 : Ref sig .tc := ⟨.hbm, 466, rfl⟩
abbrev main_while0b_call5_c_24 : Ref sig .tc := ⟨.hbm, 467, rfl⟩
abbrev main_while0b_call5_v96 : Ref sig .tc := ⟨.hbm, 468, rfl⟩
abbrev main_while0b_call5_v97 : Ref sig .tc := ⟨.hbm, 469, rfl⟩
abbrev main_while0b_call5_c_25 : Ref sig .tc := ⟨.hbm, 470, rfl⟩
abbrev main_while0b_call5_v98 : Ref sig .tc := ⟨.hbm, 471, rfl⟩
abbrev main_while0b_call5_v99 : Ref sig .tc := ⟨.hbm, 472, rfl⟩
abbrev main_while0b_call5_v100 : Ref sig .tc := ⟨.hbm, 473, rfl⟩
abbrev main_while0b_call5_v101 : Ref sig .tc := ⟨.hbm, 474, rfl⟩
abbrev main_while0b_call5_v102 : Ref sig .tc := ⟨.hbm, 475, rfl⟩
abbrev main_while0b_call5_v103 : Ref sig .tc := ⟨.hbm, 476, rfl⟩
abbrev main_while0b_call5_v104 : Ref sig .tc := ⟨.hbm, 477, rfl⟩
abbrev main_while0b_call5_v105 : Ref sig .tc := ⟨.hbm, 478, rfl⟩
abbrev main_while0b_call5_c_26 : Ref sig .tc := ⟨.hbm, 479, rfl⟩
abbrev main_while0b_call5_v106 : Ref sig .tc := ⟨.hbm, 480, rfl⟩
abbrev main_while0b_call5_v107 : Ref sig .tc := ⟨.hbm, 481, rfl⟩
abbrev main_while0b_call5_v108 : Ref sig .tc := ⟨.hbm, 482, rfl⟩
abbrev main_while0b_call5_c_27 : Ref sig .tc := ⟨.hbm, 483, rfl⟩
abbrev main_while0b_call5_v109 : Ref sig .tc := ⟨.hbm, 484, rfl⟩
abbrev main_while0b_call5_v110 : Ref sig .tc := ⟨.hbm, 485, rfl⟩
abbrev main_while0b_call5_c_28 : Ref sig .tc := ⟨.hbm, 486, rfl⟩
abbrev main_while0b_call5_v111 : Ref sig .tc := ⟨.hbm, 487, rfl⟩
abbrev main_while0b_call5_v112 : Ref sig .tc := ⟨.hbm, 488, rfl⟩
abbrev main_while0b_call5_v113 : Ref sig .tc := ⟨.hbm, 489, rfl⟩
abbrev main_while0b_call5_v114 : Ref sig .tc := ⟨.hbm, 490, rfl⟩
abbrev main_while0b_call5_v115 : Ref sig .tc := ⟨.hbm, 491, rfl⟩
abbrev main_while0b_call5_c_29 : Ref sig .tc := ⟨.hbm, 492, rfl⟩
abbrev main_while0b_call5_v116 : Ref sig .tc := ⟨.hbm, 493, rfl⟩
abbrev main_while0b_call5_v117 : Ref sig .tc := ⟨.hbm, 494, rfl⟩
abbrev main_while0b_call5_c_30 : Ref sig .tc := ⟨.hbm, 495, rfl⟩
abbrev main_while0b_call5_v118 : Ref sig .tc := ⟨.hbm, 496, rfl⟩
abbrev main_while0b_call5_v119 : Ref sig .tc := ⟨.hbm, 497, rfl⟩
abbrev main_while0b_call5_v120 : Ref sig .tc := ⟨.hbm, 498, rfl⟩
abbrev main_while0b_call5_v121 : Ref sig .tc := ⟨.hbm, 499, rfl⟩
abbrev main_while0b_call5_v122 : Ref sig .tc := ⟨.hbm, 500, rfl⟩
abbrev main_while0b_call5_c_31 : Ref sig .tc := ⟨.hbm, 501, rfl⟩
abbrev main_while0b_call5_v123 : Ref sig .tc := ⟨.hbm, 502, rfl⟩
abbrev main_while0b_call5_v124 : Ref sig .tc := ⟨.hbm, 503, rfl⟩
abbrev main_while0b_call5_c_32 : Ref sig .tc := ⟨.hbm, 504, rfl⟩
abbrev main_while0b_call5_v125 : Ref sig .tc := ⟨.hbm, 505, rfl⟩
abbrev main_while0b_call5_v126 : Ref sig .tc := ⟨.hbm, 506, rfl⟩
abbrev main_while0b_call5_v127 : Ref sig .tc := ⟨.hbm, 507, rfl⟩
abbrev main_while0b_call5_v128 : Ref sig .tc := ⟨.hbm, 508, rfl⟩
abbrev main_while0b_call5_v129 : Ref sig .tc := ⟨.hbm, 509, rfl⟩
abbrev main_while0b_call5_c_33 : Ref sig .tc := ⟨.hbm, 510, rfl⟩
abbrev main_while0b_call5_v130 : Ref sig .tc := ⟨.hbm, 511, rfl⟩
abbrev main_while0b_call5_v131 : Ref sig .tc := ⟨.hbm, 512, rfl⟩
abbrev main_while0b_call5_c_34 : Ref sig .tc := ⟨.hbm, 513, rfl⟩
abbrev main_while0b_call5_v132 : Ref sig .tc := ⟨.hbm, 514, rfl⟩
abbrev main_while0b_call5_v133 : Ref sig .tc := ⟨.hbm, 515, rfl⟩
abbrev main_while0b_call5_v134 : Ref sig .tc := ⟨.hbm, 516, rfl⟩
abbrev main_while0b_call5_v135 : Ref sig .tc := ⟨.hbm, 517, rfl⟩
abbrev main_while0b_call5_v136 : Ref sig .tc := ⟨.hbm, 518, rfl⟩
abbrev main_while0b_call5_v137 : Ref sig .tc := ⟨.hbm, 519, rfl⟩
abbrev main_while0b_call5_v138 : Ref sig .tc := ⟨.hbm, 520, rfl⟩
abbrev main_while0b_call5_v139 : Ref sig .tc := ⟨.hbm, 521, rfl⟩
abbrev main_while0b_call5_c_35 : Ref sig .tc := ⟨.hbm, 522, rfl⟩
abbrev main_while0b_call5_v140 : Ref sig .tc := ⟨.hbm, 523, rfl⟩
abbrev main_while0b_call5_v141 : Ref sig .tc := ⟨.hbm, 524, rfl⟩
abbrev main_while0b_call5_v142 : Ref sig .tc := ⟨.hbm, 525, rfl⟩
abbrev main_while0b_call5_c_36 : Ref sig .tc := ⟨.hbm, 526, rfl⟩
abbrev main_while0b_call5_v143 : Ref sig .tc := ⟨.hbm, 527, rfl⟩
abbrev main_while0b_call5_v144 : Ref sig .tc := ⟨.hbm, 528, rfl⟩
abbrev main_while0b_call5_c_37 : Ref sig .tc := ⟨.hbm, 529, rfl⟩
abbrev main_while0b_call5_v145 : Ref sig .tc := ⟨.hbm, 530, rfl⟩
abbrev main_while0b_call5_v146 : Ref sig .tc := ⟨.hbm, 531, rfl⟩
abbrev main_while0b_call5_v147 : Ref sig .tc := ⟨.hbm, 532, rfl⟩
abbrev main_while0b_call5_v148 : Ref sig .tc := ⟨.hbm, 533, rfl⟩
abbrev main_while0b_call5_v149 : Ref sig .tc := ⟨.hbm, 534, rfl⟩
abbrev main_while0b_call5_c_38 : Ref sig .tc := ⟨.hbm, 535, rfl⟩
abbrev main_while0b_call5_v150 : Ref sig .tc := ⟨.hbm, 536, rfl⟩
abbrev main_while0b_call5_v151 : Ref sig .tc := ⟨.hbm, 537, rfl⟩
abbrev main_while0b_call5_c_39 : Ref sig .tc := ⟨.hbm, 538, rfl⟩
abbrev main_while0b_call5_v152 : Ref sig .tc := ⟨.hbm, 539, rfl⟩
abbrev main_while0b_call5_v153 : Ref sig .tc := ⟨.hbm, 540, rfl⟩
abbrev main_while0b_call5_v154 : Ref sig .tc := ⟨.hbm, 541, rfl⟩
abbrev main_while0b_call5_v155 : Ref sig .tc := ⟨.hbm, 542, rfl⟩
abbrev main_while0b_call5_v156 : Ref sig .tc := ⟨.hbm, 543, rfl⟩
abbrev main_while0b_call5_c_40 : Ref sig .tc := ⟨.hbm, 544, rfl⟩
abbrev main_while0b_call5_v157 : Ref sig .tc := ⟨.hbm, 545, rfl⟩
abbrev main_while0b_call5_v158 : Ref sig .tc := ⟨.hbm, 546, rfl⟩
abbrev main_while0b_call5_c_41 : Ref sig .tc := ⟨.hbm, 547, rfl⟩
abbrev main_while0b_call5_v159 : Ref sig .tc := ⟨.hbm, 548, rfl⟩
abbrev main_while0b_call5_v160 : Ref sig .tc := ⟨.hbm, 549, rfl⟩
abbrev main_while0b_call5_v161 : Ref sig .tc := ⟨.hbm, 550, rfl⟩
abbrev main_while0b_call5_v162 : Ref sig .tc := ⟨.hbm, 551, rfl⟩
abbrev main_while0b_call5_v163 : Ref sig .tc := ⟨.hbm, 552, rfl⟩
abbrev main_while0b_call5_c_42 : Ref sig .tc := ⟨.hbm, 553, rfl⟩
abbrev main_while0b_call5_v164 : Ref sig .tc := ⟨.hbm, 554, rfl⟩
abbrev main_while0b_call5_v165 : Ref sig .tc := ⟨.hbm, 555, rfl⟩
abbrev main_while0b_call5_c_43 : Ref sig .tc := ⟨.hbm, 556, rfl⟩
abbrev main_while0b_call5_v166 : Ref sig .tc := ⟨.hbm, 557, rfl⟩
abbrev main_while0b_call5_v167 : Ref sig .tc := ⟨.hbm, 558, rfl⟩
abbrev main_while0b_call5_v168 : Ref sig .tc := ⟨.hbm, 559, rfl⟩
abbrev main_while0b_call5_v169 : Ref sig .tc := ⟨.hbm, 560, rfl⟩
abbrev main_while0b_call5_v170 : Ref sig .tc := ⟨.hbm, 561, rfl⟩
abbrev main_while0b_v85_0 : Ref sig .tc := ⟨.hbm, 562, rfl⟩
abbrev main_while0b_call5_v172 : Ref sig .tc := ⟨.hbm, 563, rfl⟩
abbrev main_while0b_call5_v173 : Ref sig .tc := ⟨.hbm, 564, rfl⟩
abbrev main_while0b_call5_c_44 : Ref sig .tc := ⟨.hbm, 565, rfl⟩
abbrev main_while0b_call5_v174 : Ref sig .tc := ⟨.hbm, 566, rfl⟩
abbrev main_while0b_v85_1 : Ref sig .tc := ⟨.hbm, 567, rfl⟩
abbrev main_while0b_v86 : Ref sig .tc := ⟨.hbm, 568, rfl⟩
abbrev main_while0b_c_27 : Ref sig .tc := ⟨.hbm, 569, rfl⟩
abbrev main_while0b_c_28 : Ref sig .tc := ⟨.hbm, 570, rfl⟩
abbrev main_while0b_v87 : Ref sig .tc := ⟨.hbm, 571, rfl⟩
abbrev main_while0b_v88 : Ref sig .tc := ⟨.hbm, 572, rfl⟩
abbrev main_while0b_v89 : Ref sig .tc := ⟨.hbm, 573, rfl⟩
abbrev main_while0b_v90 : Ref sig .tc := ⟨.hbm, 574, rfl⟩
abbrev main_while0b_v91 : Ref sig .tc := ⟨.hbm, 575, rfl⟩
abbrev main_while0b_v92 : Ref sig .tc := ⟨.hbm, 576, rfl⟩
abbrev main_while0b_v93 : Ref sig .tc := ⟨.hbm, 577, rfl⟩
abbrev main_while0b_v94 : Ref sig .tc := ⟨.hbm, 578, rfl⟩
abbrev main_while0b_v95 : Ref sig .tc := ⟨.hbm, 579, rfl⟩
abbrev main_while0b_call6_v0 : Ref sig .tc := ⟨.hbm, 580, rfl⟩
abbrev main_while0b_call6_c : Ref sig .tc := ⟨.hbm, 581, rfl⟩
abbrev main_while0b_call6_v1 : Ref sig .tc := ⟨.hbm, 582, rfl⟩
abbrev main_while0b_call6_v2 : Ref sig .tc := ⟨.hbm, 583, rfl⟩
abbrev main_while0b_call6_v3 : Ref sig .tc := ⟨.hbm, 584, rfl⟩
abbrev main_while0b_call6_v4 : Ref sig .tc := ⟨.hbm, 585, rfl⟩
abbrev main_while0b_call6_v5 : Ref sig .tc := ⟨.hbm, 586, rfl⟩
abbrev main_while0b_call6_v6 : Ref sig .tc := ⟨.hbm, 587, rfl⟩
abbrev main_while0b_call6_c_0 : Ref sig .tc := ⟨.hbm, 588, rfl⟩
abbrev main_while0b_call6_v7 : Ref sig .tc := ⟨.hbm, 589, rfl⟩
abbrev main_while0b_call6_v8 : Ref sig .tc := ⟨.hbm, 590, rfl⟩
abbrev main_while0b_call6_c_1 : Ref sig .tc := ⟨.hbm, 591, rfl⟩
abbrev main_while0b_call6_v9 : Ref sig .tc := ⟨.hbm, 592, rfl⟩
abbrev main_while0b_call6_v10 : Ref sig .tc := ⟨.hbm, 593, rfl⟩
abbrev main_while0b_call6_v11 : Ref sig .tc := ⟨.hbm, 594, rfl⟩
abbrev main_while0b_call6_v12 : Ref sig .tc := ⟨.hbm, 595, rfl⟩
abbrev main_while0b_call6_v13 : Ref sig .tc := ⟨.hbm, 596, rfl⟩
abbrev main_while0b_call6_c_2 : Ref sig .tc := ⟨.hbm, 597, rfl⟩
abbrev main_while0b_call6_v14 : Ref sig .tc := ⟨.hbm, 598, rfl⟩
abbrev main_while0b_call6_v15 : Ref sig .tc := ⟨.hbm, 599, rfl⟩
abbrev main_while0b_call6_c_3 : Ref sig .tc := ⟨.hbm, 600, rfl⟩
abbrev main_while0b_call6_v16 : Ref sig .tc := ⟨.hbm, 601, rfl⟩
abbrev main_while0b_call6_v17 : Ref sig .tc := ⟨.hbm, 602, rfl⟩
abbrev main_while0b_call6_v18 : Ref sig .tc := ⟨.hbm, 603, rfl⟩
abbrev main_while0b_call6_v19 : Ref sig .tc := ⟨.hbm, 604, rfl⟩
abbrev main_while0b_call6_v20 : Ref sig .tc := ⟨.hbm, 605, rfl⟩
abbrev main_while0b_call6_c_4 : Ref sig .tc := ⟨.hbm, 606, rfl⟩
abbrev main_while0b_call6_v21 : Ref sig .tc := ⟨.hbm, 607, rfl⟩
abbrev main_while0b_call6_v22 : Ref sig .tc := ⟨.hbm, 608, rfl⟩
abbrev main_while0b_call6_c_5 : Ref sig .tc := ⟨.hbm, 609, rfl⟩
abbrev main_while0b_call6_v23 : Ref sig .tc := ⟨.hbm, 610, rfl⟩
abbrev main_while0b_call6_v24 : Ref sig .tc := ⟨.hbm, 611, rfl⟩
abbrev main_while0b_call6_v25 : Ref sig .tc := ⟨.hbm, 612, rfl⟩
abbrev main_while0b_call6_v26 : Ref sig .tc := ⟨.hbm, 613, rfl⟩
abbrev main_while0b_call6_v27 : Ref sig .tc := ⟨.hbm, 614, rfl⟩
abbrev main_while0b_call6_c_6 : Ref sig .tc := ⟨.hbm, 615, rfl⟩
abbrev main_while0b_call6_v28 : Ref sig .tc := ⟨.hbm, 616, rfl⟩
abbrev main_while0b_call6_v29 : Ref sig .tc := ⟨.hbm, 617, rfl⟩
abbrev main_while0b_call6_c_7 : Ref sig .tc := ⟨.hbm, 618, rfl⟩
abbrev main_while0b_call6_v30 : Ref sig .tc := ⟨.hbm, 619, rfl⟩
abbrev main_while0b_call6_v31 : Ref sig .tc := ⟨.hbm, 620, rfl⟩
abbrev main_while0b_call6_v32 : Ref sig .tc := ⟨.hbm, 621, rfl⟩
abbrev main_while0b_call6_v33 : Ref sig .tc := ⟨.hbm, 622, rfl⟩
abbrev main_while0b_call6_v34 : Ref sig .tc := ⟨.hbm, 623, rfl⟩
abbrev main_while0b_call6_v35 : Ref sig .tc := ⟨.hbm, 624, rfl⟩
abbrev main_while0b_call6_v36 : Ref sig .tc := ⟨.hbm, 625, rfl⟩
abbrev main_while0b_call6_v37 : Ref sig .tc := ⟨.hbm, 626, rfl⟩
abbrev main_while0b_call6_c_8 : Ref sig .tc := ⟨.hbm, 627, rfl⟩
abbrev main_while0b_call6_v38 : Ref sig .tc := ⟨.hbm, 628, rfl⟩
abbrev main_while0b_call6_v39 : Ref sig .tc := ⟨.hbm, 629, rfl⟩
abbrev main_while0b_call6_v40 : Ref sig .tc := ⟨.hbm, 630, rfl⟩
abbrev main_while0b_call6_c_9 : Ref sig .tc := ⟨.hbm, 631, rfl⟩
abbrev main_while0b_call6_v41 : Ref sig .tc := ⟨.hbm, 632, rfl⟩
abbrev main_while0b_call6_v42 : Ref sig .tc := ⟨.hbm, 633, rfl⟩
abbrev main_while0b_call6_c_10 : Ref sig .tc := ⟨.hbm, 634, rfl⟩
abbrev main_while0b_call6_v43 : Ref sig .tc := ⟨.hbm, 635, rfl⟩
abbrev main_while0b_call6_v44 : Ref sig .tc := ⟨.hbm, 636, rfl⟩
abbrev main_while0b_call6_v45 : Ref sig .tc := ⟨.hbm, 637, rfl⟩
abbrev main_while0b_call6_v46 : Ref sig .tc := ⟨.hbm, 638, rfl⟩
abbrev main_while0b_call6_v47 : Ref sig .tc := ⟨.hbm, 639, rfl⟩
abbrev main_while0b_call6_c_11 : Ref sig .tc := ⟨.hbm, 640, rfl⟩
abbrev main_while0b_call6_v48 : Ref sig .tc := ⟨.hbm, 641, rfl⟩
abbrev main_while0b_call6_v49 : Ref sig .tc := ⟨.hbm, 642, rfl⟩
abbrev main_while0b_call6_c_12 : Ref sig .tc := ⟨.hbm, 643, rfl⟩
abbrev main_while0b_call6_v50 : Ref sig .tc := ⟨.hbm, 644, rfl⟩
abbrev main_while0b_call6_v51 : Ref sig .tc := ⟨.hbm, 645, rfl⟩
abbrev main_while0b_call6_v52 : Ref sig .tc := ⟨.hbm, 646, rfl⟩
abbrev main_while0b_call6_v53 : Ref sig .tc := ⟨.hbm, 647, rfl⟩
abbrev main_while0b_call6_v54 : Ref sig .tc := ⟨.hbm, 648, rfl⟩
abbrev main_while0b_call6_c_13 : Ref sig .tc := ⟨.hbm, 649, rfl⟩
abbrev main_while0b_call6_v55 : Ref sig .tc := ⟨.hbm, 650, rfl⟩
abbrev main_while0b_call6_v56 : Ref sig .tc := ⟨.hbm, 651, rfl⟩
abbrev main_while0b_call6_c_14 : Ref sig .tc := ⟨.hbm, 652, rfl⟩
abbrev main_while0b_call6_v57 : Ref sig .tc := ⟨.hbm, 653, rfl⟩
abbrev main_while0b_call6_v58 : Ref sig .tc := ⟨.hbm, 654, rfl⟩
abbrev main_while0b_call6_v59 : Ref sig .tc := ⟨.hbm, 655, rfl⟩
abbrev main_while0b_call6_v60 : Ref sig .tc := ⟨.hbm, 656, rfl⟩
abbrev main_while0b_call6_v61 : Ref sig .tc := ⟨.hbm, 657, rfl⟩
abbrev main_while0b_call6_c_15 : Ref sig .tc := ⟨.hbm, 658, rfl⟩
abbrev main_while0b_call6_v62 : Ref sig .tc := ⟨.hbm, 659, rfl⟩
abbrev main_while0b_call6_v63 : Ref sig .tc := ⟨.hbm, 660, rfl⟩
abbrev main_while0b_call6_c_16 : Ref sig .tc := ⟨.hbm, 661, rfl⟩
abbrev main_while0b_call6_v64 : Ref sig .tc := ⟨.hbm, 662, rfl⟩
abbrev main_while0b_call6_v65 : Ref sig .tc := ⟨.hbm, 663, rfl⟩
abbrev main_while0b_call6_v66 : Ref sig .tc := ⟨.hbm, 664, rfl⟩
abbrev main_while0b_call6_v67 : Ref sig .tc := ⟨.hbm, 665, rfl⟩
abbrev main_while0b_call6_v68 : Ref sig .tc := ⟨.hbm, 666, rfl⟩
abbrev main_while0b_call6_v69 : Ref sig .tc := ⟨.hbm, 667, rfl⟩
abbrev main_while0b_call6_v70 : Ref sig .tc := ⟨.hbm, 668, rfl⟩
abbrev main_while0b_call6_v71 : Ref sig .tc := ⟨.hbm, 669, rfl⟩
abbrev main_while0b_call6_c_17 : Ref sig .tc := ⟨.hbm, 670, rfl⟩
abbrev main_while0b_call6_v72 : Ref sig .tc := ⟨.hbm, 671, rfl⟩
abbrev main_while0b_call6_v73 : Ref sig .tc := ⟨.hbm, 672, rfl⟩
abbrev main_while0b_call6_v74 : Ref sig .tc := ⟨.hbm, 673, rfl⟩
abbrev main_while0b_call6_c_18 : Ref sig .tc := ⟨.hbm, 674, rfl⟩
abbrev main_while0b_call6_v75 : Ref sig .tc := ⟨.hbm, 675, rfl⟩
abbrev main_while0b_call6_v76 : Ref sig .tc := ⟨.hbm, 676, rfl⟩
abbrev main_while0b_call6_c_19 : Ref sig .tc := ⟨.hbm, 677, rfl⟩
abbrev main_while0b_call6_v77 : Ref sig .tc := ⟨.hbm, 678, rfl⟩
abbrev main_while0b_call6_v78 : Ref sig .tc := ⟨.hbm, 679, rfl⟩
abbrev main_while0b_call6_v79 : Ref sig .tc := ⟨.hbm, 680, rfl⟩
abbrev main_while0b_call6_v80 : Ref sig .tc := ⟨.hbm, 681, rfl⟩
abbrev main_while0b_call6_v81 : Ref sig .tc := ⟨.hbm, 682, rfl⟩
abbrev main_while0b_call6_c_20 : Ref sig .tc := ⟨.hbm, 683, rfl⟩
abbrev main_while0b_call6_v82 : Ref sig .tc := ⟨.hbm, 684, rfl⟩
abbrev main_while0b_call6_v83 : Ref sig .tc := ⟨.hbm, 685, rfl⟩
abbrev main_while0b_call6_c_21 : Ref sig .tc := ⟨.hbm, 686, rfl⟩
abbrev main_while0b_call6_v84 : Ref sig .tc := ⟨.hbm, 687, rfl⟩
abbrev main_while0b_call6_v85 : Ref sig .tc := ⟨.hbm, 688, rfl⟩
abbrev main_while0b_call6_v86 : Ref sig .tc := ⟨.hbm, 689, rfl⟩
abbrev main_while0b_call6_v87 : Ref sig .tc := ⟨.hbm, 690, rfl⟩
abbrev main_while0b_call6_v88 : Ref sig .tc := ⟨.hbm, 691, rfl⟩
abbrev main_while0b_call6_c_22 : Ref sig .tc := ⟨.hbm, 692, rfl⟩
abbrev main_while0b_call6_v89 : Ref sig .tc := ⟨.hbm, 693, rfl⟩
abbrev main_while0b_call6_v90 : Ref sig .tc := ⟨.hbm, 694, rfl⟩
abbrev main_while0b_call6_c_23 : Ref sig .tc := ⟨.hbm, 695, rfl⟩
abbrev main_while0b_call6_v91 : Ref sig .tc := ⟨.hbm, 696, rfl⟩
abbrev main_while0b_call6_v92 : Ref sig .tc := ⟨.hbm, 697, rfl⟩
abbrev main_while0b_call6_v93 : Ref sig .tc := ⟨.hbm, 698, rfl⟩
abbrev main_while0b_call6_v94 : Ref sig .tc := ⟨.hbm, 699, rfl⟩
abbrev main_while0b_call6_v95 : Ref sig .tc := ⟨.hbm, 700, rfl⟩
abbrev main_while0b_call6_c_24 : Ref sig .tc := ⟨.hbm, 701, rfl⟩
abbrev main_while0b_call6_v96 : Ref sig .tc := ⟨.hbm, 702, rfl⟩
abbrev main_while0b_call6_v97 : Ref sig .tc := ⟨.hbm, 703, rfl⟩
abbrev main_while0b_call6_c_25 : Ref sig .tc := ⟨.hbm, 704, rfl⟩
abbrev main_while0b_call6_v98 : Ref sig .tc := ⟨.hbm, 705, rfl⟩
abbrev main_while0b_call6_v99 : Ref sig .tc := ⟨.hbm, 706, rfl⟩
abbrev main_while0b_call6_v100 : Ref sig .tc := ⟨.hbm, 707, rfl⟩
abbrev main_while0b_call6_v101 : Ref sig .tc := ⟨.hbm, 708, rfl⟩
abbrev main_while0b_call6_v102 : Ref sig .tc := ⟨.hbm, 709, rfl⟩
abbrev main_while0b_call6_v103 : Ref sig .tc := ⟨.hbm, 710, rfl⟩
abbrev main_while0b_call6_v104 : Ref sig .tc := ⟨.hbm, 711, rfl⟩
abbrev main_while0b_call6_v105 : Ref sig .tc := ⟨.hbm, 712, rfl⟩
abbrev main_while0b_call6_c_26 : Ref sig .tc := ⟨.hbm, 713, rfl⟩
abbrev main_while0b_call6_v106 : Ref sig .tc := ⟨.hbm, 714, rfl⟩
abbrev main_while0b_call6_v107 : Ref sig .tc := ⟨.hbm, 715, rfl⟩
abbrev main_while0b_call6_v108 : Ref sig .tc := ⟨.hbm, 716, rfl⟩
abbrev main_while0b_call6_c_27 : Ref sig .tc := ⟨.hbm, 717, rfl⟩
abbrev main_while0b_call6_v109 : Ref sig .tc := ⟨.hbm, 718, rfl⟩
abbrev main_while0b_call6_v110 : Ref sig .tc := ⟨.hbm, 719, rfl⟩
abbrev main_while0b_call6_c_28 : Ref sig .tc := ⟨.hbm, 720, rfl⟩
abbrev main_while0b_call6_v111 : Ref sig .tc := ⟨.hbm, 721, rfl⟩
abbrev main_while0b_call6_v112 : Ref sig .tc := ⟨.hbm, 722, rfl⟩
abbrev main_while0b_call6_v113 : Ref sig .tc := ⟨.hbm, 723, rfl⟩
abbrev main_while0b_call6_v114 : Ref sig .tc := ⟨.hbm, 724, rfl⟩
abbrev main_while0b_call6_v115 : Ref sig .tc := ⟨.hbm, 725, rfl⟩
abbrev main_while0b_call6_c_29 : Ref sig .tc := ⟨.hbm, 726, rfl⟩
abbrev main_while0b_call6_v116 : Ref sig .tc := ⟨.hbm, 727, rfl⟩
abbrev main_while0b_call6_v117 : Ref sig .tc := ⟨.hbm, 728, rfl⟩
abbrev main_while0b_call6_c_30 : Ref sig .tc := ⟨.hbm, 729, rfl⟩
abbrev main_while0b_call6_v118 : Ref sig .tc := ⟨.hbm, 730, rfl⟩
abbrev main_while0b_call6_v119 : Ref sig .tc := ⟨.hbm, 731, rfl⟩
abbrev main_while0b_call6_v120 : Ref sig .tc := ⟨.hbm, 732, rfl⟩
abbrev main_while0b_call6_v121 : Ref sig .tc := ⟨.hbm, 733, rfl⟩
abbrev main_while0b_call6_v122 : Ref sig .tc := ⟨.hbm, 734, rfl⟩
abbrev main_while0b_call6_c_31 : Ref sig .tc := ⟨.hbm, 735, rfl⟩
abbrev main_while0b_call6_v123 : Ref sig .tc := ⟨.hbm, 736, rfl⟩
abbrev main_while0b_call6_v124 : Ref sig .tc := ⟨.hbm, 737, rfl⟩
abbrev main_while0b_call6_c_32 : Ref sig .tc := ⟨.hbm, 738, rfl⟩
abbrev main_while0b_call6_v125 : Ref sig .tc := ⟨.hbm, 739, rfl⟩
abbrev main_while0b_call6_v126 : Ref sig .tc := ⟨.hbm, 740, rfl⟩
abbrev main_while0b_call6_v127 : Ref sig .tc := ⟨.hbm, 741, rfl⟩
abbrev main_while0b_call6_v128 : Ref sig .tc := ⟨.hbm, 742, rfl⟩
abbrev main_while0b_call6_v129 : Ref sig .tc := ⟨.hbm, 743, rfl⟩
abbrev main_while0b_call6_c_33 : Ref sig .tc := ⟨.hbm, 744, rfl⟩
abbrev main_while0b_call6_v130 : Ref sig .tc := ⟨.hbm, 745, rfl⟩
abbrev main_while0b_call6_v131 : Ref sig .tc := ⟨.hbm, 746, rfl⟩
abbrev main_while0b_call6_c_34 : Ref sig .tc := ⟨.hbm, 747, rfl⟩
abbrev main_while0b_call6_v132 : Ref sig .tc := ⟨.hbm, 748, rfl⟩
abbrev main_while0b_call6_v133 : Ref sig .tc := ⟨.hbm, 749, rfl⟩
abbrev main_while0b_call6_v134 : Ref sig .tc := ⟨.hbm, 750, rfl⟩
abbrev main_while0b_call6_v135 : Ref sig .tc := ⟨.hbm, 751, rfl⟩
abbrev main_while0b_call6_v136 : Ref sig .tc := ⟨.hbm, 752, rfl⟩
abbrev main_while0b_call6_v137 : Ref sig .tc := ⟨.hbm, 753, rfl⟩
abbrev main_while0b_call6_v138 : Ref sig .tc := ⟨.hbm, 754, rfl⟩
abbrev main_while0b_call6_v139 : Ref sig .tc := ⟨.hbm, 755, rfl⟩
abbrev main_while0b_call6_c_35 : Ref sig .tc := ⟨.hbm, 756, rfl⟩
abbrev main_while0b_call6_v140 : Ref sig .tc := ⟨.hbm, 757, rfl⟩
abbrev main_while0b_call6_v141 : Ref sig .tc := ⟨.hbm, 758, rfl⟩
abbrev main_while0b_call6_v142 : Ref sig .tc := ⟨.hbm, 759, rfl⟩
abbrev main_while0b_call6_c_36 : Ref sig .tc := ⟨.hbm, 760, rfl⟩
abbrev main_while0b_call6_v143 : Ref sig .tc := ⟨.hbm, 761, rfl⟩
abbrev main_while0b_call6_v144 : Ref sig .tc := ⟨.hbm, 762, rfl⟩
abbrev main_while0b_call6_c_37 : Ref sig .tc := ⟨.hbm, 763, rfl⟩
abbrev main_while0b_call6_v145 : Ref sig .tc := ⟨.hbm, 764, rfl⟩
abbrev main_while0b_call6_v146 : Ref sig .tc := ⟨.hbm, 765, rfl⟩
abbrev main_while0b_call6_v147 : Ref sig .tc := ⟨.hbm, 766, rfl⟩
abbrev main_while0b_call6_v148 : Ref sig .tc := ⟨.hbm, 767, rfl⟩
abbrev main_while0b_call6_v149 : Ref sig .tc := ⟨.hbm, 768, rfl⟩
abbrev main_while0b_call6_c_38 : Ref sig .tc := ⟨.hbm, 769, rfl⟩
abbrev main_while0b_call6_v150 : Ref sig .tc := ⟨.hbm, 770, rfl⟩
abbrev main_while0b_call6_v151 : Ref sig .tc := ⟨.hbm, 771, rfl⟩
abbrev main_while0b_call6_c_39 : Ref sig .tc := ⟨.hbm, 772, rfl⟩
abbrev main_while0b_call6_v152 : Ref sig .tc := ⟨.hbm, 773, rfl⟩
abbrev main_while0b_call6_v153 : Ref sig .tc := ⟨.hbm, 774, rfl⟩
abbrev main_while0b_call6_v154 : Ref sig .tc := ⟨.hbm, 775, rfl⟩
abbrev main_while0b_call6_v155 : Ref sig .tc := ⟨.hbm, 776, rfl⟩
abbrev main_while0b_call6_v156 : Ref sig .tc := ⟨.hbm, 777, rfl⟩
abbrev main_while0b_call6_c_40 : Ref sig .tc := ⟨.hbm, 778, rfl⟩
abbrev main_while0b_call6_v157 : Ref sig .tc := ⟨.hbm, 779, rfl⟩
abbrev main_while0b_call6_v158 : Ref sig .tc := ⟨.hbm, 780, rfl⟩
abbrev main_while0b_call6_c_41 : Ref sig .tc := ⟨.hbm, 781, rfl⟩
abbrev main_while0b_call6_v159 : Ref sig .tc := ⟨.hbm, 782, rfl⟩
abbrev main_while0b_call6_v160 : Ref sig .tc := ⟨.hbm, 783, rfl⟩
abbrev main_while0b_call6_v161 : Ref sig .tc := ⟨.hbm, 784, rfl⟩
abbrev main_while0b_call6_v162 : Ref sig .tc := ⟨.hbm, 785, rfl⟩
abbrev main_while0b_call6_v163 : Ref sig .tc := ⟨.hbm, 786, rfl⟩
abbrev main_while0b_call6_c_42 : Ref sig .tc := ⟨.hbm, 787, rfl⟩
abbrev main_while0b_call6_v164 : Ref sig .tc := ⟨.hbm, 788, rfl⟩
abbrev main_while0b_call6_v165 : Ref sig .tc := ⟨.hbm, 789, rfl⟩
abbrev main_while0b_call6_c_43 : Ref sig .tc := ⟨.hbm, 790, rfl⟩
abbrev main_while0b_call6_v166 : Ref sig .tc := ⟨.hbm, 791, rfl⟩
abbrev main_while0b_call6_v167 : Ref sig .tc := ⟨.hbm, 792, rfl⟩
abbrev main_while0b_call6_v168 : Ref sig .tc := ⟨.hbm, 793, rfl⟩
abbrev main_while0b_call6_v169 : Ref sig .tc := ⟨.hbm, 794, rfl⟩
abbrev main_while0b_call6_v170 : Ref sig .tc := ⟨.hbm, 795, rfl⟩
abbrev main_while0b_v96_0 : Ref sig .tc := ⟨.hbm, 796, rfl⟩
abbrev main_while0b_call6_v172 : Ref sig .tc := ⟨.hbm, 797, rfl⟩
abbrev main_while0b_call6_v173 : Ref sig .tc := ⟨.hbm, 798, rfl⟩
abbrev main_while0b_call6_c_44 : Ref sig .tc := ⟨.hbm, 799, rfl⟩
abbrev main_while0b_call6_v174 : Ref sig .tc := ⟨.hbm, 800, rfl⟩
abbrev main_while0b_v96_1 : Ref sig .tc := ⟨.hbm, 801, rfl⟩
abbrev main_while0b_v97 : Ref sig .tc := ⟨.hbm, 802, rfl⟩
abbrev main_while0b_cst_29 : Ref sig .tc := ⟨.hbm, 803, rfl⟩
abbrev main_while0b_v98 : Ref sig .tc := ⟨.hbm, 804, rfl⟩
abbrev main_while0b_v99 : Ref sig .tc := ⟨.hbm, 805, rfl⟩
abbrev main_while0b_cst_30 : Ref sig .tc := ⟨.hbm, 806, rfl⟩
abbrev main_while0b_call7_v0 : Ref sig .tc := ⟨.hbm, 807, rfl⟩
abbrev main_while0b_call7_v1 : Ref sig .tc := ⟨.hbm, 808, rfl⟩
abbrev main_while0b_v100 : Ref sig .tc := ⟨.hbm, 809, rfl⟩
abbrev main_while0b_v101 : Ref sig .tc := ⟨.hbm, 810, rfl⟩
abbrev main_while0b_v102 : Ref sig .tc := ⟨.hbm, 811, rfl⟩
abbrev main_while0b_cst_31 : Ref sig .tc := ⟨.hbm, 812, rfl⟩
abbrev main_while0b_v103 : Ref sig .tc := ⟨.hbm, 813, rfl⟩
abbrev main_while0b_v104 : Ref sig .tc := ⟨.hbm, 814, rfl⟩
abbrev main_while0b_cst_32 : Ref sig .tc := ⟨.hbm, 815, rfl⟩
abbrev main_while0b_call8_v0 : Ref sig .tc := ⟨.hbm, 816, rfl⟩
abbrev main_while0b_call8_v1 : Ref sig .tc := ⟨.hbm, 817, rfl⟩
abbrev main_while0b_v105 : Ref sig .tc := ⟨.hbm, 818, rfl⟩
abbrev main_while0b_v106 : Ref sig .tc := ⟨.hbm, 819, rfl⟩
abbrev main_while0b_v107 : Ref sig .tc := ⟨.hbm, 820, rfl⟩
abbrev main_while0b_v108 : Ref sig .tc := ⟨.hbm, 821, rfl⟩
abbrev main_while0b_v109 : Ref sig .tc := ⟨.hbm, 822, rfl⟩
abbrev main_while0b_v110 : Ref sig .tc := ⟨.hbm, 823, rfl⟩
abbrev main_while0b_v111 : Ref sig .tc := ⟨.hbm, 824, rfl⟩
abbrev main_while0b_v112 : Ref sig .tc := ⟨.hbm, 825, rfl⟩
abbrev main_while0b_v113 : Ref sig .tc := ⟨.hbm, 826, rfl⟩
abbrev main_while0b_v114 : Ref sig .tc := ⟨.hbm, 827, rfl⟩
abbrev main_while0b_c_33 : Ref sig .tc := ⟨.hbm, 828, rfl⟩
abbrev main_while0b_v115 : Ref sig .tc := ⟨.hbm, 829, rfl⟩
abbrev main_while0b_v116 : Ref sig .tc := ⟨.hbm, 830, rfl⟩
abbrev main_while0b_c_34 : Ref sig .tc := ⟨.hbm, 831, rfl⟩
abbrev main_while0b_v117 : Ref sig .tc := ⟨.hbm, 832, rfl⟩
abbrev main_while0b_v118 : Ref sig .tc := ⟨.hbm, 833, rfl⟩
abbrev main_while0b_c_35 : Ref sig .tc := ⟨.hbm, 834, rfl⟩
abbrev main_while0b_v119 : Ref sig .tc := ⟨.hbm, 835, rfl⟩
abbrev main_while0b_v120 : Ref sig .tc := ⟨.hbm, 836, rfl⟩
abbrev main_while0b_v121 : Ref sig .tc := ⟨.hbm, 837, rfl⟩
abbrev main_while0b_v122 : Ref sig .tc := ⟨.hbm, 838, rfl⟩
abbrev main_while0b_c_36 : Ref sig .tc := ⟨.hbm, 839, rfl⟩
abbrev main_while0b_v123 : Ref sig .tc := ⟨.hbm, 840, rfl⟩
abbrev main_while0b_v124 : Ref sig .tc := ⟨.hbm, 841, rfl⟩
abbrev main_while0b_v125 : Ref sig .tc := ⟨.hbm, 842, rfl⟩
abbrev main_while0b_v126 : Ref sig .tc := ⟨.hbm, 843, rfl⟩
abbrev main_while0b_call9_v0 : Ref sig .tc := ⟨.hbm, 844, rfl⟩
abbrev main_while0b_call9_c : Ref sig .tc := ⟨.hbm, 845, rfl⟩
abbrev main_while0b_call9_v1 : Ref sig .tc := ⟨.hbm, 846, rfl⟩
abbrev main_while0b_call9_v2 : Ref sig .tc := ⟨.hbm, 847, rfl⟩
abbrev main_while0b_call9_v3 : Ref sig .tc := ⟨.hbm, 848, rfl⟩
abbrev main_while0b_call9_v4 : Ref sig .tc := ⟨.hbm, 849, rfl⟩
abbrev main_while0b_call9_v5 : Ref sig .tc := ⟨.hbm, 850, rfl⟩
abbrev main_while0b_call9_v6 : Ref sig .tc := ⟨.hbm, 851, rfl⟩
abbrev main_while0b_call9_c_0 : Ref sig .tc := ⟨.hbm, 852, rfl⟩
abbrev main_while0b_call9_v7 : Ref sig .tc := ⟨.hbm, 853, rfl⟩
abbrev main_while0b_call9_v8 : Ref sig .tc := ⟨.hbm, 854, rfl⟩
abbrev main_while0b_call9_c_1 : Ref sig .tc := ⟨.hbm, 855, rfl⟩
abbrev main_while0b_call9_v9 : Ref sig .tc := ⟨.hbm, 856, rfl⟩
abbrev main_while0b_call9_v10 : Ref sig .tc := ⟨.hbm, 857, rfl⟩
abbrev main_while0b_call9_v11 : Ref sig .tc := ⟨.hbm, 858, rfl⟩
abbrev main_while0b_call9_v12 : Ref sig .tc := ⟨.hbm, 859, rfl⟩
abbrev main_while0b_call9_v13 : Ref sig .tc := ⟨.hbm, 860, rfl⟩
abbrev main_while0b_call9_c_2 : Ref sig .tc := ⟨.hbm, 861, rfl⟩
abbrev main_while0b_call9_v14 : Ref sig .tc := ⟨.hbm, 862, rfl⟩
abbrev main_while0b_call9_v15 : Ref sig .tc := ⟨.hbm, 863, rfl⟩
abbrev main_while0b_call9_c_3 : Ref sig .tc := ⟨.hbm, 864, rfl⟩
abbrev main_while0b_call9_v16 : Ref sig .tc := ⟨.hbm, 865, rfl⟩
abbrev main_while0b_call9_v17 : Ref sig .tc := ⟨.hbm, 866, rfl⟩
abbrev main_while0b_call9_v18 : Ref sig .tc := ⟨.hbm, 867, rfl⟩
abbrev main_while0b_call9_v19 : Ref sig .tc := ⟨.hbm, 868, rfl⟩
abbrev main_while0b_call9_v20 : Ref sig .tc := ⟨.hbm, 869, rfl⟩
abbrev main_while0b_call9_c_4 : Ref sig .tc := ⟨.hbm, 870, rfl⟩
abbrev main_while0b_call9_v21 : Ref sig .tc := ⟨.hbm, 871, rfl⟩
abbrev main_while0b_call9_v22 : Ref sig .tc := ⟨.hbm, 872, rfl⟩
abbrev main_while0b_call9_c_5 : Ref sig .tc := ⟨.hbm, 873, rfl⟩
abbrev main_while0b_call9_v23 : Ref sig .tc := ⟨.hbm, 874, rfl⟩
abbrev main_while0b_call9_v24 : Ref sig .tc := ⟨.hbm, 875, rfl⟩
abbrev main_while0b_call9_v25 : Ref sig .tc := ⟨.hbm, 876, rfl⟩
abbrev main_while0b_call9_v26 : Ref sig .tc := ⟨.hbm, 877, rfl⟩
abbrev main_while0b_call9_v27 : Ref sig .tc := ⟨.hbm, 878, rfl⟩
abbrev main_while0b_call9_c_6 : Ref sig .tc := ⟨.hbm, 879, rfl⟩
abbrev main_while0b_call9_v28 : Ref sig .tc := ⟨.hbm, 880, rfl⟩
abbrev main_while0b_call9_v29 : Ref sig .tc := ⟨.hbm, 881, rfl⟩
abbrev main_while0b_call9_c_7 : Ref sig .tc := ⟨.hbm, 882, rfl⟩
abbrev main_while0b_call9_v30 : Ref sig .tc := ⟨.hbm, 883, rfl⟩
abbrev main_while0b_call9_v31 : Ref sig .tc := ⟨.hbm, 884, rfl⟩
abbrev main_while0b_call9_v32 : Ref sig .tc := ⟨.hbm, 885, rfl⟩
abbrev main_while0b_call9_v33 : Ref sig .tc := ⟨.hbm, 886, rfl⟩
abbrev main_while0b_call9_v34 : Ref sig .tc := ⟨.hbm, 887, rfl⟩
abbrev main_while0b_call9_v35 : Ref sig .tc := ⟨.hbm, 888, rfl⟩
abbrev main_while0b_call9_v36 : Ref sig .tc := ⟨.hbm, 889, rfl⟩
abbrev main_while0b_call9_v37 : Ref sig .tc := ⟨.hbm, 890, rfl⟩
abbrev main_while0b_call9_c_8 : Ref sig .tc := ⟨.hbm, 891, rfl⟩
abbrev main_while0b_call9_v38 : Ref sig .tc := ⟨.hbm, 892, rfl⟩
abbrev main_while0b_call9_v39 : Ref sig .tc := ⟨.hbm, 893, rfl⟩
abbrev main_while0b_call9_v40 : Ref sig .tc := ⟨.hbm, 894, rfl⟩
abbrev main_while0b_call9_c_9 : Ref sig .tc := ⟨.hbm, 895, rfl⟩
abbrev main_while0b_call9_v41 : Ref sig .tc := ⟨.hbm, 896, rfl⟩
abbrev main_while0b_call9_v42 : Ref sig .tc := ⟨.hbm, 897, rfl⟩
abbrev main_while0b_call9_c_10 : Ref sig .tc := ⟨.hbm, 898, rfl⟩
abbrev main_while0b_call9_v43 : Ref sig .tc := ⟨.hbm, 899, rfl⟩
abbrev main_while0b_call9_v44 : Ref sig .tc := ⟨.hbm, 900, rfl⟩
abbrev main_while0b_call9_v45 : Ref sig .tc := ⟨.hbm, 901, rfl⟩
abbrev main_while0b_call9_v46 : Ref sig .tc := ⟨.hbm, 902, rfl⟩
abbrev main_while0b_call9_v47 : Ref sig .tc := ⟨.hbm, 903, rfl⟩
abbrev main_while0b_call9_c_11 : Ref sig .tc := ⟨.hbm, 904, rfl⟩
abbrev main_while0b_call9_v48 : Ref sig .tc := ⟨.hbm, 905, rfl⟩
abbrev main_while0b_call9_v49 : Ref sig .tc := ⟨.hbm, 906, rfl⟩
abbrev main_while0b_call9_c_12 : Ref sig .tc := ⟨.hbm, 907, rfl⟩
abbrev main_while0b_call9_v50 : Ref sig .tc := ⟨.hbm, 908, rfl⟩
abbrev main_while0b_call9_v51 : Ref sig .tc := ⟨.hbm, 909, rfl⟩
abbrev main_while0b_call9_v52 : Ref sig .tc := ⟨.hbm, 910, rfl⟩
abbrev main_while0b_call9_v53 : Ref sig .tc := ⟨.hbm, 911, rfl⟩
abbrev main_while0b_call9_v54 : Ref sig .tc := ⟨.hbm, 912, rfl⟩
abbrev main_while0b_call9_c_13 : Ref sig .tc := ⟨.hbm, 913, rfl⟩
abbrev main_while0b_call9_v55 : Ref sig .tc := ⟨.hbm, 914, rfl⟩
abbrev main_while0b_call9_v56 : Ref sig .tc := ⟨.hbm, 915, rfl⟩
abbrev main_while0b_call9_c_14 : Ref sig .tc := ⟨.hbm, 916, rfl⟩
abbrev main_while0b_call9_v57 : Ref sig .tc := ⟨.hbm, 917, rfl⟩
abbrev main_while0b_call9_v58 : Ref sig .tc := ⟨.hbm, 918, rfl⟩
abbrev main_while0b_call9_v59 : Ref sig .tc := ⟨.hbm, 919, rfl⟩
abbrev main_while0b_call9_v60 : Ref sig .tc := ⟨.hbm, 920, rfl⟩
abbrev main_while0b_call9_v61 : Ref sig .tc := ⟨.hbm, 921, rfl⟩
abbrev main_while0b_call9_c_15 : Ref sig .tc := ⟨.hbm, 922, rfl⟩
abbrev main_while0b_call9_v62 : Ref sig .tc := ⟨.hbm, 923, rfl⟩
abbrev main_while0b_call9_v63 : Ref sig .tc := ⟨.hbm, 924, rfl⟩
abbrev main_while0b_call9_c_16 : Ref sig .tc := ⟨.hbm, 925, rfl⟩
abbrev main_while0b_call9_v64 : Ref sig .tc := ⟨.hbm, 926, rfl⟩
abbrev main_while0b_call9_v65 : Ref sig .tc := ⟨.hbm, 927, rfl⟩
abbrev main_while0b_call9_v66 : Ref sig .tc := ⟨.hbm, 928, rfl⟩
abbrev main_while0b_call9_v67 : Ref sig .tc := ⟨.hbm, 929, rfl⟩
abbrev main_while0b_call9_v68 : Ref sig .tc := ⟨.hbm, 930, rfl⟩
abbrev main_while0b_call9_v69 : Ref sig .tc := ⟨.hbm, 931, rfl⟩
abbrev main_while0b_call9_v70 : Ref sig .tc := ⟨.hbm, 932, rfl⟩
abbrev main_while0b_call9_v71 : Ref sig .tc := ⟨.hbm, 933, rfl⟩
abbrev main_while0b_call9_c_17 : Ref sig .tc := ⟨.hbm, 934, rfl⟩
abbrev main_while0b_call9_v72 : Ref sig .tc := ⟨.hbm, 935, rfl⟩
abbrev main_while0b_call9_v73 : Ref sig .tc := ⟨.hbm, 936, rfl⟩
abbrev main_while0b_call9_v74 : Ref sig .tc := ⟨.hbm, 937, rfl⟩
abbrev main_while0b_call9_c_18 : Ref sig .tc := ⟨.hbm, 938, rfl⟩
abbrev main_while0b_call9_v75 : Ref sig .tc := ⟨.hbm, 939, rfl⟩
abbrev main_while0b_call9_v76 : Ref sig .tc := ⟨.hbm, 940, rfl⟩
abbrev main_while0b_call9_c_19 : Ref sig .tc := ⟨.hbm, 941, rfl⟩
abbrev main_while0b_call9_v77 : Ref sig .tc := ⟨.hbm, 942, rfl⟩
abbrev main_while0b_call9_v78 : Ref sig .tc := ⟨.hbm, 943, rfl⟩
abbrev main_while0b_call9_v79 : Ref sig .tc := ⟨.hbm, 944, rfl⟩
abbrev main_while0b_call9_v80 : Ref sig .tc := ⟨.hbm, 945, rfl⟩
abbrev main_while0b_call9_v81 : Ref sig .tc := ⟨.hbm, 946, rfl⟩
abbrev main_while0b_call9_c_20 : Ref sig .tc := ⟨.hbm, 947, rfl⟩
abbrev main_while0b_call9_v82 : Ref sig .tc := ⟨.hbm, 948, rfl⟩
abbrev main_while0b_call9_v83 : Ref sig .tc := ⟨.hbm, 949, rfl⟩
abbrev main_while0b_call9_c_21 : Ref sig .tc := ⟨.hbm, 950, rfl⟩
abbrev main_while0b_call9_v84 : Ref sig .tc := ⟨.hbm, 951, rfl⟩
abbrev main_while0b_call9_v85 : Ref sig .tc := ⟨.hbm, 952, rfl⟩
abbrev main_while0b_call9_v86 : Ref sig .tc := ⟨.hbm, 953, rfl⟩
abbrev main_while0b_call9_v87 : Ref sig .tc := ⟨.hbm, 954, rfl⟩
abbrev main_while0b_call9_v88 : Ref sig .tc := ⟨.hbm, 955, rfl⟩
abbrev main_while0b_call9_c_22 : Ref sig .tc := ⟨.hbm, 956, rfl⟩
abbrev main_while0b_call9_v89 : Ref sig .tc := ⟨.hbm, 957, rfl⟩
abbrev main_while0b_call9_v90 : Ref sig .tc := ⟨.hbm, 958, rfl⟩
abbrev main_while0b_call9_c_23 : Ref sig .tc := ⟨.hbm, 959, rfl⟩
abbrev main_while0b_call9_v91 : Ref sig .tc := ⟨.hbm, 960, rfl⟩
abbrev main_while0b_call9_v92 : Ref sig .tc := ⟨.hbm, 961, rfl⟩
abbrev main_while0b_call9_v93 : Ref sig .tc := ⟨.hbm, 962, rfl⟩
abbrev main_while0b_call9_v94 : Ref sig .tc := ⟨.hbm, 963, rfl⟩
abbrev main_while0b_call9_v95 : Ref sig .tc := ⟨.hbm, 964, rfl⟩
abbrev main_while0b_call9_c_24 : Ref sig .tc := ⟨.hbm, 965, rfl⟩
abbrev main_while0b_call9_v96 : Ref sig .tc := ⟨.hbm, 966, rfl⟩
abbrev main_while0b_call9_v97 : Ref sig .tc := ⟨.hbm, 967, rfl⟩
abbrev main_while0b_call9_c_25 : Ref sig .tc := ⟨.hbm, 968, rfl⟩
abbrev main_while0b_call9_v98 : Ref sig .tc := ⟨.hbm, 969, rfl⟩
abbrev main_while0b_call9_v99 : Ref sig .tc := ⟨.hbm, 970, rfl⟩
abbrev main_while0b_call9_v100 : Ref sig .tc := ⟨.hbm, 971, rfl⟩
abbrev main_while0b_call9_v101 : Ref sig .tc := ⟨.hbm, 972, rfl⟩
abbrev main_while0b_call9_v102 : Ref sig .tc := ⟨.hbm, 973, rfl⟩
abbrev main_while0b_call9_v103 : Ref sig .tc := ⟨.hbm, 974, rfl⟩
abbrev main_while0b_call9_v104 : Ref sig .tc := ⟨.hbm, 975, rfl⟩
abbrev main_while0b_call9_v105 : Ref sig .tc := ⟨.hbm, 976, rfl⟩
abbrev main_while0b_call9_c_26 : Ref sig .tc := ⟨.hbm, 977, rfl⟩
abbrev main_while0b_call9_v106 : Ref sig .tc := ⟨.hbm, 978, rfl⟩
abbrev main_while0b_call9_v107 : Ref sig .tc := ⟨.hbm, 979, rfl⟩
abbrev main_while0b_call9_v108 : Ref sig .tc := ⟨.hbm, 980, rfl⟩
abbrev main_while0b_call9_c_27 : Ref sig .tc := ⟨.hbm, 981, rfl⟩
abbrev main_while0b_call9_v109 : Ref sig .tc := ⟨.hbm, 982, rfl⟩
abbrev main_while0b_call9_v110 : Ref sig .tc := ⟨.hbm, 983, rfl⟩
abbrev main_while0b_call9_c_28 : Ref sig .tc := ⟨.hbm, 984, rfl⟩
abbrev main_while0b_call9_v111 : Ref sig .tc := ⟨.hbm, 985, rfl⟩
abbrev main_while0b_call9_v112 : Ref sig .tc := ⟨.hbm, 986, rfl⟩
abbrev main_while0b_call9_v113 : Ref sig .tc := ⟨.hbm, 987, rfl⟩
abbrev main_while0b_call9_v114 : Ref sig .tc := ⟨.hbm, 988, rfl⟩
abbrev main_while0b_call9_v115 : Ref sig .tc := ⟨.hbm, 989, rfl⟩
abbrev main_while0b_call9_c_29 : Ref sig .tc := ⟨.hbm, 990, rfl⟩
abbrev main_while0b_call9_v116 : Ref sig .tc := ⟨.hbm, 991, rfl⟩
abbrev main_while0b_call9_v117 : Ref sig .tc := ⟨.hbm, 992, rfl⟩
abbrev main_while0b_call9_c_30 : Ref sig .tc := ⟨.hbm, 993, rfl⟩
abbrev main_while0b_call9_v118 : Ref sig .tc := ⟨.hbm, 994, rfl⟩
abbrev main_while0b_call9_v119 : Ref sig .tc := ⟨.hbm, 995, rfl⟩
abbrev main_while0b_call9_v120 : Ref sig .tc := ⟨.hbm, 996, rfl⟩
abbrev main_while0b_call9_v121 : Ref sig .tc := ⟨.hbm, 997, rfl⟩
abbrev main_while0b_call9_v122 : Ref sig .tc := ⟨.hbm, 998, rfl⟩
abbrev main_while0b_call9_c_31 : Ref sig .tc := ⟨.hbm, 999, rfl⟩
abbrev main_while0b_call9_v123 : Ref sig .tc := ⟨.hbm, 1000, rfl⟩
abbrev main_while0b_call9_v124 : Ref sig .tc := ⟨.hbm, 1001, rfl⟩
abbrev main_while0b_call9_c_32 : Ref sig .tc := ⟨.hbm, 1002, rfl⟩
abbrev main_while0b_call9_v125 : Ref sig .tc := ⟨.hbm, 1003, rfl⟩
abbrev main_while0b_call9_v126 : Ref sig .tc := ⟨.hbm, 1004, rfl⟩
abbrev main_while0b_call9_v127 : Ref sig .tc := ⟨.hbm, 1005, rfl⟩
abbrev main_while0b_call9_v128 : Ref sig .tc := ⟨.hbm, 1006, rfl⟩
abbrev main_while0b_call9_v129 : Ref sig .tc := ⟨.hbm, 1007, rfl⟩
abbrev main_while0b_call9_c_33 : Ref sig .tc := ⟨.hbm, 1008, rfl⟩
abbrev main_while0b_call9_v130 : Ref sig .tc := ⟨.hbm, 1009, rfl⟩
abbrev main_while0b_call9_v131 : Ref sig .tc := ⟨.hbm, 1010, rfl⟩
abbrev main_while0b_call9_c_34 : Ref sig .tc := ⟨.hbm, 1011, rfl⟩
abbrev main_while0b_call9_v132 : Ref sig .tc := ⟨.hbm, 1012, rfl⟩
abbrev main_while0b_call9_v133 : Ref sig .tc := ⟨.hbm, 1013, rfl⟩
abbrev main_while0b_call9_v134 : Ref sig .tc := ⟨.hbm, 1014, rfl⟩
abbrev main_while0b_call9_v135 : Ref sig .tc := ⟨.hbm, 1015, rfl⟩
abbrev main_while0b_call9_v136 : Ref sig .tc := ⟨.hbm, 1016, rfl⟩
abbrev main_while0b_call9_v137 : Ref sig .tc := ⟨.hbm, 1017, rfl⟩
abbrev main_while0b_call9_v138 : Ref sig .tc := ⟨.hbm, 1018, rfl⟩
abbrev main_while0b_call9_v139 : Ref sig .tc := ⟨.hbm, 1019, rfl⟩
abbrev main_while0b_call9_c_35 : Ref sig .tc := ⟨.hbm, 1020, rfl⟩
abbrev main_while0b_call9_v140 : Ref sig .tc := ⟨.hbm, 1021, rfl⟩
abbrev main_while0b_call9_v141 : Ref sig .tc := ⟨.hbm, 1022, rfl⟩
abbrev main_while0b_call9_v142 : Ref sig .tc := ⟨.hbm, 1023, rfl⟩
abbrev main_while0b_call9_c_36 : Ref sig .tc := ⟨.hbm, 1024, rfl⟩
abbrev main_while0b_call9_v143 : Ref sig .tc := ⟨.hbm, 1025, rfl⟩
abbrev main_while0b_call9_v144 : Ref sig .tc := ⟨.hbm, 1026, rfl⟩
abbrev main_while0b_call9_c_37 : Ref sig .tc := ⟨.hbm, 1027, rfl⟩
abbrev main_while0b_call9_v145 : Ref sig .tc := ⟨.hbm, 1028, rfl⟩
abbrev main_while0b_call9_v146 : Ref sig .tc := ⟨.hbm, 1029, rfl⟩
abbrev main_while0b_call9_v147 : Ref sig .tc := ⟨.hbm, 1030, rfl⟩
abbrev main_while0b_call9_v148 : Ref sig .tc := ⟨.hbm, 1031, rfl⟩
abbrev main_while0b_call9_v149 : Ref sig .tc := ⟨.hbm, 1032, rfl⟩
abbrev main_while0b_call9_c_38 : Ref sig .tc := ⟨.hbm, 1033, rfl⟩
abbrev main_while0b_call9_v150 : Ref sig .tc := ⟨.hbm, 1034, rfl⟩
abbrev main_while0b_call9_v151 : Ref sig .tc := ⟨.hbm, 1035, rfl⟩
abbrev main_while0b_call9_c_39 : Ref sig .tc := ⟨.hbm, 1036, rfl⟩
abbrev main_while0b_call9_v152 : Ref sig .tc := ⟨.hbm, 1037, rfl⟩
abbrev main_while0b_call9_v153 : Ref sig .tc := ⟨.hbm, 1038, rfl⟩
abbrev main_while0b_call9_v154 : Ref sig .tc := ⟨.hbm, 1039, rfl⟩
abbrev main_while0b_call9_v155 : Ref sig .tc := ⟨.hbm, 1040, rfl⟩
abbrev main_while0b_call9_v156 : Ref sig .tc := ⟨.hbm, 1041, rfl⟩
abbrev main_while0b_call9_c_40 : Ref sig .tc := ⟨.hbm, 1042, rfl⟩
abbrev main_while0b_call9_v157 : Ref sig .tc := ⟨.hbm, 1043, rfl⟩
abbrev main_while0b_call9_v158 : Ref sig .tc := ⟨.hbm, 1044, rfl⟩
abbrev main_while0b_call9_c_41 : Ref sig .tc := ⟨.hbm, 1045, rfl⟩
abbrev main_while0b_call9_v159 : Ref sig .tc := ⟨.hbm, 1046, rfl⟩
abbrev main_while0b_call9_v160 : Ref sig .tc := ⟨.hbm, 1047, rfl⟩
abbrev main_while0b_call9_v161 : Ref sig .tc := ⟨.hbm, 1048, rfl⟩
abbrev main_while0b_call9_v162 : Ref sig .tc := ⟨.hbm, 1049, rfl⟩
abbrev main_while0b_call9_v163 : Ref sig .tc := ⟨.hbm, 1050, rfl⟩
abbrev main_while0b_call9_c_42 : Ref sig .tc := ⟨.hbm, 1051, rfl⟩
abbrev main_while0b_call9_v164 : Ref sig .tc := ⟨.hbm, 1052, rfl⟩
abbrev main_while0b_call9_v165 : Ref sig .tc := ⟨.hbm, 1053, rfl⟩
abbrev main_while0b_call9_c_43 : Ref sig .tc := ⟨.hbm, 1054, rfl⟩
abbrev main_while0b_call9_v166 : Ref sig .tc := ⟨.hbm, 1055, rfl⟩
abbrev main_while0b_call9_v167 : Ref sig .tc := ⟨.hbm, 1056, rfl⟩
abbrev main_while0b_call9_v168 : Ref sig .tc := ⟨.hbm, 1057, rfl⟩
abbrev main_while0b_call9_v169 : Ref sig .tc := ⟨.hbm, 1058, rfl⟩
abbrev main_while0b_call9_v170 : Ref sig .tc := ⟨.hbm, 1059, rfl⟩
abbrev main_while0b_v127_0 : Ref sig .tc := ⟨.hbm, 1060, rfl⟩
abbrev main_while0b_call9_v172 : Ref sig .tc := ⟨.hbm, 1061, rfl⟩
abbrev main_while0b_call9_v173 : Ref sig .tc := ⟨.hbm, 1062, rfl⟩
abbrev main_while0b_call9_c_44 : Ref sig .tc := ⟨.hbm, 1063, rfl⟩
abbrev main_while0b_call9_v174 : Ref sig .tc := ⟨.hbm, 1064, rfl⟩
abbrev main_while0b_v127_1 : Ref sig .tc := ⟨.hbm, 1065, rfl⟩
abbrev main_while0b_v128 : Ref sig .tc := ⟨.hbm, 1066, rfl⟩
abbrev main_while0b_c_37 : Ref sig .tc := ⟨.hbm, 1067, rfl⟩
abbrev main_while0b_v129 : Ref sig .tc := ⟨.hbm, 1068, rfl⟩
abbrev main_while0b_v130 : Ref sig .tc := ⟨.hbm, 1069, rfl⟩
abbrev main_while0b_c_38 : Ref sig .tc := ⟨.hbm, 1070, rfl⟩
abbrev main_while0b_v131 : Ref sig .tc := ⟨.hbm, 1071, rfl⟩
abbrev main_while0b_v132 : Ref sig .tc := ⟨.hbm, 1072, rfl⟩
abbrev main_while0b_v133 : Ref sig .tc := ⟨.hbm, 1073, rfl⟩
abbrev main_while0b_cst_39 : Ref sig .tc := ⟨.hbm, 1074, rfl⟩
abbrev main_while0b_v134 : Ref sig .tc := ⟨.hbm, 1075, rfl⟩
abbrev main_while0b_v135 : Ref sig .tc := ⟨.hbm, 1076, rfl⟩
abbrev main_while0b_cst_40 : Ref sig .tc := ⟨.hbm, 1077, rfl⟩
abbrev main_while0b_v136 : Ref sig .tc := ⟨.hbm, 1078, rfl⟩
abbrev main_while0b_v137 : Ref sig .tc := ⟨.hbm, 1079, rfl⟩
abbrev main_while0b_v138 : Ref sig .tc := ⟨.hbm, 1080, rfl⟩
abbrev main_while0b_v139 : Ref sig .tc := ⟨.hbm, 1081, rfl⟩
abbrev main_while0b_v140 : Ref sig .tc := ⟨.hbm, 1082, rfl⟩
abbrev main_while0b_v141 : Ref sig .tc := ⟨.hbm, 1083, rfl⟩
abbrev main_while0b_cst_41 : Ref sig .tc := ⟨.hbm, 1084, rfl⟩
abbrev main_while0b_v142 : Ref sig .tc := ⟨.hbm, 1085, rfl⟩
abbrev main_while0b_v143 : Ref sig .tc := ⟨.hbm, 1086, rfl⟩
abbrev main_while0b_v144 : Ref sig .tc := ⟨.hbm, 1087, rfl⟩
abbrev main_while0b_v145 : Ref sig .tc := ⟨.hbm, 1088, rfl⟩
abbrev main_while0b_v146 : Ref sig .tc := ⟨.hbm, 1089, rfl⟩
abbrev main_while0b_cst_42 : Ref sig .tc := ⟨.hbm, 1090, rfl⟩
abbrev main_while0b_v147 : Ref sig .tc := ⟨.hbm, 1091, rfl⟩
abbrev main_while0b_v148 : Ref sig .tc := ⟨.hbm, 1092, rfl⟩
abbrev main_while0b_v149 : Ref sig .tc := ⟨.hbm, 1093, rfl⟩
abbrev main_while0b_v150 : Ref sig .tc := ⟨.hbm, 1094, rfl⟩
abbrev main_while0b_c_43 : Ref sig .tc := ⟨.hbm, 1095, rfl⟩
abbrev main_while0b_call10_v0 : Ref sig .tc := ⟨.hbm, 1096, rfl⟩
abbrev main_while0b_call10_v1 : Ref sig .tc := ⟨.hbm, 1097, rfl⟩
abbrev main_while0b_v151 : Ref sig .tc := ⟨.hbm, 1098, rfl⟩
abbrev main_while0b_c_44 : Ref sig .tc := ⟨.hbm, 1099, rfl⟩
abbrev main_while0b_v152 : Ref sig .tc := ⟨.hbm, 1100, rfl⟩
abbrev main_while0b_call11_v0 : Ref sig .tc := ⟨.hbm, 1101, rfl⟩
abbrev main_while0b_call11_v1 : Ref sig .tc := ⟨.hbm, 1102, rfl⟩
abbrev main_while0b_call11_v2 : Ref sig .tc := ⟨.hbm, 1103, rfl⟩
abbrev main_while0b_call11_v3 : Ref sig .tc := ⟨.hbm, 1104, rfl⟩
abbrev main_while0b_call11_v4 : Ref sig .tc := ⟨.hbm, 1105, rfl⟩
abbrev main_while0b_v153 : Ref sig .tc := ⟨.hbm, 1106, rfl⟩
abbrev main_while0b_v154 : Ref sig .tc := ⟨.hbm, 1107, rfl⟩
abbrev main_while0b_v155 : Ref sig .tc := ⟨.hbm, 1108, rfl⟩
abbrev main_while0b_v156 : Ref sig .tc := ⟨.hbm, 1109, rfl⟩
abbrev main_while0b_v157 : Ref sig .tc := ⟨.hbm, 1110, rfl⟩
abbrev main_while0b_v158 : Ref sig .tc := ⟨.hbm, 1111, rfl⟩
abbrev main_while0b_v159 : Ref sig .tc := ⟨.hbm, 1112, rfl⟩
abbrev main_while0b_v160 : Ref sig .tc := ⟨.hbm, 1113, rfl⟩
abbrev main_while0b_v161 : Ref sig .tc := ⟨.hbm, 1114, rfl⟩
abbrev main_while0b_c_45 : Ref sig .tc := ⟨.hbm, 1115, rfl⟩
abbrev main_while0b_v162 : Ref sig .tc := ⟨.hbm, 1116, rfl⟩
abbrev main_while0b_v163 : Ref sig .tc := ⟨.hbm, 1117, rfl⟩
abbrev main_while0b_c_46 : Ref sig .tc := ⟨.hbm, 1118, rfl⟩
abbrev main_while0b_v164 : Ref sig .tc := ⟨.hbm, 1119, rfl⟩
abbrev main_while0b_v165 : Ref sig .tc := ⟨.hbm, 1120, rfl⟩
abbrev main_while0b_c_47 : Ref sig .tc := ⟨.hbm, 1121, rfl⟩
abbrev main_while0b_v166 : Ref sig .tc := ⟨.hbm, 1122, rfl⟩
abbrev main_while0b_v167 : Ref sig .tc := ⟨.hbm, 1123, rfl⟩
abbrev main_while0b_c_48 : Ref sig .tc := ⟨.hbm, 1124, rfl⟩
abbrev main_while0b_v168 : Ref sig .tc := ⟨.hbm, 1125, rfl⟩
abbrev main_while0b_v169 : Ref sig .tc := ⟨.hbm, 1126, rfl⟩
abbrev main_while0b_v170 : Ref sig .tc := ⟨.hbm, 1127, rfl⟩
abbrev main_while0b_v171 : Ref sig .tc := ⟨.hbm, 1128, rfl⟩
abbrev main_while0b_v172 : Ref sig .tc := ⟨.hbm, 1129, rfl⟩
abbrev main_while0b_c_49 : Ref sig .tc := ⟨.hbm, 1130, rfl⟩
abbrev main_while0b_v173 : Ref sig .tc := ⟨.hbm, 1131, rfl⟩
abbrev main_while0b_v174 : Ref sig .tc := ⟨.hbm, 1132, rfl⟩
abbrev main_while0b_v175 : Ref sig .tc := ⟨.hbm, 1133, rfl⟩
abbrev main_while0b_v176 : Ref sig .tc := ⟨.hbm, 1134, rfl⟩
abbrev main_while0b_call12_v0 : Ref sig .tc := ⟨.hbm, 1135, rfl⟩
abbrev main_while0b_call12_c : Ref sig .tc := ⟨.hbm, 1136, rfl⟩
abbrev main_while0b_call12_v1 : Ref sig .tc := ⟨.hbm, 1137, rfl⟩
abbrev main_while0b_call12_v2 : Ref sig .tc := ⟨.hbm, 1138, rfl⟩
abbrev main_while0b_call12_v3 : Ref sig .tc := ⟨.hbm, 1139, rfl⟩
abbrev main_while0b_call12_v4 : Ref sig .tc := ⟨.hbm, 1140, rfl⟩
abbrev main_while0b_call12_v5 : Ref sig .tc := ⟨.hbm, 1141, rfl⟩
abbrev main_while0b_call12_v6 : Ref sig .tc := ⟨.hbm, 1142, rfl⟩
abbrev main_while0b_call12_c_0 : Ref sig .tc := ⟨.hbm, 1143, rfl⟩
abbrev main_while0b_call12_v7 : Ref sig .tc := ⟨.hbm, 1144, rfl⟩
abbrev main_while0b_call12_v8 : Ref sig .tc := ⟨.hbm, 1145, rfl⟩
abbrev main_while0b_call12_c_1 : Ref sig .tc := ⟨.hbm, 1146, rfl⟩
abbrev main_while0b_call12_v9 : Ref sig .tc := ⟨.hbm, 1147, rfl⟩
abbrev main_while0b_call12_v10 : Ref sig .tc := ⟨.hbm, 1148, rfl⟩
abbrev main_while0b_call12_v11 : Ref sig .tc := ⟨.hbm, 1149, rfl⟩
abbrev main_while0b_call12_v12 : Ref sig .tc := ⟨.hbm, 1150, rfl⟩
abbrev main_while0b_call12_v13 : Ref sig .tc := ⟨.hbm, 1151, rfl⟩
abbrev main_while0b_call12_c_2 : Ref sig .tc := ⟨.hbm, 1152, rfl⟩
abbrev main_while0b_call12_v14 : Ref sig .tc := ⟨.hbm, 1153, rfl⟩
abbrev main_while0b_call12_v15 : Ref sig .tc := ⟨.hbm, 1154, rfl⟩
abbrev main_while0b_call12_c_3 : Ref sig .tc := ⟨.hbm, 1155, rfl⟩
abbrev main_while0b_call12_v16 : Ref sig .tc := ⟨.hbm, 1156, rfl⟩
abbrev main_while0b_call12_v17 : Ref sig .tc := ⟨.hbm, 1157, rfl⟩
abbrev main_while0b_call12_v18 : Ref sig .tc := ⟨.hbm, 1158, rfl⟩
abbrev main_while0b_call12_v19 : Ref sig .tc := ⟨.hbm, 1159, rfl⟩
abbrev main_while0b_call12_v20 : Ref sig .tc := ⟨.hbm, 1160, rfl⟩
abbrev main_while0b_call12_c_4 : Ref sig .tc := ⟨.hbm, 1161, rfl⟩
abbrev main_while0b_call12_v21 : Ref sig .tc := ⟨.hbm, 1162, rfl⟩
abbrev main_while0b_call12_v22 : Ref sig .tc := ⟨.hbm, 1163, rfl⟩
abbrev main_while0b_call12_c_5 : Ref sig .tc := ⟨.hbm, 1164, rfl⟩
abbrev main_while0b_call12_v23 : Ref sig .tc := ⟨.hbm, 1165, rfl⟩
abbrev main_while0b_call12_v24 : Ref sig .tc := ⟨.hbm, 1166, rfl⟩
abbrev main_while0b_call12_v25 : Ref sig .tc := ⟨.hbm, 1167, rfl⟩
abbrev main_while0b_call12_v26 : Ref sig .tc := ⟨.hbm, 1168, rfl⟩
abbrev main_while0b_call12_v27 : Ref sig .tc := ⟨.hbm, 1169, rfl⟩
abbrev main_while0b_call12_c_6 : Ref sig .tc := ⟨.hbm, 1170, rfl⟩
abbrev main_while0b_call12_v28 : Ref sig .tc := ⟨.hbm, 1171, rfl⟩
abbrev main_while0b_call12_v29 : Ref sig .tc := ⟨.hbm, 1172, rfl⟩
abbrev main_while0b_call12_c_7 : Ref sig .tc := ⟨.hbm, 1173, rfl⟩
abbrev main_while0b_call12_v30 : Ref sig .tc := ⟨.hbm, 1174, rfl⟩
abbrev main_while0b_call12_v31 : Ref sig .tc := ⟨.hbm, 1175, rfl⟩
abbrev main_while0b_call12_v32 : Ref sig .tc := ⟨.hbm, 1176, rfl⟩
abbrev main_while0b_call12_v33 : Ref sig .tc := ⟨.hbm, 1177, rfl⟩
abbrev main_while0b_call12_v34 : Ref sig .tc := ⟨.hbm, 1178, rfl⟩
abbrev main_while0b_call12_v35 : Ref sig .tc := ⟨.hbm, 1179, rfl⟩
abbrev main_while0b_call12_v36 : Ref sig .tc := ⟨.hbm, 1180, rfl⟩
abbrev main_while0b_call12_v37 : Ref sig .tc := ⟨.hbm, 1181, rfl⟩
abbrev main_while0b_call12_c_8 : Ref sig .tc := ⟨.hbm, 1182, rfl⟩
abbrev main_while0b_call12_v38 : Ref sig .tc := ⟨.hbm, 1183, rfl⟩
abbrev main_while0b_call12_v39 : Ref sig .tc := ⟨.hbm, 1184, rfl⟩
abbrev main_while0b_call12_v40 : Ref sig .tc := ⟨.hbm, 1185, rfl⟩
abbrev main_while0b_call12_c_9 : Ref sig .tc := ⟨.hbm, 1186, rfl⟩
abbrev main_while0b_call12_v41 : Ref sig .tc := ⟨.hbm, 1187, rfl⟩
abbrev main_while0b_call12_v42 : Ref sig .tc := ⟨.hbm, 1188, rfl⟩
abbrev main_while0b_call12_c_10 : Ref sig .tc := ⟨.hbm, 1189, rfl⟩
abbrev main_while0b_call12_v43 : Ref sig .tc := ⟨.hbm, 1190, rfl⟩
abbrev main_while0b_call12_v44 : Ref sig .tc := ⟨.hbm, 1191, rfl⟩
abbrev main_while0b_call12_v45 : Ref sig .tc := ⟨.hbm, 1192, rfl⟩
abbrev main_while0b_call12_v46 : Ref sig .tc := ⟨.hbm, 1193, rfl⟩
abbrev main_while0b_call12_v47 : Ref sig .tc := ⟨.hbm, 1194, rfl⟩
abbrev main_while0b_call12_c_11 : Ref sig .tc := ⟨.hbm, 1195, rfl⟩
abbrev main_while0b_call12_v48 : Ref sig .tc := ⟨.hbm, 1196, rfl⟩
abbrev main_while0b_call12_v49 : Ref sig .tc := ⟨.hbm, 1197, rfl⟩
abbrev main_while0b_call12_c_12 : Ref sig .tc := ⟨.hbm, 1198, rfl⟩
abbrev main_while0b_call12_v50 : Ref sig .tc := ⟨.hbm, 1199, rfl⟩
abbrev main_while0b_call12_v51 : Ref sig .tc := ⟨.hbm, 1200, rfl⟩
abbrev main_while0b_call12_v52 : Ref sig .tc := ⟨.hbm, 1201, rfl⟩
abbrev main_while0b_call12_v53 : Ref sig .tc := ⟨.hbm, 1202, rfl⟩
abbrev main_while0b_call12_v54 : Ref sig .tc := ⟨.hbm, 1203, rfl⟩
abbrev main_while0b_call12_c_13 : Ref sig .tc := ⟨.hbm, 1204, rfl⟩
abbrev main_while0b_call12_v55 : Ref sig .tc := ⟨.hbm, 1205, rfl⟩
abbrev main_while0b_call12_v56 : Ref sig .tc := ⟨.hbm, 1206, rfl⟩
abbrev main_while0b_call12_c_14 : Ref sig .tc := ⟨.hbm, 1207, rfl⟩
abbrev main_while0b_call12_v57 : Ref sig .tc := ⟨.hbm, 1208, rfl⟩
abbrev main_while0b_call12_v58 : Ref sig .tc := ⟨.hbm, 1209, rfl⟩
abbrev main_while0b_call12_v59 : Ref sig .tc := ⟨.hbm, 1210, rfl⟩
abbrev main_while0b_call12_v60 : Ref sig .tc := ⟨.hbm, 1211, rfl⟩
abbrev main_while0b_call12_v61 : Ref sig .tc := ⟨.hbm, 1212, rfl⟩
abbrev main_while0b_call12_c_15 : Ref sig .tc := ⟨.hbm, 1213, rfl⟩
abbrev main_while0b_call12_v62 : Ref sig .tc := ⟨.hbm, 1214, rfl⟩
abbrev main_while0b_call12_v63 : Ref sig .tc := ⟨.hbm, 1215, rfl⟩
abbrev main_while0b_call12_c_16 : Ref sig .tc := ⟨.hbm, 1216, rfl⟩
abbrev main_while0b_call12_v64 : Ref sig .tc := ⟨.hbm, 1217, rfl⟩
abbrev main_while0b_call12_v65 : Ref sig .tc := ⟨.hbm, 1218, rfl⟩
abbrev main_while0b_call12_v66 : Ref sig .tc := ⟨.hbm, 1219, rfl⟩
abbrev main_while0b_call12_v67 : Ref sig .tc := ⟨.hbm, 1220, rfl⟩
abbrev main_while0b_call12_v68 : Ref sig .tc := ⟨.hbm, 1221, rfl⟩
abbrev main_while0b_call12_v69 : Ref sig .tc := ⟨.hbm, 1222, rfl⟩
abbrev main_while0b_call12_v70 : Ref sig .tc := ⟨.hbm, 1223, rfl⟩
abbrev main_while0b_call12_v71 : Ref sig .tc := ⟨.hbm, 1224, rfl⟩
abbrev main_while0b_call12_c_17 : Ref sig .tc := ⟨.hbm, 1225, rfl⟩
abbrev main_while0b_call12_v72 : Ref sig .tc := ⟨.hbm, 1226, rfl⟩
abbrev main_while0b_call12_v73 : Ref sig .tc := ⟨.hbm, 1227, rfl⟩
abbrev main_while0b_call12_v74 : Ref sig .tc := ⟨.hbm, 1228, rfl⟩
abbrev main_while0b_call12_c_18 : Ref sig .tc := ⟨.hbm, 1229, rfl⟩
abbrev main_while0b_call12_v75 : Ref sig .tc := ⟨.hbm, 1230, rfl⟩
abbrev main_while0b_call12_v76 : Ref sig .tc := ⟨.hbm, 1231, rfl⟩
abbrev main_while0b_call12_c_19 : Ref sig .tc := ⟨.hbm, 1232, rfl⟩
abbrev main_while0b_call12_v77 : Ref sig .tc := ⟨.hbm, 1233, rfl⟩
abbrev main_while0b_call12_v78 : Ref sig .tc := ⟨.hbm, 1234, rfl⟩
abbrev main_while0b_call12_v79 : Ref sig .tc := ⟨.hbm, 1235, rfl⟩
abbrev main_while0b_call12_v80 : Ref sig .tc := ⟨.hbm, 1236, rfl⟩
abbrev main_while0b_call12_v81 : Ref sig .tc := ⟨.hbm, 1237, rfl⟩
abbrev main_while0b_call12_c_20 : Ref sig .tc := ⟨.hbm, 1238, rfl⟩
abbrev main_while0b_call12_v82 : Ref sig .tc := ⟨.hbm, 1239, rfl⟩
abbrev main_while0b_call12_v83 : Ref sig .tc := ⟨.hbm, 1240, rfl⟩
abbrev main_while0b_call12_c_21 : Ref sig .tc := ⟨.hbm, 1241, rfl⟩
abbrev main_while0b_call12_v84 : Ref sig .tc := ⟨.hbm, 1242, rfl⟩
abbrev main_while0b_call12_v85 : Ref sig .tc := ⟨.hbm, 1243, rfl⟩
abbrev main_while0b_call12_v86 : Ref sig .tc := ⟨.hbm, 1244, rfl⟩
abbrev main_while0b_call12_v87 : Ref sig .tc := ⟨.hbm, 1245, rfl⟩
abbrev main_while0b_call12_v88 : Ref sig .tc := ⟨.hbm, 1246, rfl⟩
abbrev main_while0b_call12_c_22 : Ref sig .tc := ⟨.hbm, 1247, rfl⟩
abbrev main_while0b_call12_v89 : Ref sig .tc := ⟨.hbm, 1248, rfl⟩
abbrev main_while0b_call12_v90 : Ref sig .tc := ⟨.hbm, 1249, rfl⟩
abbrev main_while0b_call12_c_23 : Ref sig .tc := ⟨.hbm, 1250, rfl⟩
abbrev main_while0b_call12_v91 : Ref sig .tc := ⟨.hbm, 1251, rfl⟩
abbrev main_while0b_call12_v92 : Ref sig .tc := ⟨.hbm, 1252, rfl⟩
abbrev main_while0b_call12_v93 : Ref sig .tc := ⟨.hbm, 1253, rfl⟩
abbrev main_while0b_call12_v94 : Ref sig .tc := ⟨.hbm, 1254, rfl⟩
abbrev main_while0b_call12_v95 : Ref sig .tc := ⟨.hbm, 1255, rfl⟩
abbrev main_while0b_call12_c_24 : Ref sig .tc := ⟨.hbm, 1256, rfl⟩
abbrev main_while0b_call12_v96 : Ref sig .tc := ⟨.hbm, 1257, rfl⟩
abbrev main_while0b_call12_v97 : Ref sig .tc := ⟨.hbm, 1258, rfl⟩
abbrev main_while0b_call12_c_25 : Ref sig .tc := ⟨.hbm, 1259, rfl⟩
abbrev main_while0b_call12_v98 : Ref sig .tc := ⟨.hbm, 1260, rfl⟩
abbrev main_while0b_call12_v99 : Ref sig .tc := ⟨.hbm, 1261, rfl⟩
abbrev main_while0b_call12_v100 : Ref sig .tc := ⟨.hbm, 1262, rfl⟩
abbrev main_while0b_call12_v101 : Ref sig .tc := ⟨.hbm, 1263, rfl⟩
abbrev main_while0b_call12_v102 : Ref sig .tc := ⟨.hbm, 1264, rfl⟩
abbrev main_while0b_call12_v103 : Ref sig .tc := ⟨.hbm, 1265, rfl⟩
abbrev main_while0b_call12_v104 : Ref sig .tc := ⟨.hbm, 1266, rfl⟩
abbrev main_while0b_call12_v105 : Ref sig .tc := ⟨.hbm, 1267, rfl⟩
abbrev main_while0b_call12_c_26 : Ref sig .tc := ⟨.hbm, 1268, rfl⟩
abbrev main_while0b_call12_v106 : Ref sig .tc := ⟨.hbm, 1269, rfl⟩
abbrev main_while0b_call12_v107 : Ref sig .tc := ⟨.hbm, 1270, rfl⟩
abbrev main_while0b_call12_v108 : Ref sig .tc := ⟨.hbm, 1271, rfl⟩
abbrev main_while0b_call12_c_27 : Ref sig .tc := ⟨.hbm, 1272, rfl⟩
abbrev main_while0b_call12_v109 : Ref sig .tc := ⟨.hbm, 1273, rfl⟩
abbrev main_while0b_call12_v110 : Ref sig .tc := ⟨.hbm, 1274, rfl⟩
abbrev main_while0b_call12_c_28 : Ref sig .tc := ⟨.hbm, 1275, rfl⟩
abbrev main_while0b_call12_v111 : Ref sig .tc := ⟨.hbm, 1276, rfl⟩
abbrev main_while0b_call12_v112 : Ref sig .tc := ⟨.hbm, 1277, rfl⟩
abbrev main_while0b_call12_v113 : Ref sig .tc := ⟨.hbm, 1278, rfl⟩
abbrev main_while0b_call12_v114 : Ref sig .tc := ⟨.hbm, 1279, rfl⟩
abbrev main_while0b_call12_v115 : Ref sig .tc := ⟨.hbm, 1280, rfl⟩
abbrev main_while0b_call12_c_29 : Ref sig .tc := ⟨.hbm, 1281, rfl⟩
abbrev main_while0b_call12_v116 : Ref sig .tc := ⟨.hbm, 1282, rfl⟩
abbrev main_while0b_call12_v117 : Ref sig .tc := ⟨.hbm, 1283, rfl⟩
abbrev main_while0b_call12_c_30 : Ref sig .tc := ⟨.hbm, 1284, rfl⟩
abbrev main_while0b_call12_v118 : Ref sig .tc := ⟨.hbm, 1285, rfl⟩
abbrev main_while0b_call12_v119 : Ref sig .tc := ⟨.hbm, 1286, rfl⟩
abbrev main_while0b_call12_v120 : Ref sig .tc := ⟨.hbm, 1287, rfl⟩
abbrev main_while0b_call12_v121 : Ref sig .tc := ⟨.hbm, 1288, rfl⟩
abbrev main_while0b_call12_v122 : Ref sig .tc := ⟨.hbm, 1289, rfl⟩
abbrev main_while0b_call12_c_31 : Ref sig .tc := ⟨.hbm, 1290, rfl⟩
abbrev main_while0b_call12_v123 : Ref sig .tc := ⟨.hbm, 1291, rfl⟩
abbrev main_while0b_call12_v124 : Ref sig .tc := ⟨.hbm, 1292, rfl⟩
abbrev main_while0b_call12_c_32 : Ref sig .tc := ⟨.hbm, 1293, rfl⟩
abbrev main_while0b_call12_v125 : Ref sig .tc := ⟨.hbm, 1294, rfl⟩
abbrev main_while0b_call12_v126 : Ref sig .tc := ⟨.hbm, 1295, rfl⟩
abbrev main_while0b_call12_v127 : Ref sig .tc := ⟨.hbm, 1296, rfl⟩
abbrev main_while0b_call12_v128 : Ref sig .tc := ⟨.hbm, 1297, rfl⟩
abbrev main_while0b_call12_v129 : Ref sig .tc := ⟨.hbm, 1298, rfl⟩
abbrev main_while0b_call12_c_33 : Ref sig .tc := ⟨.hbm, 1299, rfl⟩
abbrev main_while0b_call12_v130 : Ref sig .tc := ⟨.hbm, 1300, rfl⟩
abbrev main_while0b_call12_v131 : Ref sig .tc := ⟨.hbm, 1301, rfl⟩
abbrev main_while0b_call12_c_34 : Ref sig .tc := ⟨.hbm, 1302, rfl⟩
abbrev main_while0b_call12_v132 : Ref sig .tc := ⟨.hbm, 1303, rfl⟩
abbrev main_while0b_call12_v133 : Ref sig .tc := ⟨.hbm, 1304, rfl⟩
abbrev main_while0b_call12_v134 : Ref sig .tc := ⟨.hbm, 1305, rfl⟩
abbrev main_while0b_call12_v135 : Ref sig .tc := ⟨.hbm, 1306, rfl⟩
abbrev main_while0b_call12_v136 : Ref sig .tc := ⟨.hbm, 1307, rfl⟩
abbrev main_while0b_call12_v137 : Ref sig .tc := ⟨.hbm, 1308, rfl⟩
abbrev main_while0b_call12_v138 : Ref sig .tc := ⟨.hbm, 1309, rfl⟩
abbrev main_while0b_call12_v139 : Ref sig .tc := ⟨.hbm, 1310, rfl⟩
abbrev main_while0b_call12_c_35 : Ref sig .tc := ⟨.hbm, 1311, rfl⟩
abbrev main_while0b_call12_v140 : Ref sig .tc := ⟨.hbm, 1312, rfl⟩
abbrev main_while0b_call12_v141 : Ref sig .tc := ⟨.hbm, 1313, rfl⟩
abbrev main_while0b_call12_v142 : Ref sig .tc := ⟨.hbm, 1314, rfl⟩
abbrev main_while0b_call12_c_36 : Ref sig .tc := ⟨.hbm, 1315, rfl⟩
abbrev main_while0b_call12_v143 : Ref sig .tc := ⟨.hbm, 1316, rfl⟩
abbrev main_while0b_call12_v144 : Ref sig .tc := ⟨.hbm, 1317, rfl⟩
abbrev main_while0b_call12_c_37 : Ref sig .tc := ⟨.hbm, 1318, rfl⟩
abbrev main_while0b_call12_v145 : Ref sig .tc := ⟨.hbm, 1319, rfl⟩
abbrev main_while0b_call12_v146 : Ref sig .tc := ⟨.hbm, 1320, rfl⟩
abbrev main_while0b_call12_v147 : Ref sig .tc := ⟨.hbm, 1321, rfl⟩
abbrev main_while0b_call12_v148 : Ref sig .tc := ⟨.hbm, 1322, rfl⟩
abbrev main_while0b_call12_v149 : Ref sig .tc := ⟨.hbm, 1323, rfl⟩
abbrev main_while0b_call12_c_38 : Ref sig .tc := ⟨.hbm, 1324, rfl⟩
abbrev main_while0b_call12_v150 : Ref sig .tc := ⟨.hbm, 1325, rfl⟩
abbrev main_while0b_call12_v151 : Ref sig .tc := ⟨.hbm, 1326, rfl⟩
abbrev main_while0b_call12_c_39 : Ref sig .tc := ⟨.hbm, 1327, rfl⟩
abbrev main_while0b_call12_v152 : Ref sig .tc := ⟨.hbm, 1328, rfl⟩
abbrev main_while0b_call12_v153 : Ref sig .tc := ⟨.hbm, 1329, rfl⟩
abbrev main_while0b_call12_v154 : Ref sig .tc := ⟨.hbm, 1330, rfl⟩
abbrev main_while0b_call12_v155 : Ref sig .tc := ⟨.hbm, 1331, rfl⟩
abbrev main_while0b_call12_v156 : Ref sig .tc := ⟨.hbm, 1332, rfl⟩
abbrev main_while0b_call12_c_40 : Ref sig .tc := ⟨.hbm, 1333, rfl⟩
abbrev main_while0b_call12_v157 : Ref sig .tc := ⟨.hbm, 1334, rfl⟩
abbrev main_while0b_call12_v158 : Ref sig .tc := ⟨.hbm, 1335, rfl⟩
abbrev main_while0b_call12_c_41 : Ref sig .tc := ⟨.hbm, 1336, rfl⟩
abbrev main_while0b_call12_v159 : Ref sig .tc := ⟨.hbm, 1337, rfl⟩
abbrev main_while0b_call12_v160 : Ref sig .tc := ⟨.hbm, 1338, rfl⟩
abbrev main_while0b_call12_v161 : Ref sig .tc := ⟨.hbm, 1339, rfl⟩
abbrev main_while0b_call12_v162 : Ref sig .tc := ⟨.hbm, 1340, rfl⟩
abbrev main_while0b_call12_v163 : Ref sig .tc := ⟨.hbm, 1341, rfl⟩
abbrev main_while0b_call12_c_42 : Ref sig .tc := ⟨.hbm, 1342, rfl⟩
abbrev main_while0b_call12_v164 : Ref sig .tc := ⟨.hbm, 1343, rfl⟩
abbrev main_while0b_call12_v165 : Ref sig .tc := ⟨.hbm, 1344, rfl⟩
abbrev main_while0b_call12_c_43 : Ref sig .tc := ⟨.hbm, 1345, rfl⟩
abbrev main_while0b_call12_v166 : Ref sig .tc := ⟨.hbm, 1346, rfl⟩
abbrev main_while0b_call12_v167 : Ref sig .tc := ⟨.hbm, 1347, rfl⟩
abbrev main_while0b_call12_v168 : Ref sig .tc := ⟨.hbm, 1348, rfl⟩
abbrev main_while0b_call12_v169 : Ref sig .tc := ⟨.hbm, 1349, rfl⟩
abbrev main_while0b_call12_v170 : Ref sig .tc := ⟨.hbm, 1350, rfl⟩
abbrev main_while0b_v177_0 : Ref sig .tc := ⟨.hbm, 1351, rfl⟩
abbrev main_while0b_call12_v172 : Ref sig .tc := ⟨.hbm, 1352, rfl⟩
abbrev main_while0b_call12_v173 : Ref sig .tc := ⟨.hbm, 1353, rfl⟩
abbrev main_while0b_call12_c_44 : Ref sig .tc := ⟨.hbm, 1354, rfl⟩
abbrev main_while0b_call12_v174 : Ref sig .tc := ⟨.hbm, 1355, rfl⟩
abbrev main_while0b_v177_1 : Ref sig .tc := ⟨.hbm, 1356, rfl⟩
abbrev main_while0b_v178 : Ref sig .tc := ⟨.hbm, 1357, rfl⟩
abbrev main_while0b_c_50 : Ref sig .tc := ⟨.hbm, 1358, rfl⟩
abbrev main_while0b_v179 : Ref sig .tc := ⟨.hbm, 1359, rfl⟩
abbrev main_while0b_v180 : Ref sig .tc := ⟨.hbm, 1360, rfl⟩
abbrev main_while0b_c_51 : Ref sig .tc := ⟨.hbm, 1361, rfl⟩
abbrev main_while0b_v181 : Ref sig .tc := ⟨.hbm, 1362, rfl⟩
abbrev main_while0b_v182 : Ref sig .tc := ⟨.hbm, 1363, rfl⟩
abbrev main_while0b_v183 : Ref sig .tc := ⟨.hbm, 1364, rfl⟩
abbrev main_while0b_cst_52 : Ref sig .tc := ⟨.hbm, 1365, rfl⟩
abbrev main_while0b_v184 : Ref sig .tc := ⟨.hbm, 1366, rfl⟩
abbrev main_while0b_v185 : Ref sig .tc := ⟨.hbm, 1367, rfl⟩
abbrev main_while0b_cst_53 : Ref sig .tc := ⟨.hbm, 1368, rfl⟩
abbrev main_while0b_v186 : Ref sig .tc := ⟨.hbm, 1369, rfl⟩
abbrev main_while0b_v187 : Ref sig .tc := ⟨.hbm, 1370, rfl⟩
abbrev main_while0b_v188 : Ref sig .tc := ⟨.hbm, 1371, rfl⟩
abbrev main_while0b_v189 : Ref sig .tc := ⟨.hbm, 1372, rfl⟩
abbrev main_while0b_v190 : Ref sig .tc := ⟨.hbm, 1373, rfl⟩
abbrev main_while0b_v191 : Ref sig .tc := ⟨.hbm, 1374, rfl⟩
abbrev main_while0b_cst_54 : Ref sig .tc := ⟨.hbm, 1375, rfl⟩
abbrev main_while0b_v192 : Ref sig .tc := ⟨.hbm, 1376, rfl⟩
abbrev main_while0b_v193 : Ref sig .tc := ⟨.hbm, 1377, rfl⟩
abbrev main_while0b_v194 : Ref sig .tc := ⟨.hbm, 1378, rfl⟩
abbrev main_while0b_v195 : Ref sig .tc := ⟨.hbm, 1379, rfl⟩
abbrev main_while0b_v196 : Ref sig .tc := ⟨.hbm, 1380, rfl⟩
abbrev main_while0b_cst_55 : Ref sig .tc := ⟨.hbm, 1381, rfl⟩
abbrev main_while0b_v197 : Ref sig .tc := ⟨.hbm, 1382, rfl⟩
abbrev main_while0b_v198 : Ref sig .tc := ⟨.hbm, 1383, rfl⟩
abbrev main_while0b_v199 : Ref sig .tc := ⟨.hbm, 1384, rfl⟩
abbrev main_while0b_v200 : Ref sig .tc := ⟨.hbm, 1385, rfl⟩
abbrev main_while0b_c_56 : Ref sig .tc := ⟨.hbm, 1386, rfl⟩
abbrev main_while0b_call13_v0 : Ref sig .tc := ⟨.hbm, 1387, rfl⟩
abbrev main_while0b_call13_v1 : Ref sig .tc := ⟨.hbm, 1388, rfl⟩
abbrev main_while0b_v201 : Ref sig .tc := ⟨.hbm, 1389, rfl⟩
abbrev main_while0b_c_57 : Ref sig .tc := ⟨.hbm, 1390, rfl⟩
abbrev main_while0b_v202 : Ref sig .tc := ⟨.hbm, 1391, rfl⟩
abbrev main_while0b_call14_v0 : Ref sig .tc := ⟨.hbm, 1392, rfl⟩
abbrev main_while0b_call14_c : Ref sig .tc := ⟨.hbm, 1393, rfl⟩
abbrev main_while0b_call14_v1 : Ref sig .tc := ⟨.hbm, 1394, rfl⟩
abbrev main_while0b_call14_v2 : Ref sig .tc := ⟨.hbm, 1395, rfl⟩
abbrev main_while0b_call14_v3 : Ref sig .tc := ⟨.hbm, 1396, rfl⟩
abbrev main_while0b_call14_v4 : Ref sig .tc := ⟨.hbm, 1397, rfl⟩
abbrev main_while0b_call14_v5 : Ref sig .tc := ⟨.hbm, 1398, rfl⟩
abbrev main_while0b_call14_c_0 : Ref sig .tc := ⟨.hbm, 1399, rfl⟩
abbrev main_while0b_call14_v6 : Ref sig .tc := ⟨.hbm, 1400, rfl⟩
abbrev main_while0b_v203 : Ref sig .tc := ⟨.hbm, 1401, rfl⟩
abbrev main_while0b_v204 : Ref sig .tc := ⟨.hbm, 1402, rfl⟩
abbrev main_while0b_v205 : Ref sig .tc := ⟨.hbm, 1403, rfl⟩
abbrev main_while0b_call15_v0 : Ref sig .tc := ⟨.hbm, 1404, rfl⟩
abbrev main_while0b_call15_v1 : Ref sig .tc := ⟨.hbm, 1405, rfl⟩
abbrev main_while0b_call15_v2 : Ref sig .tc := ⟨.hbm, 1406, rfl⟩
abbrev main_while0b_call15_v3 : Ref sig .tc := ⟨.hbm, 1407, rfl⟩
abbrev main_while0b_call15_v4 : Ref sig .tc := ⟨.hbm, 1408, rfl⟩
abbrev main_while0b_v206 : Ref sig .tc := ⟨.hbm, 1409, rfl⟩
abbrev main_while0b_v207 : Ref sig .tc := ⟨.hbm, 1410, rfl⟩
abbrev main_while0b_v208 : Ref sig .tc := ⟨.hbm, 1411, rfl⟩
abbrev main_while0b_v209 : Ref sig .tc := ⟨.hbm, 1412, rfl⟩
abbrev main_while0b_v210 : Ref sig .tc := ⟨.hbm, 1413, rfl⟩
abbrev main_while0b_v211 : Ref sig .tc := ⟨.hbm, 1414, rfl⟩
abbrev main_while0b_v212 : Ref sig .tc := ⟨.hbm, 1415, rfl⟩
abbrev main_while0b_v213 : Ref sig .tc := ⟨.hbm, 1416, rfl⟩
abbrev main_while0b_v214 : Ref sig .tc := ⟨.hbm, 1417, rfl⟩
abbrev main_while0b_v215 : Ref sig .tc := ⟨.hbm, 1418, rfl⟩
abbrev main_while0b_v216 : Ref sig .tc := ⟨.hbm, 1419, rfl⟩
abbrev main_while0b_v217 : Ref sig .tc := ⟨.hbm, 1420, rfl⟩
abbrev main_while0b_v218 : Ref sig .tc := ⟨.hbm, 1421, rfl⟩
abbrev main_while0b_call16_v0 : Ref sig .tc := ⟨.hbm, 1422, rfl⟩
abbrev main_while0b_call16_c : Ref sig .tc := ⟨.hbm, 1423, rfl⟩
abbrev main_while0b_call16_c_0 : Ref sig .tc := ⟨.hbm, 1424, rfl⟩
abbrev main_while0b_call16_c_1 : Ref sig .tc := ⟨.hbm, 1425, rfl⟩
abbrev main_while0b_v219 : Ref sig .tc := ⟨.hbm, 1426, rfl⟩
abbrev main_while0b_call17_v0 : Ref sig .tc := ⟨.hbm, 1427, rfl⟩
abbrev main_while0b_call17_c : Ref sig .tc := ⟨.hbm, 1428, rfl⟩
abbrev main_while0b_call17_c_0 : Ref sig .tc := ⟨.hbm, 1429, rfl⟩
abbrev main_while0b_call17_c_1 : Ref sig .tc := ⟨.hbm, 1430, rfl⟩
abbrev main_while0b_call17_c_2 : Ref sig .tc := ⟨.hbm, 1431, rfl⟩
abbrev main_while0b_v220 : Ref sig .tc := ⟨.hbm, 1432, rfl⟩
abbrev main_while0b_call18_v0 : Ref sig .tc := ⟨.hbm, 1433, rfl⟩
abbrev main_while0b_call18_c : Ref sig .tc := ⟨.hbm, 1434, rfl⟩
abbrev main_while0b_call18_c_0 : Ref sig .tc := ⟨.hbm, 1435, rfl⟩
abbrev main_while0b_call18_c_1 : Ref sig .tc := ⟨.hbm, 1436, rfl⟩
abbrev main_while0b_v221 : Ref sig .tc := ⟨.hbm, 1437, rfl⟩
abbrev main_while0b_call19_v0 : Ref sig .tc := ⟨.hbm, 1438, rfl⟩
abbrev main_while0b_call19_c : Ref sig .tc := ⟨.hbm, 1439, rfl⟩
abbrev main_while0b_call19_c_0 : Ref sig .tc := ⟨.hbm, 1440, rfl⟩
abbrev main_while0b_call19_c_1 : Ref sig .tc := ⟨.hbm, 1441, rfl⟩
abbrev main_while0b_call19_c_2 : Ref sig .tc := ⟨.hbm, 1442, rfl⟩
abbrev main_while0b_v222 : Ref sig .tc := ⟨.hbm, 1443, rfl⟩
abbrev main_while0b_c_58 : Ref sig .tc := ⟨.hbm, 1444, rfl⟩
abbrev main_while0b_v223 : Ref sig .tc := ⟨.hbm, 1445, rfl⟩
abbrev main_call20_call0_cst : Ref sig .tc := ⟨.hbm, 1446, rfl⟩
abbrev main_call20_call0_v0 : Ref sig .tc := ⟨.hbm, 1447, rfl⟩
abbrev main_v39 : Ref sig .tc := ⟨.hbm, 1448, rfl⟩
abbrev main_v40 : Ref sig .tc := ⟨.hbm, 1449, rfl⟩
abbrev main_v41 : Ref sig .tc := ⟨.hbm, 1450, rfl⟩
abbrev main_v42 : Ref sig .tc := ⟨.hbm, 1451, rfl⟩
abbrev main_v43 : Ref sig .tc := ⟨.hbm, 1452, rfl⟩
abbrev main_v44 : Ref sig .tc := ⟨.hbm, 1453, rfl⟩
abbrev main_v45 : Ref sig .tc := ⟨.hbm, 1454, rfl⟩
abbrev main_v46 : Ref sig .tc := ⟨.hbm, 1455, rfl⟩
abbrev main_v47 : Ref sig .tc := ⟨.hbm, 1456, rfl⟩

abbrev nD : Nat := 1
abbrev τ : Topo := Topo.v7x

variable {F : FTy → Type} [FloatOps F]

abbrev main_while0_count : Scf.Loop 32 := ⟨0#32, 50#32, 1#32⟩
-- ==== Proof.Noise.lean ====
module
public import Idealize.ShloMosaic.PureOps.Ideal
/-!
# The noise: counter words and threefry

The bits of the noise are a threefry block of a pair of key words and a pair of counter words. This module writes the
block on single words.
-/
@[expose] public section
noncomputable section
namespace Cert.Noise
open Idealize.ShloMosaic

/-- A word turned left by `a`, where `b = 32 - a`. -/
def rot (a b x : BitVec 32) : BitVec 32 := IntOp.ori (x <<< a) (x >>> b)

/-- One round on the pair of state words. -/
def round (a b : BitVec 32) (p : BitVec 32 × BitVec 32) : BitVec 32 × BitVec 32 :=
  (p.1 + p.2, rot a b p.2 ^^^ (p.1 + p.2))

/-- Four rounds with the even rotations. -/
def roundsA (p : BitVec 32 × BitVec 32) : BitVec 32 × BitVec 32 :=
  round 6#32 26#32 (round 26#32 6#32 (round 15#32 17#32 (round 13#32 19#32 p)))

/-- Four rounds with the odd rotations. -/
def roundsB (p : BitVec 32 × BitVec 32) : BitVec 32 × BitVec 32 :=
  round 24#32 8#32 (round 16#32 16#32 (round 29#32 3#32 (round 17#32 15#32 p)))

/-- A key injection. -/
def inject (a b n : BitVec 32) (p : BitVec 32 × BitVec 32) : BitVec 32 × BitVec 32 := (p.1 + a, p.2 + b + n)

/-- The third key word. -/
def third (k1 k2 : BitVec 32) : BitVec 32 := (k1 ^^^ k2) ^^^ 466688986#32

/-- The twenty rounds after the first injection. -/
def rounds20 (k1 k2 : BitVec 32) (p : BitVec 32 × BitVec 32) : BitVec 32 × BitVec 32 :=
  inject (third k1 k2) k1 5#32 (roundsA (inject k2 (third k1 k2) 4#32 (roundsB (inject k1 k2 3#32 (roundsA
    (inject (third k1 k2) k1 2#32 (roundsB (inject k2 (third k1 k2) 1#32 (roundsA p)))))))))

/-- The threefry block of the counter words `h`, `l` under the key `k1`, `k2`. -/
def block (k1 k2 h l : BitVec 32) : BitVec 32 × BitVec 32 := rounds20 k1 k2 (h + k1, l + k2)

/-- The 32 bits drawn for the counter word `l` (the high word is zero). -/
def bits (k1 k2 l : BitVec 32) : BitVec 32 := (block k1 k2 0#32 l).1 ^^^ (block k1 k2 0#32 l).2

end Cert.Noise
-- ==== Proof.KernelTerms.lean ====
module
public import proofs.«01_k».proof.Proof.Gen.KernelIdeal.Frame
public import Idealize.ShloMosaic.Lib.Pipeline.ValueKit.Tiles
public import Idealize.ShloMosaic.Lib.Pipeline.ValueKit.Acc
public import Idealize.ShloMosaic.PureOps.Ideal
public import proofs.«01_k».proof.Proof.Noise
/-!
# What one grid step computes, as vectors

The scores of the classes, the winner marks and the lists of tiles a grid step stores.
-/
@[expose] public section
noncomputable section
namespace Cert.KernelIdeal.Gen
open Idealize.ShloMosaic Idealize.ShloMosaic.TcCoe Idealize.ShloMosaic.Tactic

variable {F : FTy → Type} [FloatOps F]

/-- The noise a word of random bits stands for. -/
def gumbel (w : BitVec 32) : F .f32 :=
  FloatOps.subf (Scalar.ofBits .f32 0x00000000#32) (FloatOps.log (FloatOps.subf (Scalar.ofBits .f32 0x00000000#32)
    (FloatOps.log (FloatOps.maximumf (FloatOps.subf (FloatOps.ofBits .f32 (IntOp.ori (w >>> 9#32) 1065353216#32))
      (Scalar.ofBits .f32 0x3F800000#32)) (Scalar.ofBits .f32 0x00800000#32)))))

/-- The weight of a class after a step: the state `s` kept by `1 - g`, the limit `l` by `g`, clipped to the unit interval. -/
def weight (s l g : F .f32) : F .f32 :=
  FloatOps.minimumf (Scalar.ofBits .f32 0x3F800000#32) (FloatOps.maximumf (Scalar.ofBits .f32 0x00000000#32)
    (FloatOps.addf (FloatOps.mulf s (Scalar.subf (Scalar.ofBits .f32 0x3F800000#32) g)) (FloatOps.mulf l g)))

/-- The counter word of a node's class in chunk `b0`. -/
def wordX (b0 : BitVec 32) (j : S16x16x64.Idx) : BitVec 32 :=
  (b0 + BitVec.ofNat 32 (0 * 16 + (j 0).val)) * 1024#32 + BitVec.ofNat 32 (0 * 64 + (j 2).val) * 16#32
    + BitVec.ofNat 32 (0 * 16 + (j 1).val)

/-- The scores of the nodes' classes. -/
def scoresX (s : FVec F S16x16x64 .f32) (l : FVec F S1x16x1 .f32) (g : F .f32) (b0 k1 k2 : BitVec 32) : FVec F S16x16x64 .f32 :=
  fun j => FloatOps.addf (gumbel (Noise.bits k1 k2 (wordX b0 j)))
    (FloatOps.log (weight (s j) (broadcastTo S16x16x64 (shapeCast S1x16x1 l shapeCasts_S1x16x1_S1x16x1) broadcasts_S1x16x1_S16x16x64 j) g))

theorem slicesX (c : Fin 16) : S16x16x64.Slices ![0, c.val, 0] S16x1x64 := by
  revert c; decide

/-- Class `c` of the scores. -/
def planeX (z : FVec F S16x16x64 .f32) (c : Fin 16) : FVec F S16x64 .f32 :=
  shapeCast S16x64 (extractStridedSlice S16x1x64 ![0, c.val, 0] z (slicesX c)) shapeCasts_S16x1x64_S16x64

/-- The least value. -/
def lowest (s : Shape) : FVec F s .f32 := broadcast s (Scalar.ofBits .f32 0xFF800000#32)

/-- The greatest of the first `n` planes. -/
def before {s : Shape} {m : ℕ} (pl : Fin m → FVec F s .f32) : (n : ℕ) → n ≤ m → FVec F s .f32
  | 0, _ => lowest s
  | n + 1, h => maximumf (before pl n (by omega)) (pl ⟨n, h⟩)

/-- The greatest of the last `n` planes. -/
def behind {s : Shape} {m : ℕ} (pl : Fin m → FVec F s .f32) : (n : ℕ) → n ≤ m → FVec F s .f32
  | 0, _ => lowest s
  | n + 1, h => maximumf (behind pl n (by omega)) (pl ⟨m - 1 - n, by omega⟩)

/-- Where plane `c` is the first of the greatest. -/
def wins {s : Shape} {m : ℕ} (pl : Fin m → FVec F s .f32) (c : Fin m) : IVec s 1 :=
  andi (cmpf .ogt (pl c) (before pl c.val (by omega))) (cmpf .oge (pl c) (behind pl (m - 1 - c.val) (by omega)))

/-- One where the mark is set, zero elsewhere. -/
def mark {s : Shape} (w : IVec s 1) : FVec F s .f32 :=
  select w (broadcast s (Scalar.ofBits .f32 0x3F800000#32)) (broadcast s (Scalar.ofBits .f32 0x00000000#32))

/-- The tiles `f (n - 1), …, f 0`: the last stored first. -/
def descending {α : Type*} {N : ℕ} (f : Fin N → α) : (n : ℕ) → n ≤ N → List α
  | 0, _ => []
  | n + 1, h => f ⟨n, h⟩ :: descending f n (by omega)

/-! ## The nodes' tiles -/

theorem inbX (c : Fin 16) : ∀ a, (![0, c.val, 0] : Fin 3 → ℕ) a + (![16, 1, 64] : Fin 3 → ℕ) a ≤ S16x16x64.size a := by
  revert c; decide

theorem inbTotX (c : Fin 16) : ∀ a, (![0, 0, c.val, 0] : Fin 4 → ℕ) a + (![16, 1, 1, 64] : Fin 4 → ℕ) a ≤ S16x1x16x64.size a := by
  revert c; decide

/-- The tile of class `c` stored to the state of the nodes. -/
def tileX (z : FVec F S16x16x64 .f32) (c : Fin 16) : View.Piece (Elt F) S16x16x64 .f32 :=
  ⟨Rect.unit ![0, c.val, 0] ![16, 1, 64] (inbX c), shapeCast S16x1x64 (mark (wins (planeX z) c)) shapeCasts_S16x64_S16x1x64⟩

/-- The tile of class `c` stored to the nodes' samples. -/
def tileTotX (z : FVec F S16x16x64 .f32) (c : Fin 16) : View.Piece (Elt F) S16x1x16x64 .f32 :=
  ⟨Rect.unit ![0, 0, c.val, 0] ![16, 1, 1, 64] (inbTotX c),
    shapeCast S16x1x1x64 (mark (wins (planeX z) c)) shapeCasts_S16x64_S16x1x1x64⟩

/-! ## The edges -/

/-- The lane's column: the lane modulo 64. -/
def lane (l : ℕ) : BitVec 32 := IntOp.andi (BitVec.ofNat 32 (0 * 128 + l)) 63#32

/-- The counter word of an edge's class in chunk `b0`: the pair's smaller index first. -/
def wordE (b0 : BitVec 32) (j : S8x5x64x128.Idx) : BitVec 32 :=
  (b0 + 2#32 * BitVec.ofNat 32 (0 * 8 + (j 0).val) + BitVec.ofNat 32 (0 * 128 + (j 3).val) >>> 6#32) * 20480#32
    + (IntOp.minsi (BitVec.ofNat 32 (0 * 64 + (j 2).val)) (lane (j 3).val) * 64#32
      + IntOp.maxsi (BitVec.ofNat 32 (0 * 64 + (j 2).val)) (lane (j 3).val)) * 5#32
    + BitVec.ofNat 32 (0 * 5 + (j 1).val)

/-- The scores of the edges' classes. -/
def scoresE (s : FVec F S8x5x64x128 .f32) (l : FVec F S1x5x1x1 .f32) (g : F .f32) (b0 k1 k2 : BitVec 32) : FVec F S8x5x64x128 .f32 :=
  fun j => FloatOps.addf (gumbel (Noise.bits k1 k2 (wordE b0 j)))
    (FloatOps.log (weight (s j) (broadcastTo S8x5x64x128 (shapeCast S1x5x1x1 l shapeCasts_S1x5x1x1_S1x5x1x1)
      broadcasts_S1x5x1x1_S8x5x64x128 j) g))

theorem slicesE (c : Fin 5) : S8x5x64x128.Slices ![0, c.val, 0, 0] S8x1x64x128 := by
  revert c; decide

/-- Class `c` of the scores. -/
def planeE (z : FVec F S8x5x64x128 .f32) (c : Fin 5) : FVec F S8x64x128 .f32 :=
  shapeCast S8x64x128 (extractStridedSlice S8x1x64x128 ![0, c.val, 0, 0] z (slicesE c)) shapeCasts_S8x1x64x128_S8x64x128

/-- Where an edge joins a node to itself. -/
def diagonal : IVec S8x64x128 1 := fun j => IntOp.cmpi .eq (BitVec.ofNat 32 (0 * 64 + (j 1).val)) (lane (j 2).val)

/-- The sample of class `c`: on the diagonal class 0. -/
def markE (z : FVec F S8x5x64x128 .f32) (c : Fin 5) : FVec F S8x64x128 .f32 :=
  select diagonal (broadcast S8x64x128 (match c.val with
    | 0 => Scalar.ofBits .f32 0x3F800000#32
    | _ + 1 => Scalar.ofBits .f32 0x00000000#32)) (mark (wins (planeE z) c))

theorem inbE (c : Fin 5) : ∀ a, (![0, c.val, 0, 0] : Fin 4 → ℕ) a + (![8, 1, 64, 128] : Fin 4 → ℕ) a ≤ S8x5x64x128.size a := by
  revert c; decide

theorem inbTotE (n : Fin 80) : ∀ a, (![n.val % 16, 0, n.val / 16, 0, 0] : Fin 5 → ℕ) a + (![1, 1, 1, 64, 64] : Fin 5 → ℕ) a
    ≤ S16x1x5x64x64.size a := by
  revert n; decide +kernel

theorem slicesTotE (n : Fin 80) : S8x64x128.Slices ![n.val % 16 / 2, 0, 64 * (n.val % 2)] S1x64x64 := by
  revert n; decide +kernel

theorem inbOutE (b : Fin 16) : ∀ a, (![b.val, 0, 0, 0, 0] : Fin 5 → ℕ) a + (![1, 1, 5, 64, 64] : Fin 5 → ℕ) a
    ≤ S16x1x5x64x64.size a := by
  revert b; decide

theorem slicesOutE (b : Fin 16) : S8x5x64x128.Slices ![b.val / 2, 0, 0, 64 * (b.val % 2)] S1x5x64x64 := by
  revert b; decide

/-- The tile of class `c` stored to the state of the edges. -/
def tileE (z : FVec F S8x5x64x128 .f32) (c : Fin 5) : View.Piece (Elt F) S8x5x64x128 .f32 :=
  ⟨Rect.unit ![0, c.val, 0, 0] ![8, 1, 64, 128] (inbE c), shapeCast S8x1x64x128 (markE z c) shapeCasts_S8x64x128_S8x1x64x128⟩

/-- The tile of graph `n % 16` and class `n / 16` stored to the edges' samples. -/
def tileTotE (z : FVec F S8x5x64x128 .f32) (n : Fin 80) : View.Piece (Elt F) S16x1x5x64x64 .f32 :=
  ⟨Rect.unit ![n.val % 16, 0, n.val / 16, 0, 0] ![1, 1, 1, 64, 64] (inbTotE n),
    shapeCast S1x1x1x64x64 (shapeCast S64x64 (extractStridedSlice S1x64x64 ![n.val % 16 / 2, 0, 64 * (n.val % 2)]
      (markE z ⟨n.val / 16, by omega⟩) (slicesTotE n)) shapeCasts_S1x64x64_S64x64) shapeCasts_S64x64_S1x1x1x64x64⟩

/-- The tile of graph `b` stored to the edges' states. -/
def tileOutE (s : FVec F S8x5x64x128 .f32) (b : Fin 16) : View.Piece (Elt F) S16x1x5x64x64 .f32 :=
  ⟨Rect.unit ![b.val, 0, 0, 0, 0] ![1, 1, 5, 64, 64] (inbOutE b),
    shapeCast S1x1x5x64x64 (shapeCast S5x64x64 (extractStridedSlice S1x5x64x64 ![b.val / 2, 0, 0, 64 * (b.val % 2)] s (slicesOutE b))
      shapeCasts_S1x5x64x64_S5x64x64) shapeCasts_S5x64x64_S1x1x5x64x64⟩

/-! ## The words a step reads -/

/-- The chunk's first graph. -/
def base (i : grid0.Coords) : BitVec 32 := Scalar.muli (BitVec.ofNat 32 (i 0).val) 16#32

/-- The two key words of the nodes' noise and the two of the edges'. -/
def kx1 (x : Vec F S1x1x4 .i32) : BitVec 32 := View.ld x (Rect.unit ![0, 0, 0] ![1, 1, 1] inb_S1x1x4_S1x1x1_0_0_0) (Shape.Idx.first (by decide))
@[inherit_doc kx1]
def kx2 (x : Vec F S1x1x4 .i32) : BitVec 32 := View.ld x (Rect.unit ![0, 0, 1] ![1, 1, 1] inb_S1x1x4_S1x1x1_0_0_1) (Shape.Idx.first (by decide))
@[inherit_doc kx1]
def ke1 (x : Vec F S1x1x4 .i32) : BitVec 32 := View.ld x (Rect.unit ![0, 0, 2] ![1, 1, 1] inb_S1x1x4_S1x1x1_0_0_2) (Shape.Idx.first (by decide))
@[inherit_doc kx1]
def ke2 (x : Vec F S1x1x4 .i32) : BitVec 32 := View.ld x (Rect.unit ![0, 0, 3] ![1, 1, 1] inb_S1x1x4_S1x1x1_0_0_3) (Shape.Idx.first (by decide))

/-- The share of the limit in the step. -/
def share (x : Vec F S1x1x1 .f32) : F .f32 := View.ld x (Rect.unit ![0, 0, 0] ![1, 1, 1] inb_S1x1x1_S1x1x1_0_0_0) (Shape.Idx.first (by decide))

/-- The scores of a step, from the state and the blocks it reads. -/
def stepX (i : grid0.Coords) (s : FVec F S16x16x64 .f32) (x2 : Vec F S1x1x4 .i32) (x3 : Vec F S1x1x1 .f32) (x4 : Vec F S1x16x1 .f32) :
    FVec F S16x16x64 .f32 :=
  scoresX s x4 (share x3) (base i) (kx1 x2) (kx2 x2)
@[inherit_doc stepX]
def stepE (i : grid0.Coords) (s : FVec F S8x5x64x128 .f32) (x2 : Vec F S1x1x4 .i32) (x3 : Vec F S1x1x1 .f32) (x5 : Vec F S1x5x1x1 .f32) :
    FVec F S8x5x64x128 .f32 :=
  scoresE s x5 (share x3) (base i) (ke1 x2) (ke2 x2)

/-! ## Loads of whole blocks -/

/-- A load of a whole block is the block. -/
theorem ld_nodes (x : Vec F S16x16x64 .f32) (h) : View.ld x (Rect.unit ![0, 0, 0] ![16, 16, 64] h) = x :=
  View.ld_unit_lit' (S := S16x16x64) (h := by decide) ..
@[inherit_doc ld_nodes]
theorem ld_edges (x : Vec F S8x5x64x128 .f32) (h) : View.ld x (Rect.unit ![0, 0, 0, 0] ![8, 5, 64, 128] h) = x :=
  View.ld_unit_lit' (S := S8x5x64x128) (h := by decide) ..
@[inherit_doc ld_nodes]
theorem ld_limitX (x : Vec F S1x16x1 .f32) (h) : View.ld x (Rect.unit ![0, 0, 0] ![1, 16, 1] h) = x :=
  View.ld_unit_lit' (S := S1x16x1) (h := by decide) ..
@[inherit_doc ld_nodes]
theorem ld_limitE (x : Vec F S1x5x1x1 .f32) (h) : View.ld x (Rect.unit ![0, 0, 0, 0] ![1, 5, 1, 1] h) = x :=
  View.ld_unit_lit' (S := S1x5x1x1) (h := by decide) ..

/-- A load of a whole buffer just stored whole is what was stored. -/
theorem readCov_nodes {κ : Kind} {sp : Space} (v : View sig κ sp S16x16x64 .f32) (x : Vec F S16x16x64 .f32) (h h') :
    v.readCov [⟨Rect.unit ![0, 0, 0] ![16, 16, 64] h, x⟩] (Rect.unit ![0, 0, 0] ![16, 16, 64] h').toLoadRect = x :=
  View.readCov_unit_lit' v h x (by decide)
@[inherit_doc readCov_nodes]
theorem readCov_edges {κ : Kind} {sp : Space} (v : View sig κ sp S8x5x64x128 .f32) (x : Vec F S8x5x64x128 .f32) (h h') :
    v.readCov [⟨Rect.unit ![0, 0, 0, 0] ![8, 5, 64, 128] h, x⟩] (Rect.unit ![0, 0, 0, 0] ![8, 5, 64, 128] h').toLoadRect = x :=
  View.readCov_unit_lit' v h x (by decide)

end Cert.KernelIdeal.Gen
-- ==== Proof.Winner.lean ====
module
public import Idealize.ShloMosaic.PureOps.Ideal
/-!
# The first greatest class

`First z c`: class `c` is the first of those whose score is greatest.
-/
@[expose] public section
noncomputable section
namespace Cert.Sampler

/-- Class `c` is the first of the greatest scores. -/
def First {n : ℕ} (z : Fin n → EReal) (c : Fin n) : Prop := (∀ a, a < c → z a < z c) ∧ ∀ a, z a ≤ z c

open Classical in
/-- The one-hot row of the first greatest class. -/
def pick {n : ℕ} (z : Fin n → EReal) (c : Fin n) : EReal := if First z c then 1 else 0

/-- The first greatest class is unique. -/
theorem First.unique {n : ℕ} {z : Fin n → EReal} {a b : Fin n} (ha : First z a) (hb : First z b) : a = b := by
  rcases lt_trichotomy a b with h | h | h
  · exact absurd (ha.2 b) (not_le.2 (hb.1 a h))
  · exact h
  · exact absurd (hb.2 a) (not_le.2 (ha.1 b h))

/-- There is a first greatest class. -/
theorem exists_first {n : ℕ} (z : Fin n → EReal) (m : Fin n) : ∃ c, First z c := by
  classical
  haveI : Nonempty (Fin n) := ⟨m⟩
  obtain ⟨b, hb⟩ := Finite.exists_max z
  let s := Finset.univ.filter fun c => ∀ a, z a ≤ z c
  have hs : s.Nonempty := ⟨b, by simp [s, hb]⟩
  refine ⟨s.min' hs, fun a ha => ?_, (Finset.mem_filter.1 (s.min'_mem hs)).2⟩
  by_contra hn
  have hm : a ∈ s := Finset.mem_filter.2 ⟨Finset.mem_univ _, fun e =>
    ((Finset.mem_filter.1 (s.min'_mem hs)).2 e).trans (not_lt.1 hn)⟩
  exact absurd (s.min'_le a hm) (not_le.2 ha)

theorem First.transfer {n : ℕ} {z z' : Fin n → EReal} (good : Fin n → Prop) {m : Fin n} (hm : good m)
    (hlt : ∀ a b, good a → good b → (z a < z b ↔ z' a < z' b)) (hbad : ∀ c, ¬good c → z c < z m)
    (hbad' : ∀ c, ¬good c → z' c < z' m) {c : Fin n} (h : First z c) : First z' c := by
  have hc : good c := by
    by_contra hn
    exact absurd (h.2 m) (not_le.2 (hbad c hn))
  have hle : ∀ a, z' a ≤ z' c := fun a => by
    by_cases ha : good a
    · exact not_lt.1 fun hl => absurd (h.2 a) (not_le.2 ((hlt c a hc ha).2 hl))
    · exact (hbad' a ha).le.trans (not_lt.1 fun hl => absurd (h.2 m) (not_le.2 ((hlt c m hc hm).2 hl)))
  refine ⟨fun a hac => ?_, hle⟩
  by_cases ha : good a
  · exact (hlt a c ha hc).1 (h.1 a hac)
  · exact (hbad' a ha).trans_le (hle m)

/-- Two scores that order the good classes alike, and under which every other class loses to a good one, have the same
    first greatest class. -/
theorem first_iff {n : ℕ} {z z' : Fin n → EReal} (good : Fin n → Prop) {m : Fin n} (hm : good m)
    (hlt : ∀ a b, good a → good b → (z a < z b ↔ z' a < z' b)) (hbad : ∀ c, ¬good c → z c < z m)
    (hbad' : ∀ c, ¬good c → z' c < z' m) (c : Fin n) : First z c ↔ First z' c :=
  ⟨First.transfer good hm hlt hbad hbad', First.transfer good hm (fun a b ha hb => (hlt a b ha hb).symm) hbad' hbad⟩

end Cert.Sampler
end
-- ==== Proof.Spec.lean ====
module
public import proofs.«01_k».proof.Proof.Winner
public import proofs.«01_k».proof.Proof.Noise
public import Idealize.ShloMosaic.PureOps.Ideal
public import Idealize.ShloMosaic.Lib.IdealHost
/-!
# The sampler

The states of the nodes and of the edges after `k` steps, from the inputs.
-/
@[expose] public section
noncomputable section
namespace Cert.Sampler
open Idealize.ShloMosaic

/-- The uniform number a word of random bits stands for. -/
def uniform (w : BitVec 32) : EReal :=
  max (Ideal.ofBits .f32 (w >>> 9#32 ||| 1065353216#32) - 1) (Ideal.ofBits .f32 0x00800000#32)

/-- The Gumbel noise a word of random bits stands for. -/
def gumbel (w : BitVec 32) : EReal := -Ideal.log (-Ideal.log (uniform w))

/-- The weight of a class after a step: the state kept by `1 - g`, the limit by `g`, clipped to the unit interval. -/
def weight (s l g : EReal) : EReal := min 1 (max 0 (s * (1 - g) + l * g))

/-- The score of a class. -/
def score (s l g : EReal) (w : BitVec 32) : EReal := gumbel w + Ideal.log (weight s l g)

/-- The key of step `k`. -/
def stepKey (k : ℕ) : BitVec 32 × BitVec 32 := Noise.block 0#32 1#32 0#32 (BitVec.ofNat 32 k)
/-- The key of the nodes' noise at step `k`. -/
def keyX (k : ℕ) : BitVec 32 × BitVec 32 := Noise.block (stepKey k).1 (stepKey k).2 0#32 0#32
/-- The key of the edges' noise at step `k`. -/
def keyE (k : ℕ) : BitVec 32 × BitVec 32 := Noise.block (stepKey k).1 (stepKey k).2 0#32 1#32

/-- The random word of class `c` of node `i` of graph `b` at step `k`. -/
def wordX (k b i c : ℕ) : BitVec 32 := Noise.bits (keyX k).1 (keyX k).2 (BitVec.ofNat 32 (b * 1024 + i * 16 + c))
/-- The random word of class `c` of edge `i j` of graph `b` at step `k`: that of the ordered pair. -/
def wordE (k b i j c : ℕ) : BitVec 32 :=
  Noise.bits (keyE k).1 (keyE k).2 (BitVec.ofNat 32 (b * 20480 + (min i j * 64 + max i j) * 5 + c))

/-- The inputs: the first states, the limits and the share of the limit at each step. -/
structure Inputs where
  X : Fin 32 → Fin 64 → Fin 16 → EReal
  E : Fin 32 → Fin 64 → Fin 64 → Fin 5 → EReal
  limX : Fin 16 → EReal
  limE : Fin 5 → EReal
  g : Fin 50 → EReal

/-- The share of the limit at step `k`. -/
def Inputs.share (I : Inputs) (k : ℕ) : EReal := if h : k < 50 then I.g ⟨k, h⟩ else 0

/-- The nodes' states before step `k`. -/
def nodes (I : Inputs) : ℕ → Fin 32 → Fin 64 → Fin 16 → EReal
  | 0 => I.X
  | k + 1 => fun b i => pick fun c => score (nodes I k b i c) (I.limX c) (I.share k) (wordX k b i c)

/-- The edges' states before step `k`: between a node and itself class 0. -/
def edges (I : Inputs) : ℕ → Fin 32 → Fin 64 → Fin 64 → Fin 5 → EReal
  | 0 => I.E
  | k + 1 => fun b i j c => if i = j then (if c = 0 then 1 else 0)
      else pick (fun c => score (edges I k b i j c) (I.limE c) (I.share k) (wordE k b i j c)) c

/-- The inputs the claim is about. -/
structure Inputs.Valid (I : Inputs) : Prop where
  symm : ∀ b i j c, I.E b i j c = I.E b j i c
  X : ∀ b i, ∃ c, (((2 : ℝ) ^ (-19 : ℤ) : ℝ) : EReal) ≤ I.X b i c
  E : ∀ b i j, i ≠ j → ∃ c, (((2 : ℝ) ^ (-19 : ℤ) : ℝ) : EReal) ≤ I.E b i j c
  limX : ∀ c, 0 ≤ I.limX c
  limE : ∀ c, 0 ≤ I.limE c
  g0 : ∀ k, 0 ≤ I.g k
  g1 : ∀ k, I.g k ≤ ((1 - (2 : ℝ) ^ (-19 : ℤ) : ℝ) : EReal)

theorem wordE_symm (k b i j c : ℕ) : wordE k b i j c = wordE k b j i c := by
  unfold wordE; rw [min_comm, max_comm]

/-- The edges' states are symmetric. -/
theorem edges_symm {I : Inputs} (h : I.Valid) : ∀ k b i j c, edges I k b i j c = edges I k b j i c
  | 0, b, i, j, c => h.symm b i j c
  | k + 1, b, i, j, c => by
    show (if i = j then _ else _) = (if j = i then _ else _)
    by_cases hij : i = j
    · rw [if_pos hij, if_pos hij.symm]
    · rw [if_neg hij, if_neg (Ne.symm hij)]
      exact congrFun (congrArg pick (funext fun e => congrArg₂ (fun x w => score x (I.limE e) (I.share k) w)
        (edges_symm h k b i j e) (wordE_symm k b i j e))) c

end Cert.Sampler
end
-- ==== Proof.Guard.lean ====
module
public import proofs.«01_k».proof.Proof.Spec
/-!
# Normalising and guarding the weights does not move the winner

The scores of a row of weights `p` against those of the row divided by its sum and kept above a small guard.
-/
@[expose] public section
noncomputable section
namespace Cert.Sampler
open Idealize.ShloMosaic

/-- The logarithm of a positive real. -/
theorem log_pos_coe {r : ℝ} (h : 0 < r) : Ideal.log (r : EReal) = (Real.log r : EReal) := by
  rw [Ideal.log_coe, if_neg (not_le.2 h)]

/-- The least sum a row is divided by, and the least weight kept. -/
def floor : EReal := Ideal.ofBits .f32 0x2B8CBCCC#32
@[inherit_doc floor]
def guard : EReal := Ideal.ofBits .f32 0x0DA24260#32

/-- A word of exponent `ex` and fraction `fr`, positive and normal, as a real number. -/
theorem ofBits_normal (b : BitVec 32) (ex fr : ℕ) (hn : b.extractLsb' 31 1 = 0#1) (he : (b.extractLsb' 23 8).toNat = ex)
    (hf : (b.extractLsb' 0 23).toNat = fr) (h0 : ex ≠ 0) (h1 : ex ≠ 255) :
    Ideal.ofBits .f32 b = (((2 ^ 23 + fr : ℕ) * (2 : ℝ) ^ ((ex : ℤ) - 150) : ℝ) : EReal) := by
  show Ideal.ieee 8 23 b = _
  unfold Ideal.ieee
  simp only [show (8 + 23 : ℕ) = 31 from rfl, hn, he, hf]
  rw [if_neg (show ¬ex = 2 ^ 8 - 1 from h1), if_neg h0, show (ex : ℤ) - (2 ^ (8 - 1) - 1) - ((23 : ℕ) : ℤ) = (ex : ℤ) - 150 by norm_num; ring]
  simp

theorem floor_eq : ∃ r : ℝ, floor = r ∧ 0 < r ∧ r ≤ (2 : ℝ) ^ (-38 : ℤ) :=
  ⟨_, ofBits_normal _ 87 834764 (by decide) (by decide) (by decide) (by decide) (by decide), by positivity, by norm_num⟩

theorem guard_eq : ∃ r : ℝ, guard = r ∧ 0 < r ∧ r ≤ (2 : ℝ) ^ (-99 : ℤ) :=
  ⟨_, ofBits_normal _ 27 2245216 (by decide) (by decide) (by decide) (by decide) (by decide), by positivity, by norm_num⟩

/-- The uniform number lies above the least normal number and below one. -/
theorem uniform_eq (w : BitVec 32) : ∃ r : ℝ, uniform w = r ∧ (2 : ℝ) ^ (-126 : ℤ) ≤ r ∧ r ≤ 1 - (2 : ℝ) ^ (-23 : ℤ) := by
  have hfr : ((w >>> 9#32 ||| 1065353216#32).extractLsb' 0 23).toNat < 2 ^ 23 := BitVec.isLt _
  have hb := ofBits_normal (w >>> 9#32 ||| 1065353216#32) 127 _ (by
      apply BitVec.eq_of_getLsbD_eq; intro i hi
      obtain rfl : i = 0 := by omega
      simp [BitVec.getLsbD_extractLsb']) (by
      have : (w >>> 9#32 ||| 1065353216#32).extractLsb' 23 8 = 127#8 := by
        apply BitVec.eq_of_getLsbD_eq; intro i hi
        have : w.getLsbD (9 + (23 + i)) = false := BitVec.getLsbD_of_ge _ _ (by omega)
        interval_cases i <;> simp [BitVec.getLsbD_extractLsb', this]
      rw [this]; rfl) rfl (by decide) (by decide)
  generalize ((w >>> 9#32 ||| 1065353216#32).extractLsb' 0 23).toNat = fr at hfr hb
  have ht := ofBits_normal 0x00800000#32 1 0 (by decide) (by decide) (by decide) (by decide) (by decide)
  have hfr' : (fr : ℝ) ≤ 8388607 := by exact_mod_cast (show fr ≤ 8388607 by omega)
  have h0 : (0 : ℝ) ≤ fr := Nat.cast_nonneg _
  refine ⟨max ((2 ^ 23 + fr : ℕ) * (2 : ℝ) ^ ((127 : ℤ) - 150) - 1) ((2 : ℝ) ^ (-126 : ℤ)), ?_, le_max_right _ _, ?_⟩
  · unfold uniform
    rw [hb, ht, EReal.coe_strictMono.monotone.map_max, EReal.coe_sub, EReal.coe_one]
    norm_num
  · refine max_le ?_ (by norm_num)
    push_cast
    norm_num
    linarith

/-- The noise lies between `-7 log 2` and `23 log 2`. -/
theorem gumbel_eq (w : BitVec 32) : ∃ r : ℝ, gumbel w = r ∧ -7 * Real.log 2 ≤ r ∧ r ≤ 23 * Real.log 2 := by
  obtain ⟨u, hu, h0, h1⟩ := uniform_eq w
  have hp : 0 < u := lt_of_lt_of_le (by positivity) h0
  have hL : 0 < Real.log 2 := Real.log_pos (by norm_num)
  have hl1 : Real.log 2 < 1 := by linarith [Real.log_lt_sub_one_of_pos (show (0 : ℝ) < 2 by norm_num) (by norm_num)]
  -- `v = -log u`
  have hv0 : (2 : ℝ) ^ (-23 : ℤ) ≤ -Real.log u := by
    have := Real.log_le_sub_one_of_pos hp
    linarith
  have hv1 : -Real.log u ≤ (2 : ℝ) ^ (7 : ℤ) := by
    have := Real.log_le_log (by positivity) h0
    rw [Real.log_zpow] at this
    push_cast at this
    norm_num at this ⊢
    linarith
  have hvp : 0 < -Real.log u := lt_of_lt_of_le (by positivity) hv0
  refine ⟨-Real.log (-Real.log u), ?_, ?_, ?_⟩
  · unfold gumbel
    rw [hu, log_pos_coe hp, ← EReal.coe_neg, log_pos_coe hvp, ← EReal.coe_neg]
  · have := Real.log_le_log hvp hv1
    rw [Real.log_zpow] at this
    push_cast at this; linarith
  · have := Real.log_le_log (by positivity) hv0
    rw [Real.log_zpow] at this
    push_cast at this; linarith

/-- A class's weight lies in the unit interval. -/
theorem weight_eq (s l g : EReal) : ∃ r : ℝ, weight s l g = r ∧ 0 ≤ r ∧ r ≤ 1 := by
  have h0 : (0 : EReal) ≤ weight s l g := le_min zero_le_one (le_max_left _ _)
  have h1 : weight s l g ≤ 1 := min_le_left _ _
  generalize weight s l g = x at h0 h1
  induction x with
  | bot => exact absurd h0 (by simp)
  | top => exact absurd (top_le_iff.1 h1) (EReal.coe_ne_top 1)
  | coe r => exact ⟨r, rfl, by exact_mod_cast h0, by exact_mod_cast h1⟩

/-- A class of weight at least `2^-19` keeps at least `2^-38` when at least `2^-19` of the state is kept. -/
theorem weight_low {s l g : EReal} (hs : (((2 : ℝ) ^ (-19 : ℤ) : ℝ) : EReal) ≤ s) (hl : 0 ≤ l) (hg : 0 ≤ g)
    (hg' : g ≤ ((1 - (2 : ℝ) ^ (-19 : ℤ) : ℝ) : EReal)) : (((2 : ℝ) ^ (-38 : ℤ) : ℝ) : EReal) ≤ weight s l g := by
  refine le_min (by exact_mod_cast (by norm_num : (2 : ℝ) ^ (-38 : ℤ) ≤ 1)) (le_max_of_le_right ?_)
  have hk : (((2 : ℝ) ^ (-19 : ℤ) : ℝ) : EReal) ≤ 1 - g := by
    induction g with
    | bot => exact absurd hg (by simp)
    | top => exact absurd (top_le_iff.1 hg') (EReal.coe_ne_top _)
    | coe g =>
      have := EReal.coe_le_coe_iff.1 hg'
      rw [← EReal.coe_one, ← EReal.coe_sub]
      exact EReal.coe_le_coe_iff.2 (by linarith)
  have hz : (0 : EReal) ≤ (((2 : ℝ) ^ (-19 : ℤ) : ℝ) : EReal) := by exact_mod_cast (by positivity : (0 : ℝ) ≤ (2 : ℝ) ^ (-19 : ℤ))
  calc (((2 : ℝ) ^ (-38 : ℤ) : ℝ) : EReal)
      = (((2 : ℝ) ^ (-19 : ℤ) : ℝ) : EReal) * (((2 : ℝ) ^ (-19 : ℤ) : ℝ) : EReal) := by
        rw [← EReal.coe_mul]; norm_num
    _ ≤ s * (1 - g) := mul_le_mul hs hk hz (hz.trans hs)
    _ ≤ s * (1 - g) + l * g := le_add_of_nonneg_right (mul_nonneg hl hg)

/-- Dividing the weights by their sum and keeping them above the guard does not move the first greatest class, where some
    class has weight at least `2^-38`. -/
theorem guarded_first {n : ℕ} (hn : n ≤ 16) (p : Fin n → EReal) (w : Fin n → BitVec 32)
    (hp : ∀ c, ∃ r : ℝ, p c = r ∧ 0 ≤ r ∧ r ≤ 1) {m0 : Fin n} (hm0 : (((2 : ℝ) ^ (-38 : ℤ) : ℝ) : EReal) ≤ p m0) (c : Fin n) :
    First (fun c => gumbel (w c) + Ideal.log (max (Ideal.div (p c) (max floor (∑ a, p a))) guard)) c
      ↔ First (fun c => gumbel (w c) + Ideal.log (p c)) c := by
  choose r hr hr0 hr1 using hp
  choose G hG hG0 hG1 using fun c => gumbel_eq (w c)
  obtain ⟨f, hf, hf0, hf1⟩ := floor_eq
  obtain ⟨e, he, he0, he1⟩ := guard_eq
  have hL : 0 < Real.log 2 := Real.log_pos (by norm_num)
  set S := ∑ a, r a with hS
  have hsum : ∑ a, p a = (S : EReal) := by
    rw [hS, Finset.sum_congr rfl fun a _ => hr a]; exact (map_sum (⟨⟨Real.toEReal, EReal.coe_zero⟩, EReal.coe_add⟩ : ℝ →+ EReal) r _).symm
  have hm0' : (2 : ℝ) ^ (-38 : ℤ) ≤ r m0 := EReal.coe_le_coe_iff.1 (hr m0 ▸ hm0)
  have hSm : r m0 ≤ S := Finset.single_le_sum (fun a _ => hr0 a) (Finset.mem_univ m0)
  have hSp : 0 < S := lt_of_lt_of_le (by positivity) (hm0'.trans hSm)
  have hfS : f ≤ S := hf1.trans (hm0'.trans hSm)
  have hmax : max floor (∑ a, p a) = (S : EReal) := by
    rw [hsum, hf]; exact max_eq_right (EReal.coe_le_coe_iff.2 hfS)
  have hdiv : ∀ c, Ideal.div (p c) (max floor (∑ a, p a)) = ((r c / S : ℝ) : EReal) := fun c => by
    rw [hmax, hr c]
    unfold Ideal.div
    rw [if_neg (by exact_mod_cast hSp.ne'), EReal.coe_div, EReal.div_eq_inv_mul, mul_comm]
  -- the greatest weight is at least a sixteenth of the sum
  haveI : Nonempty (Fin n) := ⟨m0⟩
  obtain ⟨m, hm⟩ := Finite.exists_max r
  have hmS : S ≤ 16 * r m := by
    have h1 : S ≤ n * r m := by
      have := Finset.sum_le_card_nsmul Finset.univ r (r m) (fun a _ => hm a)
      simpa using this
    have h2 : (n : ℝ) ≤ 16 := by exact_mod_cast hn
    nlinarith [hr0 m]
  have hrm : 0 < r m := by linarith
  have hlm : Real.log S - 4 * Real.log 2 ≤ Real.log (r m) := by
    have := Real.log_le_log hSp hmS
    rw [Real.log_mul (by norm_num) hrm.ne', show (16 : ℝ) = 2 ^ (4 : ℕ) by norm_num, Real.log_pow] at this
    push_cast at this; linarith
  have hle : Real.log e ≤ -99 * Real.log 2 := by
    have := Real.log_le_log he0 he1
    rw [Real.log_zpow] at this; push_cast at this; exact this
  -- the scores of a class that the guard leaves alone, and of one that it does not
  have hz : ∀ c, 0 < r c → gumbel (w c) + Ideal.log (p c) = ((G c + Real.log (r c) : ℝ) : EReal) := fun c hc => by
    rw [hG, hr, log_pos_coe hc, EReal.coe_add]
  have hz' : ∀ c, e ≤ r c / S → gumbel (w c) + Ideal.log (max (Ideal.div (p c) (max floor (∑ a, p a))) guard)
      = ((G c + Real.log (r c) - Real.log S : ℝ) : EReal) := fun c hc => by
    have hq : 0 < r c / S := lt_of_lt_of_le he0 hc
    have hc0 : 0 < r c := by
      rcases (hr0 c).eq_or_lt with h | h
      · rw [← h, zero_div] at hq; exact absurd hq (lt_irrefl _)
      · exact h
    rw [hdiv, he, max_eq_left (EReal.coe_le_coe_iff.2 hc), hG, log_pos_coe hq, ← EReal.coe_add,
      Real.log_div hc0.ne' hSp.ne', add_sub_assoc]
  have hb' : ∀ c, ¬e ≤ r c / S → gumbel (w c) + Ideal.log (max (Ideal.div (p c) (max floor (∑ a, p a))) guard)
      = ((G c + Real.log e : ℝ) : EReal) := fun c hc => by
    rw [hdiv, he, max_eq_right (EReal.coe_le_coe_iff.2 (not_le.1 hc).le), hG, log_pos_coe he0, ← EReal.coe_add]
  have hgm : e ≤ r m / S := by
    rw [le_div_iff₀ hSp]
    have : e ≤ 1 / 16 := he1.trans (by norm_num)
    nlinarith
  have hpos : ∀ c, e ≤ r c / S → 0 < r c := fun c hc => by
    have := (le_div_iff₀ hSp).1 hc
    have : 0 < e * S := mul_pos he0 hSp
    linarith
  refine (first_iff (fun c => e ≤ r c / S) hgm (fun a b ha hb => ?_) (fun c hc => ?_) (fun c hc => ?_) c).symm
  · show _ + _ < _ + _ ↔ _ + _ < _ + _
    rw [hz a (hpos a ha), hz b (hpos b hb), hz' a ha, hz' b hb, EReal.coe_lt_coe_iff, EReal.coe_lt_coe_iff]
    constructor <;> intro h <;> linarith
  · show _ + _ < _ + _
    rw [hz m hrm]
    rcases (hr0 c).eq_or_lt with h | h
    · rw [hG, hr, ← h, Ideal.log_coe, if_pos le_rfl, EReal.add_bot]
      exact EReal.bot_lt_coe _
    · rw [hz c h, EReal.coe_lt_coe_iff]
      have h1 : r c < e * S := (div_lt_iff₀ hSp).1 (not_le.1 hc)
      have h2 := Real.log_lt_log h h1
      rw [Real.log_mul he0.ne' hSp.ne'] at h2
      linarith [hG1 c, hG0 m]
  · show _ + _ < _ + _
    rw [hb' c hc, hz' m hgm, EReal.coe_lt_coe_iff]
    linarith [hG1 c, hG0 m]

end Cert.Sampler
end
-- ==== Proof.Live.lean ====
module
public import proofs.«01_k».proof.Proof.Guard
/-!
# Every row has a class of positive weight

So the winner of a step is a class of positive weight, and normalising and guarding the weights leaves it the winner.
-/
@[expose] public section
noncomputable section
namespace Cert.Sampler
open Idealize.ShloMosaic

/-- The winner of a row has weight one. -/
theorem exists_pick {n : ℕ} (z : Fin n → EReal) (m : Fin n) : ∃ c, (((2 : ℝ) ^ (-19 : ℤ) : ℝ) : EReal) ≤ pick z c := by
  obtain ⟨c, hc⟩ := exists_first z m
  refine ⟨c, ?_⟩
  unfold pick
  rw [if_pos hc]
  exact_mod_cast (by norm_num : (2 : ℝ) ^ (-19 : ℤ) ≤ 1)

theorem share_bounds {I : Inputs} (h : I.Valid) {k : ℕ} (hk : k < 50) :
    0 ≤ I.share k ∧ I.share k ≤ ((1 - (2 : ℝ) ^ (-19 : ℤ) : ℝ) : EReal) := by
  unfold Inputs.share
  rw [dif_pos hk]
  exact ⟨h.g0 _, h.g1 _⟩

/-- At every step every node has a class of weight at least `2^-38`. -/
theorem nodes_live {I : Inputs} (h : I.Valid) {k : ℕ} (hk : k < 50) (b : Fin 32) (i : Fin 64) :
    ∃ c, (((2 : ℝ) ^ (-38 : ℤ) : ℝ) : EReal) ≤ weight (nodes I k b i c) (I.limX c) (I.share k) := by
  have hs : ∃ c, (((2 : ℝ) ^ (-19 : ℤ) : ℝ) : EReal) ≤ nodes I k b i c := by
    cases k with
    | zero => exact h.X b i
    | succ k => exact exists_pick _ 0
  obtain ⟨c, hc⟩ := hs
  exact ⟨c, weight_low hc (h.limX c) (share_bounds h hk).1 (share_bounds h hk).2⟩

/-- At every step every edge between two different nodes has a class of weight at least `2^-38`. -/
theorem edges_live {I : Inputs} (h : I.Valid) {k : ℕ} (hk : k < 50) (b : Fin 32) {i j : Fin 64} (hij : i ≠ j) :
    ∃ c, (((2 : ℝ) ^ (-38 : ℤ) : ℝ) : EReal) ≤ weight (edges I k b i j c) (I.limE c) (I.share k) := by
  have hs : ∃ c, (((2 : ℝ) ^ (-19 : ℤ) : ℝ) : EReal) ≤ edges I k b i j c := by
    cases k with
    | zero => exact h.E b i j hij
    | succ k =>
      obtain ⟨c, hc⟩ := exists_pick (fun c => score (edges I k b i j c) (I.limE c) (I.share k) (wordE k b i j c)) 0
      refine ⟨c, hc.trans (le_of_eq ?_)⟩
      exact (if_neg hij).symm
  obtain ⟨c, hc⟩ := hs
  exact ⟨c, weight_low hc (h.limE c) (share_bounds h hk).1 (share_bounds h hk).2⟩

/-- The score with the weights divided by their sum and kept above the guard. -/
def guarded {n : ℕ} (p : Fin n → EReal) (w : BitVec 32) (c : Fin n) : EReal :=
  gumbel w + Ideal.log (max (Ideal.div (p c) (max floor (∑ a, p a))) guard)

/-- The guarded scores have the winner of the plain ones. -/
theorem guarded_iff {n : ℕ} (hn : n ≤ 16) (s l : Fin n → EReal) (g : EReal) (w : Fin n → BitVec 32)
    (h : ∃ c, (((2 : ℝ) ^ (-38 : ℤ) : ℝ) : EReal) ≤ weight (s c) (l c) g) (c : Fin n) :
    First (fun c => guarded (fun c => weight (s c) (l c) g) (w c) c) c ↔ First (fun c => score (s c) (l c) g (w c)) c := by
  obtain ⟨m, hm⟩ := h
  exact guarded_first hn (fun c => weight (s c) (l c) g) w (fun c => weight_eq _ _ _) hm c

/-- A class of positive weight has a score. -/
theorem bot_lt_score {s l g : EReal} (w : BitVec 32) (h : (((2 : ℝ) ^ (-38 : ℤ) : ℝ) : EReal) ≤ weight s l g) :
    ⊥ < score s l g w := by
  obtain ⟨r, hr, -, -⟩ := weight_eq s l g
  obtain ⟨G, hG, -, -⟩ := gumbel_eq w
  unfold score
  rw [hr] at h ⊢
  have : (0 : ℝ) < r := lt_of_lt_of_le (by positivity) (EReal.coe_le_coe_iff.1 h)
  rw [log_pos_coe this, hG, ← EReal.coe_add]
  exact EReal.bot_lt_coe _

end Cert.Sampler
end
-- ==== Proof.KernelTiles.lean ====
module
public import proofs.«01_k».proof.Proof.KernelTerms
public import proofs.«01_k».proof.Proof.Live
public import Idealize.ShloMosaic.Lib.Pointwise.Tactic
/-!
# Reading the tiles back

The value of a stored block at an index, from the tile that holds it; where a class wins.
-/
@[expose] public section
noncomputable section
namespace Cert.KernelIdeal.Gen
open Idealize.ShloMosaic Idealize.ShloMosaic.TcCoe Idealize.ShloMosaic.ValueIdx

theorem mem_descending {α : Type*} {N : ℕ} (f : Fin N → α) {p : α} : ∀ (n : ℕ) (h : n ≤ N), p ∈ descending f n h → ∃ k, p = f k
  | 0, _, hp => absurd hp List.not_mem_nil
  | n + 1, h, hp => (List.mem_cons.1 hp).elim (fun e => ⟨_, e⟩) (mem_descending f n _)

theorem descending_mem {α : Type*} {N : ℕ} (f : Fin N → α) (k : Fin N) : ∀ (n : ℕ) (h : n ≤ N), k.val < n → f k ∈ descending f n h
  | 0, _, hk => absurd hk (by omega)
  | n + 1, h, hk => by
    rcases Nat.lt_succ_iff_lt_or_eq.1 hk with hl | he
    · exact List.mem_cons_of_mem _ (descending_mem f k n _ hl)
    · have : k = ⟨n, h⟩ := Fin.ext he
      subst this
      exact List.mem_cons_self

section
variable {Val : EltTy → Type} {S : Shape} {e : EltTy} [∀ e, Nonempty (Val e)]

/-- Pieces stored later hide those stored before wherever they hold the index. -/
theorem canon_append : ∀ (L L' : List (View.Piece Val S e)) (y : S.Idx), (∃ p ∈ L, y ∈ p.1.set) →
    View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L L' y ?_
      obtain ⟨q, hq, hyq⟩ := hc
      rcases List.mem_cons.mp hq with rfl | hq'
      · exact absurd hyq hm
      · exact ⟨q, hq', hyq⟩

/-- A block stored tile by tile, read at an index some tile holds: the value every tile holding it has there. -/
theorem canon_descending {N : ℕ} (off : Fin N → Fin S.rank → ℕ) (size : Fin S.rank → ℕ)
    (inb : ∀ k a, off k a + size a ≤ S.size a) (P : Fin N → (⟨S.rank, size⟩ : Shape).Idx → Val e) (L : List (View.Piece Val S e))
    (y : S.Idx) (v : Val e) (hc : ∃ k, ∀ a, off k a ≤ y a ∧ (y a : ℕ) < off k a + size a)
    (h : ∀ k, View.TileAt y (off k) size (P k) v) :
    View.canon (descending (fun k => (⟨Rect.unit (off k) size (inb k), P k⟩ : View.Piece Val S e)) N le_rfl ++ L) y = v := by
  obtain ⟨k, hk⟩ := hc
  have hcov : ∃ p ∈ descending (fun k => (⟨Rect.unit (off k) size (inb k), P k⟩ : View.Piece Val S e)) N le_rfl, y ∈ p.1.set :=
    ⟨_, descending_mem _ k N le_rfl k.isLt, (Rect.mem_set_unit (inb := inb k)).mpr hk⟩
  rw [canon_append _ _ _ hcov]
  refine View.canon_eq_of_allAt _ y v hcov fun p hp x hx => ?_
  obtain ⟨k, rfl⟩ := mem_descending _ N le_rfl hp
  exact h k x fun a => by rw [← hx, Rect.emb_apply]; show off k a + 1 * (x a : ℕ) = _; omega
end

/-! ## The winner -/

theorem lowest_apply (s : Shape) (i : s.Idx) : (lowest s : FVec Ideal s .f32) i = ⊥ := by
  show Ideal.ofBits .f32 0xFF800000#32 = ⊥
  simp [Ideal.ofBits, Ideal.ieee]

theorem before_lt {s : Shape} {m : ℕ} (pl : Fin m → FVec Ideal s .f32) (i : s.Idx) (x : EReal) : ∀ (n : ℕ) (h : n ≤ m),
    before pl n h i < x ↔ ⊥ < x ∧ ∀ a : Fin m, a.val < n → pl a i < x
  | 0, _ => by
    show (lowest s : FVec Ideal s .f32) i < x ↔ _
    rw [lowest_apply]
    exact ⟨fun h => ⟨h, fun a ha => absurd ha (by omega)⟩, fun h => h.1⟩
  | n + 1, h => by
    show max (before pl n (by omega) i) (pl ⟨n, h⟩ i) < x ↔ _
    rw [max_lt_iff, before_lt pl i x n (by omega)]
    constructor
    · rintro ⟨⟨h0, h1⟩, h2⟩
      refine ⟨h0, fun a ha => ?_⟩
      rcases Nat.lt_succ_iff_lt_or_eq.1 ha with hl | he
      · exact h1 a hl
      · rw [show a = ⟨n, h⟩ from Fin.ext he]; exact h2
    · rintro ⟨h0, h1⟩
      exact ⟨⟨h0, fun a ha => h1 a (by omega)⟩, h1 _ (by show n < n + 1; omega)⟩

theorem behind_le {s : Shape} {m : ℕ} (pl : Fin m → FVec Ideal s .f32) (i : s.Idx) (x : EReal) : ∀ (n : ℕ) (h : n ≤ m),
    behind pl n h i ≤ x ↔ ∀ a : Fin m, m - n ≤ a.val → pl a i ≤ x
  | 0, _ => by
    show (lowest s : FVec Ideal s .f32) i ≤ x ↔ _
    rw [lowest_apply]
    exact ⟨fun _ a ha => absurd ha (by omega), fun _ => bot_le⟩
  | n + 1, h => by
    show max (behind pl n (by omega) i) (pl ⟨m - 1 - n, by omega⟩ i) ≤ x ↔ _
    rw [max_le_iff, behind_le pl i x n (by omega)]
    constructor
    · rintro ⟨h1, h2⟩ a ha
      by_cases he : a.val = m - 1 - n
      · rw [show a = ⟨m - 1 - n, by omega⟩ from Fin.ext he]; exact h2
      · exact h1 a (by omega)
    · intro h1
      exact ⟨fun a ha => h1 a (by omega), h1 _ (by show m - (n + 1) ≤ m - 1 - n; omega)⟩

/-- A class is marked exactly when it is the first of the greatest, where some score is not the least value. -/
theorem mark_wins {s : Shape} {m : ℕ} (pl : Fin m → FVec Ideal s .f32) (i : s.Idx) (hl : ∃ a, ⊥ < pl a i) (c : Fin m) :
    (mark (wins pl c) : FVec Ideal s .f32) i = Sampler.pick (fun a => pl a i) c := by
  have hw : (wins pl c i = 1#1) ↔ Sampler.First (fun a => pl a i) c := by
    show BitVec.ofBool (decide (before pl c.val (by omega) i < pl c i))
      &&& BitVec.ofBool (decide (behind pl (m - 1 - c.val) (by omega) i ≤ pl c i)) = 1#1 ↔ _
    have hb := before_lt pl i (pl c i) c.val (by omega)
    have hh := behind_le pl i (pl c i) (m - 1 - c.val) (by omega)
    have : (BitVec.ofBool (decide (before pl c.val (by omega) i < pl c i))
      &&& BitVec.ofBool (decide (behind pl (m - 1 - c.val) (by omega) i ≤ pl c i)) = 1#1) ↔
        (before pl c.val (by omega) i < pl c i ∧ behind pl (m - 1 - c.val) (by omega) i ≤ pl c i) := by
      by_cases h1 : before pl c.val (by omega) i < pl c i <;>
        by_cases h2 : behind pl (m - 1 - c.val) (by omega) i ≤ pl c i <;> simp [h1, h2]
    rw [this, hb, hh]
    constructor
    · rintro ⟨⟨-, h1⟩, h2⟩
      refine ⟨fun a ha => h1 a ha, fun a => ?_⟩
      rcases lt_trichotomy a c with h | h | h
      · exact (h1 a h).le
      · rw [h]
      · exact h2 a (by have : c.val < a.val := h; omega)
    · rintro ⟨h1, h2⟩
      obtain ⟨a, ha⟩ := hl
      exact ⟨⟨ha.trans_le (h2 a), fun a ha => h1 a ha⟩, fun a _ => h2 a⟩
  show (if wins pl c i = 1#1 then Ideal.ofBits .f32 0x3F800000#32 else Ideal.ofBits .f32 0x00000000#32) = _
  unfold Sampler.pick
  rw [Ideal.ofBits_one_f32, Ideal.ofBits_zero_f32]
  by_cases h : Sampler.First (fun a => pl a i) c
  · rw [if_pos h, if_pos (hw.2 h)]
  · rw [if_neg h, if_neg fun e => h (hw.1 e)]

end Cert.KernelIdeal.Gen
end
-- ==== Proof.KernelValues.lean ====
module
public import proofs.«01_k».proof.Proof.KernelTiles
public import Idealize.ShloMosaic.Lib.Pointwise
/-!
# The stored blocks at an index

What the tiles a grid step stores hold at an index, from the scores.
-/
@[expose] public section
noncomputable section
namespace Cert.KernelIdeal.Gen
open Idealize.ShloMosaic Idealize.ShloMosaic.TcCoe

theorem planeX_apply (z : FVec Ideal S16x16x64 .f32) (c b : Fin 16) (n : Fin 64) : planeX z c (ix2 b n) = z (ix3 b c n) := by
  have h (x : FVec Ideal S16x1x64 .f32) : shapeCast S16x64 x shapeCasts_S16x1x64_S16x64 (ix2 b n) = x (ix3 b 0 n) := by pointwise
  unfold planeX
  rw [h]
  exact extractStridedSlice_apply _ z (slicesX c) _ _ fun a => by fin_cases a <;> simp

theorem planeE_apply (z : FVec Ideal S8x5x64x128 .f32) (c : Fin 5) (p : Fin 8) (i : Fin 64) (l : Fin 128) :
    planeE z c (ix3 p i l) = z (ix4 p c i l) := by
  have h (x : FVec Ideal S8x1x64x128 .f32) : shapeCast S8x64x128 x shapeCasts_S8x1x64x128_S8x64x128 (ix3 p i l) = x (ix4 p 0 i l) := by
    pointwise
  unfold planeE
  rw [h]
  exact extractStridedSlice_apply _ z (slicesE c) _ _ fun a => by fin_cases a <;> simp

/-- The mark of class `c` of a node. -/
theorem markX_apply (z : FVec Ideal S16x16x64 .f32) (c b : Fin 16) (n : Fin 64) (hl : ∃ a, ⊥ < z (ix3 b a n)) :
    (mark (wins (planeX z) c) : FVec Ideal S16x64 .f32) (ix2 b n) = Sampler.pick (fun a => z (ix3 b a n)) c := by
  have := mark_wins (planeX z) (ix2 b n) (by simpa only [planeX_apply] using hl) c
  simpa only [planeX_apply] using this

/-- The state of the nodes after a step. -/
theorem tileX_apply (z : FVec Ideal S16x16x64 .f32) (L : List (View.Piece (Elt Ideal) S16x16x64 .f32)) (b c : Fin 16) (n : Fin 64)
    (hl : ∃ a, ⊥ < z (ix3 b a n)) :
    View.canon (descending (tileX z) 16 le_rfl ++ L) (ix3 b c n) = Sampler.pick (fun a => z (ix3 b a n)) c := by
  refine canon_descending (Val := Elt Ideal) (S := S16x16x64) (e := .f32) (fun c : Fin 16 => ![0, c.val, 0]) ![16, 1, 64] inbX
    (fun c => shapeCast S16x1x64 (mark (wins (planeX z) c) : FVec Ideal S16x64 .f32) shapeCasts_S16x64_S16x1x64) L (ix3 b c n) _ ⟨c, ?_⟩ ?_
  · intro a; fin_cases a <;> simp
  · intro k x hx
    have hp (X : FVec Ideal S16x64 .f32) : shapeCast S16x1x64 X shapeCasts_S16x64_S16x1x64 x = X (ix2 (x 0) (x 2)) := by pointwise
    idx_vars x
    have h0 := hx 0; have h1 := hx 1; have h2 := hx 2
    simp at h0 h1 h2
    obtain rfl : b = x0 := Fin.ext h0
    obtain rfl : c = k := Fin.ext h1
    obtain rfl : n = x2 := Fin.ext h2
    exact (hp _).trans (markX_apply z c b n hl)

/-- The nodes' samples of a step. -/
theorem tileTotX_apply (z : FVec Ideal S16x16x64 .f32) (b c : Fin 16) (n : Fin 64) (hl : ∃ a, ⊥ < z (ix3 b a n)) :
    View.canon (descending (tileTotX z) 16 le_rfl) (ix4 b 0 c n) = Sampler.pick (fun a => z (ix3 b a n)) c := by
  rw [← List.append_nil (descending (tileTotX z) 16 le_rfl)]
  refine canon_descending (Val := Elt Ideal) (S := S16x1x16x64) (e := .f32) (fun c : Fin 16 => ![0, 0, c.val, 0]) ![16, 1, 1, 64] inbTotX
    (fun c => shapeCast S16x1x1x64 (mark (wins (planeX z) c) : FVec Ideal S16x64 .f32) shapeCasts_S16x64_S16x1x1x64) [] (ix4 b 0 c n) _
    ⟨c, ?_⟩ ?_
  · intro a; fin_cases a <;> simp
  · intro k x hx
    have hp (X : FVec Ideal S16x64 .f32) : shapeCast S16x1x1x64 X shapeCasts_S16x64_S16x1x1x64 x = X (ix2 (x 0) (x 3)) := by pointwise
    idx_vars x
    have h0 := hx 0; have h2 := hx 2; have h3 := hx 3
    simp at h0 h2 h3
    obtain rfl : b = x0 := Fin.ext h0
    obtain rfl : c = k := Fin.ext h2
    obtain rfl : n = x3 := Fin.ext h3
    exact (hp _).trans (markX_apply z c b n hl)

theorem diagonal_apply (p : Fin 8) (i : Fin 64) (l : Fin 128) : diagonal (ix3 p i l) = if i.val = l.val % 64 then 1#1 else 0#1 := by
  show IntOp.cmpi .eq (BitVec.ofNat 32 (0 * 64 + i.val)) (lane l.val) = _
  revert i l
  decide +kernel

/-- The sample of class `c` of an edge, from its scores `z`: on the diagonal class 0. -/
def edgeMark (i l : ℕ) (z : Fin 5 → EReal) (c : Fin 5) : EReal :=
  if i = l % 64 then (if c = 0 then 1 else 0) else Sampler.pick z c

/-- The mark of class `c` of an edge. -/
theorem markE_apply (z : FVec Ideal S8x5x64x128 .f32) (c : Fin 5) (p : Fin 8) (i : Fin 64) (l : Fin 128)
    (hl : i.val ≠ l.val % 64 → ∃ a, ⊥ < z (ix4 p a i l)) :
    markE z c (ix3 p i l) = edgeMark i l (fun a => z (ix4 p a i l)) c := by
  unfold markE edgeMark
  show (if diagonal (ix3 p i l) = 1#1 then _ else _) = _
  rw [diagonal_apply]
  by_cases h : i.val = l.val % 64
  · rw [if_pos h, if_pos h, if_pos rfl]
    show (match c.val with | 0 => Ideal.ofBits .f32 0x3F800000#32 | _ + 1 => Ideal.ofBits .f32 0x00000000#32) = _
    rw [Ideal.ofBits_one_f32, Ideal.ofBits_zero_f32]
    fin_cases c <;> rfl
  · rw [if_neg h, if_neg h, if_neg (by decide)]
    have := mark_wins (planeE z) (ix3 p i l) (by simpa only [planeE_apply] using hl h) c
    simpa only [planeE_apply] using this

/-- The state of the edges after a step. -/
theorem tileE_apply (z : FVec Ideal S8x5x64x128 .f32) (L : List (View.Piece (Elt Ideal) S8x5x64x128 .f32)) (p : Fin 8) (c : Fin 5)
    (i : Fin 64) (l : Fin 128) (hl : i.val ≠ l.val % 64 → ∃ a, ⊥ < z (ix4 p a i l)) :
    View.canon (descending (tileE z) 5 le_rfl ++ L) (ix4 p c i l) = edgeMark i l (fun a => z (ix4 p a i l)) c := by
  refine canon_descending (Val := Elt Ideal) (S := S8x5x64x128) (e := .f32) (fun c : Fin 5 => ![0, c.val, 0, 0]) ![8, 1, 64, 128] inbE
    (fun c => shapeCast S8x1x64x128 (markE z c : FVec Ideal S8x64x128 .f32) shapeCasts_S8x64x128_S8x1x64x128) L (ix4 p c i l) _ ⟨c, ?_⟩ ?_
  · intro a; fin_cases a <;> simp
  · intro k x hx
    have hp (X : FVec Ideal S8x64x128 .f32) : shapeCast S8x1x64x128 X shapeCasts_S8x64x128_S8x1x64x128 x = X (ix3 (x 0) (x 2) (x 3)) := by
      pointwise
    idx_vars x
    have h0 := hx 0; have h1 := hx 1; have h2 := hx 2; have h3 := hx 3
    simp at h0 h1 h2 h3
    obtain rfl : p = x0 := Fin.ext h0
    obtain rfl : c = k := Fin.ext h1
    obtain rfl : i = x2 := Fin.ext h2
    obtain rfl : l = x3 := Fin.ext h3
    exact (hp _).trans (markE_apply z c p i l hl)

/-- The edges' samples of a step: graph `b` is half `b % 2` of row `b / 2`. -/
theorem tileTotE_apply (z : FVec Ideal S8x5x64x128 .f32) (b : Fin 16) (c : Fin 5) (i j : Fin 64) (p : Fin 8) (l : Fin 128)
    (hb : p.val = b.val / 2) (hlj : l.val = 64 * (b.val % 2) + j.val)
    (hl : i.val ≠ l.val % 64 → ∃ a, ⊥ < z (ix4 p a i l)) :
    View.canon (descending (tileTotE z) 80 le_rfl) (ix5 b 0 c i j) = edgeMark i l (fun a => z (ix4 p a i l)) c := by
  rw [← List.append_nil (descending (tileTotE z) 80 le_rfl)]
  refine canon_descending (Val := Elt Ideal) (S := S16x1x5x64x64) (e := .f32) (fun n : Fin 80 => ![n.val % 16, 0, n.val / 16, 0, 0]) ![1, 1, 1, 64, 64] inbTotE
    (fun n => (tileTotE z n).2)
    [] (ix5 b 0 c i j) _ ⟨⟨c.val * 16 + b.val, by omega⟩, ?_⟩ ?_
  · intro a
    have := b.isLt
    fin_cases a <;> simp <;> omega
  · intro k x hx
    have hp (X : FVec Ideal S1x64x64 .f32) : shapeCast S1x1x1x64x64 (shapeCast S64x64 X shapeCasts_S1x64x64_S64x64)
        shapeCasts_S64x64_S1x1x1x64x64 x = X (ix3 0 (x 3) (x 4)) := by pointwise
    idx_vars x
    have h0 := hx 0; have h2 := hx 2; have h3 := hx 3; have h4 := hx 4
    simp at h0 h2 h3 h4
    obtain rfl : i = x3 := Fin.ext h3
    obtain rfl : j = x4 := Fin.ext h4
    refine (hp _).trans ((extractStridedSlice_apply _ (markE z ⟨k.val / 16, by omega⟩) (slicesTotE k) _ (ix3 p i l) fun a => ?_).trans ?_)
    · fin_cases a <;> simp <;> omega
    · rw [show (⟨k.val / 16, by omega⟩ : Fin 5) = c from Fin.ext (by show k.val / 16 = c.val; omega)]
      exact markE_apply z c p i l hl

/-- The edges' states stored last: graph `b` is half `b % 2` of row `b / 2`. -/
theorem tileOutE_apply (s : FVec Ideal S8x5x64x128 .f32) (b : Fin 16) (c : Fin 5) (i j : Fin 64) (p : Fin 8) (l : Fin 128)
    (hb : p.val = b.val / 2) (hlj : l.val = 64 * (b.val % 2) + j.val) :
    View.canon (descending (tileOutE s) 16 le_rfl) (ix5 b 0 c i j) = s (ix4 p c i l) := by
  rw [← List.append_nil (descending (tileOutE s) 16 le_rfl)]
  refine canon_descending (Val := Elt Ideal) (S := S16x1x5x64x64) (e := .f32) (fun b : Fin 16 => ![b.val, 0, 0, 0, 0]) ![1, 1, 5, 64, 64] inbOutE
    (fun b => (tileOutE s b).2) [] (ix5 b 0 c i j) _ ⟨b, ?_⟩ ?_
  · intro a
    fin_cases a <;> simp
  · intro k x hx
    have hp (X : FVec Ideal S1x5x64x64 .f32) : shapeCast S1x1x5x64x64 (shapeCast S5x64x64 X shapeCasts_S1x5x64x64_S5x64x64)
        shapeCasts_S5x64x64_S1x1x5x64x64 x = X (ix4 0 (x 2) (x 3) (x 4)) := by pointwise
    idx_vars x
    have h0 := hx 0; have h2 := hx 2; have h3 := hx 3; have h4 := hx 4
    simp at h0 h2 h3 h4
    obtain rfl : c = x2 := Fin.ext h2
    obtain rfl : i = x3 := Fin.ext h3
    obtain rfl : j = x4 := Fin.ext h4
    obtain rfl : b = k := Fin.ext h0
    refine (hp _).trans (extractStridedSlice_apply _ _ (slicesOutE b) _ (ix4 p c i l) fun a => ?_)
    fin_cases a <;> simp <;> omega

/-- The first state of the nodes is the block read. -/
theorem k0_pay2_eq (x : FVec Ideal S16x16x64 .f32) : k0_pay2 x = x := by
  unfold k0_pay2
  simp only [shapeCast_self]
@[inherit_doc k0_pay2_eq]
theorem k0_pay3_eq (x : FVec Ideal S8x5x64x128 .f32) : k0_pay3 x = x := by
  unfold k0_pay3
  simp only [shapeCast_self]

end Cert.KernelIdeal.Gen
end
-- ==== Proof.KernelScores.lean ====
module
public import proofs.«01_k».proof.Proof.KernelValues
public import proofs.«01_k».proof.Proof.Spec
/-!
# The scores of a grid step at an index

The counter words, the scalars read and the scores, in the sampler's words.
-/
@[expose] public section
noncomputable section
namespace Cert.KernelIdeal.Gen
open Idealize.ShloMosaic Idealize.ShloMosaic.TcCoe

theorem gumbel_eq (w : BitVec 32) : (gumbel (F := Ideal) w : EReal) = Sampler.gumbel w := by
  show Ideal.ofBits .f32 0x00000000#32 - Ideal.log (Ideal.ofBits .f32 0x00000000#32 -
    Ideal.log (max (Ideal.ofBits .f32 (w >>> 9#32 ||| 1065353216#32) - Ideal.ofBits .f32 0x3F800000#32)
      (Ideal.ofBits .f32 0x00800000#32))) = _
  rw [Ideal.ofBits_zero_f32, Ideal.ofBits_one_f32, zero_sub, zero_sub]
  rfl

theorem weight_eq (s l g : EReal) : (weight (F := Ideal) s l g : EReal) = Sampler.weight s l g := by
  show min (Ideal.ofBits .f32 0x3F800000#32) (max (Ideal.ofBits .f32 0x00000000#32)
    (s * (Ideal.ofBits .f32 0x3F800000#32 - g) + l * g)) = _
  rw [Ideal.ofBits_zero_f32, Ideal.ofBits_one_f32]
  rfl

theorem coords_zero : ∀ t : Fin cfg0.N, ((grid0.coords t) 0).val = t.val / 50 :=
  (by decide +kernel : ∀ t : Fin grid0.N, ((grid0.coords t) 0).val = t.val / 50)

theorem base_eq (t : Fin cfg0.N) : base (grid0.coords t) = BitVec.ofNat 32 (16 * (t.val / 50)) := by
  unfold base
  rw [coords_zero]
  show BitVec.ofNat 32 _ * BitVec.ofNat 32 16 = _
  rw [← BitVec.ofNat_mul, Nat.mul_comm]

/-- The counter of class `c` of node `n` of the chunk's graph `b`. -/
theorem wordX_eq (q : ℕ) (b c : Fin 16) (n : Fin 64) :
    wordX (BitVec.ofNat 32 (16 * q)) (ix3 b c n) = BitVec.ofNat 32 ((16 * q + b.val) * 1024 + n.val * 16 + c.val) := by
  show (BitVec.ofNat 32 (16 * q) + BitVec.ofNat 32 (0 * 16 + b.val)) * BitVec.ofNat 32 1024
    + BitVec.ofNat 32 (0 * 64 + n.val) * BitVec.ofNat 32 16 + BitVec.ofNat 32 (0 * 16 + c.val) = _
  simp only [← BitVec.ofNat_add, ← BitVec.ofNat_mul]
  refine congrArg (BitVec.ofNat 32) ?_
  omega

theorem minsi_lane : ∀ (i : Fin 64) (l : Fin 128),
    IntOp.minsi (BitVec.ofNat 32 (0 * 64 + i.val)) (lane l.val) = BitVec.ofNat 32 (min i.val (l.val % 64)) := by
  decide +kernel

theorem maxsi_lane : ∀ (i : Fin 64) (l : Fin 128),
    IntOp.maxsi (BitVec.ofNat 32 (0 * 64 + i.val)) (lane l.val) = BitVec.ofNat 32 (max i.val (l.val % 64)) := by
  decide +kernel

theorem half_lane : ∀ l : Fin 128, BitVec.ofNat 32 (0 * 128 + l.val) >>> 6#32 = BitVec.ofNat 32 (l.val / 64) := by
  decide +kernel

/-- The counter of class `c` of an edge of graph `2 p + l / 64` of the chunk. -/
theorem wordE_eq (q : ℕ) (p : Fin 8) (c : Fin 5) (i : Fin 64) (l : Fin 128) :
    wordE (BitVec.ofNat 32 (16 * q)) (ix4 p c i l)
      = BitVec.ofNat 32 ((16 * q + (2 * p.val + l.val / 64)) * 20480 + (min i.val (l.val % 64) * 64 + max i.val (l.val % 64)) * 5 + c.val) := by
  show (BitVec.ofNat 32 (16 * q) + BitVec.ofNat 32 2 * BitVec.ofNat 32 (0 * 8 + p.val) + BitVec.ofNat 32 (0 * 128 + l.val) >>> 6#32)
      * BitVec.ofNat 32 20480
    + (IntOp.minsi (BitVec.ofNat 32 (0 * 64 + i.val)) (lane l.val) * BitVec.ofNat 32 64
      + IntOp.maxsi (BitVec.ofNat 32 (0 * 64 + i.val)) (lane l.val)) * BitVec.ofNat 32 5
    + BitVec.ofNat 32 (0 * 5 + c.val) = _
  rw [minsi_lane, maxsi_lane, half_lane]
  simp only [← BitVec.ofNat_add, ← BitVec.ofNat_mul]
  refine congrArg (BitVec.ofNat 32) ?_
  omega

theorem keys_eq (x : Vec Ideal S1x1x4 .i32) :
    kx1 x = x (ix3 0 0 0) ∧ kx2 x = x (ix3 0 0 1) ∧ ke1 x = x (ix3 0 0 2) ∧ ke2 x = x (ix3 0 0 3) := by
  unfold kx1 kx2 ke1 ke2
  refine ⟨?_, ?_, ?_, ?_⟩ <;> rw [View.ld_apply] <;> refine congrArg x (funext fun a => Fin.ext ?_) <;> fin_cases a <;> rfl

theorem share_eq (x : Vec Ideal S1x1x1 .f32) : share x = x (ix3 0 0 0) := by
  unfold share
  rw [View.ld_apply]
  refine congrArg x (funext fun a => Fin.ext ?_)
  fin_cases a <;> rfl

/-- The score of class `c` of node `n` of graph `b` of the chunk. -/
theorem stepX_apply (t : Fin cfg0.N) (s : FVec Ideal S16x16x64 .f32) (x2 : Vec Ideal S1x1x4 .i32) (x3 : Vec Ideal S1x1x1 .f32)
    (x4 : Vec Ideal S1x16x1 .f32) (b c : Fin 16) (n : Fin 64) :
    stepX (grid0.coords t) s x2 x3 x4 (ix3 b c n) = Sampler.score (s (ix3 b c n)) (x4 (ix3 0 c 0)) (x3 (ix3 0 0 0))
      (Noise.bits (x2 (ix3 0 0 0)) (x2 (ix3 0 0 1)) (BitVec.ofNat 32 ((16 * (t.val / 50) + b.val) * 1024 + n.val * 16 + c.val))) := by
  have hb : broadcastTo S16x16x64 (shapeCast S1x16x1 x4 shapeCasts_S1x16x1_S1x16x1) broadcasts_S1x16x1_S16x16x64 (ix3 b c n)
      = x4 (ix3 0 c 0) := by pointwise
  unfold stepX scoresX
  show (gumbel (F := Ideal) _ : EReal) + Ideal.log _ = _
  rw [hb, gumbel_eq, weight_eq, share_eq, base_eq, wordX_eq, (keys_eq x2).1, (keys_eq x2).2.1]
  rfl

/-- The score of class `c` of an edge of graph `2 p + l / 64` of the chunk. -/
theorem stepE_apply (t : Fin cfg0.N) (s : FVec Ideal S8x5x64x128 .f32) (x2 : Vec Ideal S1x1x4 .i32) (x3 : Vec Ideal S1x1x1 .f32)
    (x5 : Vec Ideal S1x5x1x1 .f32) (p : Fin 8) (c : Fin 5) (i : Fin 64) (l : Fin 128) :
    stepE (grid0.coords t) s x2 x3 x5 (ix4 p c i l) = Sampler.score (s (ix4 p c i l)) (x5 (ix4 0 c 0 0)) (x3 (ix3 0 0 0))
      (Noise.bits (x2 (ix3 0 0 2)) (x2 (ix3 0 0 3)) (BitVec.ofNat 32 ((16 * (t.val / 50) + (2 * p.val + l.val / 64)) * 20480
        + (min i.val (l.val % 64) * 64 + max i.val (l.val % 64)) * 5 + c.val))) := by
  have hb : broadcastTo S8x5x64x128 (shapeCast S1x5x1x1 x5 shapeCasts_S1x5x1x1_S1x5x1x1) broadcasts_S1x5x1x1_S8x5x64x128 (ix4 p c i l)
      = x5 (ix4 0 c 0 0) := by pointwise
  unfold stepE scoresE
  show (gumbel (F := Ideal) _ : EReal) + Ideal.log _ = _
  rw [hb, gumbel_eq, weight_eq, share_eq, base_eq, wordE_eq, (keys_eq x2).2.2.1, (keys_eq x2).2.2.2]
  rfl

end Cert.KernelIdeal.Gen
end
-- ==== Proof.Arrays.lean ====
module
public import proofs.«01_k».proof.Proof.Spec
public import Idealize.ShloMosaic.Lib.Pointwise
/-!
# The sampler's inputs as arrays
-/
@[expose] public section
noncomputable section
namespace Cert.Sampler
open Idealize.ShloMosaic

/-- The inputs held by the argument arrays. -/
def Inputs.of (X : (⟨3, ![32, 64, 16]⟩ : Shape).Idx → EReal) (E : (⟨4, ![32, 64, 64, 5]⟩ : Shape).Idx → EReal)
    (lx : (⟨1, ![16]⟩ : Shape).Idx → EReal) (le : (⟨1, ![5]⟩ : Shape).Idx → EReal) (g : (⟨1, ![50]⟩ : Shape).Idx → EReal) : Inputs where
  X b i c := X (ix3 b i c)
  E b i j c := E (ix4 b i j c)
  limX c := lx (ix1 c)
  limE c := le (ix1 c)
  g k := g (ix1 k)

end Cert.Sampler
end
-- ==== Proof.KernelInputs.lean ====
module
public import proofs.«01_k».proof.Proof.KernelScores
public import proofs.«01_k».proof.Proof.Arrays
public import Idealize.ShloMosaic.Lib.Pipeline.ValueKit
public import Idealize.ShloMosaic.Lib.Claim
/-!
# The blocks a grid step reads

Each block at an index, from the arguments; the table of keys holds the sampler's keys.
-/
@[expose] public section
noncomputable section
namespace Cert.KernelIdeal.Gen
open Idealize.ShloMosaic Idealize.ShloMosaic.TcCoe

variable (m : (ℓ : Loc nD τ sig) → Buf (Elt Ideal) ℓ) (c : Dev nD)

/-- The sampler's inputs on a core. -/
def inputs : Sampler.Inputs :=
  Sampler.Inputs.of (m ((c : Thread nD τ).loc main_arg0)) (m ((c : Thread nD τ).loc main_arg1)) (m ((c : Thread nD τ).loc main_arg3))
    (m ((c : Thread nD τ).loc main_arg4)) (m ((c : Thread nD τ).loc main_arg5))

/-- The number of a graph. -/
def graph (n : ℕ) : Fin 32 := ⟨n % 32, Nat.mod_lt _ (by decide)⟩

/-- The number of a step. -/
def step (t : Fin cfg0.N) : Fin 50 := ⟨t.val % 50, Nat.mod_lt _ (by decide)⟩

theorem index_eq : ∀ t : Fin cfg0.N, win0_0.index t = ![t.val / 50, 0, 0] ∧ win0_1.index t = ![t.val / 50, 0, 0, 0]
    ∧ win0_2.index t = ![t.val % 50, 0, 0] ∧ win0_3.index t = ![t.val % 50, 0, 0] ∧ win0_4.index t = ![0, 0, 0]
    ∧ win0_5.index t = ![0, 0, 0, 0] :=
  (by decide +kernel : ∀ t : Fin grid0.N, win0_0.index t = ![t.val / 50, 0, 0] ∧ win0_1.index t = ![t.val / 50, 0, 0, 0]
    ∧ win0_2.index t = ![t.val % 50, 0, 0] ∧ win0_3.index t = ![t.val % 50, 0, 0] ∧ win0_4.index t = ![0, 0, 0]
    ∧ win0_5.index t = ![0, 0, 0, 0])

theorem lt_points (t : Fin cfg0.N) : t.val < 100 := lt_of_lt_of_eq t.isLt (by decide +kernel)

/-- The table's rows are the sampler's keys. -/
theorem table_eq : ∀ k : Fin 50, lit0 (S50x4.rowMajor (ix2 k 0)) = (Sampler.keyX k.val).1 ∧ lit0 (S50x4.rowMajor (ix2 k 1)) = (Sampler.keyX k.val).2
    ∧ lit0 (S50x4.rowMajor (ix2 k 2)) = (Sampler.keyE k.val).1 ∧ lit0 (S50x4.rowMajor (ix2 k 3)) = (Sampler.keyE k.val).2 := by
  decide +kernel

section
variable {F : FTy → Type} [FloatOps F] (W : Valuation τ sig (Elt F))
open StableHlo

/-- The nodes as the region finds them: classes before nodes. -/
theorem entry0 : after (List.flatten [hostOps0]) W (Proc.devRef .tc main_v0)
    = transpose S32x16x64 [0, 2, 1] (W (Proc.devRef .tc main_arg0)) transposes_S32x64x16_S32x16x64_0_2_1 := by
  simp only [hostOps0, List.flatten_cons, List.flatten_nil, List.append_nil, List.cons_append, List.nil_append]
  after_results <;> rfl

/-- The edges as the region finds them: two graphs side by side. -/
theorem entry1 : after (List.flatten [hostOps0]) W (Proc.devRef .tc main_v4)
    = shapeCast _ (transpose S16x5x64x2x64 [0, 2, 3, 1, 4] (shapeCast _ (transpose S32x5x64x64 [0, 3, 1, 2] (W (Proc.devRef .tc main_arg1))
        transposes_S32x64x64x5_S32x5x64x64_0_3_1_2) shapeCasts_S32x5x64x64_S16x2x5x64x64) transposes_S16x2x5x64x64_S16x5x64x2x64_0_2_3_1_4)
        shapeCasts_S16x5x64x2x64_S16x5x64x128 := by
  simp only [hostOps0, List.flatten_cons, List.flatten_nil, List.append_nil, List.cons_append, List.nil_append]
  after_results <;> rfl

/-- The table of keys, a row a step. -/
theorem entry2 : after (List.flatten [hostOps0]) W (Proc.devRef .tc main_v5)
    = shapeCast _ (fun i => lit0 (S50x4.rowMajor i)) shapeCasts_S50x4_S50x1x4 := by
  simp only [hostOps0, List.flatten_cons, List.flatten_nil, List.append_nil, List.cons_append, List.nil_append]
  after_results <;> rfl

/-- The shares and the limits. -/
theorem entry3 : after (List.flatten [hostOps0]) W (Proc.devRef .tc main_v6)
    = shapeCast _ (W (Proc.devRef .tc main_arg5)) shapeCasts_S50_S50x1x1 := by
  simp only [hostOps0, List.flatten_cons, List.flatten_nil, List.append_nil, List.cons_append, List.nil_append]
  after_results <;> rfl
@[inherit_doc entry3]
theorem entry4 : after (List.flatten [hostOps0]) W (Proc.devRef .tc main_v7)
    = shapeCast _ (W (Proc.devRef .tc main_arg3)) shapeCasts_S16_S1x16x1 := by
  simp only [hostOps0, List.flatten_cons, List.flatten_nil, List.append_nil, List.cons_append, List.nil_append]
  after_results <;> rfl
@[inherit_doc entry3]
theorem entry5 : after (List.flatten [hostOps0]) W (Proc.devRef .tc main_v8)
    = shapeCast _ (W (Proc.devRef .tc main_arg4)) shapeCasts_S5_S1x5x1x1 := by
  simp only [hostOps0, List.flatten_cons, List.flatten_nil, List.append_nil, List.cons_append, List.nil_append]
  after_results <;> rfl
end

theorem block0 (t : Fin cfg0.N) (b x : Fin 16) (n : Fin 64) :
    iblk m c 0 t (ix3 b x n) = m ((c : Thread nD τ).loc main_arg0) (ix3 (graph (16 * (t.val / 50) + b.val)) n x) := by
  have ht := lt_points t
  have e : iblk m c 0 t (ix3 b x n) = V m c main_v0 (ix3 (graph (16 * (t.val / 50) + b.val)) x n) := by
    unfold graph
    blk_ext [iblk, (index_eq t).1]
  refine e.trans ((congrFun (entry0 _) _).trans ?_)
  pointwise

theorem block1 (t : Fin cfg0.N) (p : Fin 8) (x : Fin 5) (i : Fin 64) (l : Fin 128) :
    iblk m c 1 t (ix4 p x i l) = m ((c : Thread nD τ).loc main_arg1)
      (ix4 (graph (16 * (t.val / 50) + (2 * p.val + l.val / 64))) i ⟨l.val % 64, Nat.mod_lt _ (by decide)⟩ x) := by
  have ht := lt_points t
  have e : iblk m c 1 t (ix4 p x i l) = V m c main_v4 (ix4 ⟨8 * (t.val / 50) + p.val, by omega⟩ x i l) := by
    blk_ext [iblk, (index_eq t).2.1]
  refine e.trans ((congrFun (entry1 _) _).trans ?_)
  pointwise
  refine congrArg (fun g => m (c, Proc.tc.devRef main_arg1) (ix4 g i ⟨l.val % 64, Nat.mod_lt _ (by decide)⟩ x)) (Fin.ext ?_)
  show (8 * (t.val / 50) + p.val) * 2 + l.val / 64 = (16 * (t.val / 50) + (2 * p.val + l.val / 64)) % 32
  omega

theorem block2 (t : Fin cfg0.N) (j : Fin 4) :
    iblk m c 2 t (ix3 0 0 j) = lit0 (S50x4.rowMajor (ix2 (step t) j)) := by
  have e : iblk m c 2 t (ix3 0 0 j) = V m c main_v5 (ix3 (step t) 0 j) := by
    unfold step
    blk_ext [iblk, (index_eq t).2.2.1]
  refine e.trans ((congrFun (entry2 _) _).trans ?_)
  pointwise

theorem block3 (t : Fin cfg0.N) :
    iblk m c 3 t (ix3 0 0 0) = m ((c : Thread nD τ).loc main_arg5) (ix1 (step t)) := by
  have e : iblk m c 3 t (ix3 0 0 0) = V m c main_v6 (ix3 (step t) 0 0) := by
    unfold step
    blk_ext [iblk, (index_eq t).2.2.2.1]
  refine e.trans ((congrFun (entry3 _) _).trans ?_)
  pointwise

theorem block4 (t : Fin cfg0.N) (x : Fin 16) :
    iblk m c 4 t (ix3 0 x 0) = m ((c : Thread nD τ).loc main_arg3) (ix1 x) := by
  have e : iblk m c 4 t (ix3 0 x 0) = V m c main_v7 (ix3 0 x 0) := by
    blk_ext [iblk, (index_eq t).2.2.2.2.1]
  refine e.trans ((congrFun (entry4 _) _).trans ?_)
  pointwise

theorem block5 (t : Fin cfg0.N) (x : Fin 5) :
    iblk m c 5 t (ix4 0 x 0 0) = m ((c : Thread nD τ).loc main_arg4) (ix1 x) := by
  have e : iblk m c 5 t (ix4 0 x 0 0) = V m c main_v8 (ix4 0 x 0 0) := by
    blk_ext [iblk, (index_eq t).2.2.2.2.2]
  refine e.trans ((congrFun (entry5 _) _).trans ?_)
  pointwise

end Cert.KernelIdeal.Gen
end
-- ==== Proof.KernelSteps.lean ====
module
public import proofs.«01_k».proof.Proof.KernelInputs
/-!
# One grid step, from the sampler's state to its next

If a block of states holds the sampler's states before a step, the marks of the step are its states after it.
-/
@[expose] public section
noncomputable section
namespace Cert.KernelIdeal.Gen
open Idealize.ShloMosaic Idealize.ShloMosaic.TcCoe

variable (m : (ℓ : Loc nD τ sig) → Buf (Elt Ideal) ℓ) (c : Dev nD)

theorem share_step (t : Fin cfg0.N) : (inputs m c).share (t.val % 50) = iblk m c 3 t (ix3 0 0 0) := by
  rw [block3]
  unfold Sampler.Inputs.share
  rw [dif_pos (Nat.mod_lt _ (by decide))]
  rfl

/-- The chunk's nodes before step `k`. -/
def HoldsX (q k : ℕ) (s : FVec Ideal S16x16x64 .f32) : Prop :=
  ∀ (b a : Fin 16) (n : Fin 64), s (ix3 b a n) = Sampler.nodes (inputs m c) k (graph (16 * q + b.val)) n a

/-- The chunk's edges before step `k`. -/
def HoldsE (q k : ℕ) (s : FVec Ideal S8x5x64x128 .f32) : Prop :=
  ∀ (p : Fin 8) (a : Fin 5) (i : Fin 64) (l : Fin 128),
    s (ix4 p a i l) = Sampler.edges (inputs m c) k (graph (16 * q + (2 * p.val + l.val / 64))) i ⟨l.val % 64, Nat.mod_lt _ (by decide)⟩ a

/-- The scores of the nodes are the sampler's. -/
theorem stepX_score (t : Fin cfg0.N) {s : FVec Ideal S16x16x64 .f32} (hs : HoldsX m c (t.val / 50) (t.val % 50) s) (b a : Fin 16) (n : Fin 64) :
    stepX (grid0.coords t) s (iblk m c 2 t) (iblk m c 3 t) (iblk m c 4 t) (ix3 b a n)
      = Sampler.score (Sampler.nodes (inputs m c) (t.val % 50) (graph (16 * (t.val / 50) + b.val)) n a) ((inputs m c).limX a)
        ((inputs m c).share (t.val % 50)) (Sampler.wordX (t.val % 50) (graph (16 * (t.val / 50) + b.val)).val n.val a.val) := by
  have ht := lt_points t
  have hg : (graph (16 * (t.val / 50) + b.val)).val = 16 * (t.val / 50) + b.val := Nat.mod_eq_of_lt (by omega)
  rw [stepX_apply, hs, block4, block2, block2, (table_eq (step t)).1, (table_eq (step t)).2.1, share_step, hg]
  rfl

/-- The scores of the edges are the sampler's. -/
theorem stepE_score (t : Fin cfg0.N) {s : FVec Ideal S8x5x64x128 .f32} (hs : HoldsE m c (t.val / 50) (t.val % 50) s) (p : Fin 8) (a : Fin 5)
    (i : Fin 64) (l : Fin 128) :
    stepE (grid0.coords t) s (iblk m c 2 t) (iblk m c 3 t) (iblk m c 5 t) (ix4 p a i l)
      = Sampler.score (Sampler.edges (inputs m c) (t.val % 50) (graph (16 * (t.val / 50) + (2 * p.val + l.val / 64))) i
          ⟨l.val % 64, Nat.mod_lt _ (by decide)⟩ a) ((inputs m c).limE a)
        ((inputs m c).share (t.val % 50))
        (Sampler.wordE (t.val % 50) (graph (16 * (t.val / 50) + (2 * p.val + l.val / 64))).val i.val (l.val % 64) a.val) := by
  have ht := lt_points t
  have hg : (graph (16 * (t.val / 50) + (2 * p.val + l.val / 64))).val = 16 * (t.val / 50) + (2 * p.val + l.val / 64) :=
    Nat.mod_eq_of_lt (by omega)
  rw [stepE_apply, hs, block5, block2, block2, (table_eq (step t)).2.2.1, (table_eq (step t)).2.2.2, share_step, hg]
  rfl

variable (hI : (inputs m c).Valid)
include hI

/-- Some class of a node has a score. -/
theorem stepX_live (t : Fin cfg0.N) {s : FVec Ideal S16x16x64 .f32} (hs : HoldsX m c (t.val / 50) (t.val % 50) s) (b : Fin 16) (n : Fin 64) :
    ∃ a, ⊥ < stepX (grid0.coords t) s (iblk m c 2 t) (iblk m c 3 t) (iblk m c 4 t) (ix3 b a n) := by
  obtain ⟨a, ha⟩ := Sampler.nodes_live hI (Nat.mod_lt t.val (by decide : 50 > 0)) (graph (16 * (t.val / 50) + b.val)) n
  exact ⟨a, (Sampler.bot_lt_score _ ha).trans_eq (stepX_score m c t hs b a n).symm⟩

/-- Some class of an edge between two nodes has a score. -/
theorem stepE_live (t : Fin cfg0.N) {s : FVec Ideal S8x5x64x128 .f32} (hs : HoldsE m c (t.val / 50) (t.val % 50) s) (p : Fin 8) (i : Fin 64)
    (l : Fin 128) (hne : i.val ≠ l.val % 64) :
    ∃ a, ⊥ < stepE (grid0.coords t) s (iblk m c 2 t) (iblk m c 3 t) (iblk m c 5 t) (ix4 p a i l) := by
  obtain ⟨a, ha⟩ := Sampler.edges_live hI (Nat.mod_lt t.val (by decide : 50 > 0)) (graph (16 * (t.val / 50) + (2 * p.val + l.val / 64)))
    (i := i) (j := ⟨l.val % 64, Nat.mod_lt _ (by decide)⟩) (fun e => hne (congrArg Fin.val e))
  exact ⟨a, (Sampler.bot_lt_score _ ha).trans_eq (stepE_score m c t hs p a i l).symm⟩

omit hI in
/-- The winner among a node's classes is its next state. -/
theorem stepX_pick (t : Fin cfg0.N) {s : FVec Ideal S16x16x64 .f32} (hs : HoldsX m c (t.val / 50) (t.val % 50) s) (b a : Fin 16) (n : Fin 64) :
    Sampler.pick (fun a => stepX (grid0.coords t) s (iblk m c 2 t) (iblk m c 3 t) (iblk m c 4 t) (ix3 b a n)) a
      = Sampler.nodes (inputs m c) (t.val % 50 + 1) (graph (16 * (t.val / 50) + b.val)) n a :=
  congrFun (congrArg Sampler.pick (funext fun a => stepX_score m c t hs b a n)) a

omit hI in
/-- The mark among an edge's classes is its next state. -/
theorem stepE_pick (t : Fin cfg0.N) {s : FVec Ideal S8x5x64x128 .f32} (hs : HoldsE m c (t.val / 50) (t.val % 50) s) (p : Fin 8) (a : Fin 5)
    (i : Fin 64) (l : Fin 128) :
    edgeMark i.val l.val (fun a => stepE (grid0.coords t) s (iblk m c 2 t) (iblk m c 3 t) (iblk m c 5 t) (ix4 p a i l)) a
      = Sampler.edges (inputs m c) (t.val % 50 + 1) (graph (16 * (t.val / 50) + (2 * p.val + l.val / 64))) i
          ⟨l.val % 64, Nat.mod_lt _ (by decide)⟩ a := by
  unfold edgeMark
  by_cases h : i.val = l.val % 64
  · rw [if_pos h]
    exact (if_pos (c := i = ⟨l.val % 64, Nat.mod_lt _ (by decide)⟩) (Fin.ext h)).symm
  · rw [if_neg h]
    exact (congrFun (congrArg Sampler.pick (funext fun a => stepE_score m c t hs p a i l)) a).trans
      (if_neg (c := i = ⟨l.val % 64, Nat.mod_lt _ (by decide)⟩) fun e => h (congrArg Fin.val e)).symm

end Cert.KernelIdeal.Gen
end
-- ==== Proof.KernelFirst.lean ====
module
public import proofs.«01_k».proof.Proof.KernelTerms
/-!
# What one first grid step of a chunk stores

The first step of a chunk copies the state of the inputs to the scratch buffers and reads it there.
Each theorem names an output block and gives the tiles stored to it.
-/
@[expose] public section
noncomputable section
namespace Cert.KernelIdeal.Gen
open Idealize.ShloMosaic Idealize.ShloMosaic.TcCoe Idealize.ShloMosaic.Tactic
set_option maxHeartbeats 4000000
set_option maxRecDepth 100000
variable {F : FTy → Type} [FloatOps F]

/-- The tiles stored to the state of the nodes. -/
theorem sout0_A_0_eq (c : Dev nD) (t : Fin cfg0.N) (h : cond0_0 (grid0.coords t)) (x0 x1 x2 x3 x4 x5) :
    sout0_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5
      = View.canon (descending (tileX (stepX (grid0.coords t) (k0_pay2 x0) x2 x3 x4)) 16 le_rfl ++ [⟨Rect.unit ![0, 0, 0] ![16, 16, 64] inb_S16x16x64_S16x16x64_0_0_0, k0_pay2 x0⟩]) := by
  unfold sout0_A_0
  rw [View.read_writes_eq_canon _ _ _ (scover0_A_0 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [ld_nodes, ld_limitX, ld_edges, ld_limitE]
  simp only [readCov_nodes, readCov_edges]
  refine congrArg View.canon ?_
  sl_kernel_rfl

/-- The tiles stored to the state of the edges. -/
theorem sout0_A_1_eq (c : Dev nD) (t : Fin cfg0.N) (h : cond0_0 (grid0.coords t)) (x0 x1 x2 x3 x4 x5) :
    sout0_A_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5
      = View.canon (descending (tileE (stepE (grid0.coords t) (k0_pay3 x1) x2 x3 x5)) 5 le_rfl ++ [⟨Rect.unit ![0, 0, 0, 0] ![8, 5, 64, 128] inb_S8x5x64x128_S8x5x64x128_0_0_0_0, k0_pay3 x1⟩]) := by
  unfold sout0_A_1
  rw [View.read_writes_eq_canon _ _ _ (scover0_A_1 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [ld_nodes, ld_limitX, ld_edges, ld_limitE]
  simp only [readCov_nodes, readCov_edges]
  refine congrArg View.canon ?_
  sl_kernel_rfl

/-- The tiles stored to the nodes' samples. -/
theorem out0_A_6_eq (c : Dev nD) (t : Fin cfg0.N) (h : cond0_0 (grid0.coords t)) (x0 x1 x2 x3 x4 x5) :
    out0_A_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5
      = View.canon (descending (tileTotX (stepX (grid0.coords t) (k0_pay2 x0) x2 x3 x4)) 16 le_rfl) := by
  unfold out0_A_6
  rw [View.read_writes_eq_canon _ _ _ (cover0_A_6 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [ld_nodes, ld_limitX, ld_edges, ld_limitE]
  simp only [readCov_nodes, readCov_edges]
  refine congrArg View.canon ?_
  sl_kernel_rfl

/-- The tiles stored to the edges' samples. -/
theorem out0_A_7_eq (c : Dev nD) (t : Fin cfg0.N) (h : cond0_0 (grid0.coords t)) (x0 x1 x2 x3 x4 x5) :
    out0_A_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5
      = View.canon (descending (tileTotE (stepE (grid0.coords t) (k0_pay3 x1) x2 x3 x5)) 80 le_rfl) := by
  unfold out0_A_7
  rw [View.read_writes_eq_canon _ _ _ (cover0_A_7 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [ld_nodes, ld_limitX, ld_edges, ld_limitE]
  simp only [readCov_nodes, readCov_edges]
  refine congrArg View.canon ?_
  sl_kernel_rfl

/-- The nodes' states: the state the step starts from. -/
theorem out0_A_8_eq (c : Dev nD) (t : Fin cfg0.N) (h : cond0_0 (grid0.coords t)) (x0 x1 x2 x3 x4 x5) :
    out0_A_8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5
      = shapeCast S16x1x16x64 (k0_pay2 x0) shapeCasts_S16x16x64_S16x1x16x64 := by
  unfold out0_A_8
  rw [View.read_writes_eq_canon _ _ _ (cover0_A_8 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [ld_nodes, ld_limitX, ld_edges, ld_limitE]
  simp only [readCov_nodes, readCov_edges]
  rw [View.canon_cons_unit_lit' (S := S16x1x16x64) (h := by decide)]
  sl_kernel_rfl

/-- The tiles stored to the edges' states. -/
theorem out0_A_9_eq (c : Dev nD) (t : Fin cfg0.N) (h : cond0_0 (grid0.coords t)) (x0 x1 x2 x3 x4 x5) :
    out0_A_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5
      = View.canon (descending (tileOutE (k0_pay3 x1)) 16 le_rfl) := by
  unfold out0_A_9
  rw [View.read_writes_eq_canon _ _ _ (cover0_A_9 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [ld_nodes, ld_limitX, ld_edges, ld_limitE]
  simp only [readCov_nodes, readCov_edges]
  refine congrArg View.canon ?_
  sl_kernel_rfl

end Cert.KernelIdeal.Gen
-- ==== Proof.KernelLater.lean ====
module
public import proofs.«01_k».proof.Proof.KernelTerms
/-!
# What one later grid step stores

A step after the first of its chunk reads the state that the step before it left in the scratch buffers.
Each theorem names an output block and gives the tiles stored to it.
-/
@[expose] public section
noncomputable section
namespace Cert.KernelIdeal.Gen
open Idealize.ShloMosaic Idealize.ShloMosaic.TcCoe Idealize.ShloMosaic.Tactic
set_option maxHeartbeats 4000000
set_option maxRecDepth 100000
variable {F : FTy → Type} [FloatOps F]

/-- The tiles stored to the state of the nodes. -/
theorem sout0_B_0_eq (c : Dev nD) (t : Fin cfg0.N) (h : ¬cond0_0 (grid0.coords t)) (x0 x1 x2 x3 x4 x5 xs0 xs1) :
    sout0_B_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 xs0 xs1
      = View.canon (descending (tileX (stepX (grid0.coords t) xs0 x2 x3 x4)) 16 le_rfl) := by
  unfold sout0_B_0
  rw [View.read_writes_eq_canon _ _ _ (scover0_B_0 c _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_3 t).read_unread, (hs0_4 t).read_unread, (hs0_5 t).read_unread, (Memref.isWhole_whole _).read_unread]
  simp only [ld_nodes, ld_limitX, ld_edges, ld_limitE]
  refine congrArg View.canon ?_
  sl_kernel_rfl

/-- The tiles stored to the state of the edges. -/
theorem sout0_B_1_eq (c : Dev nD) (t : Fin cfg0.N) (h : ¬cond0_0 (grid0.coords t)) (x0 x1 x2 x3 x4 x5 xs0 xs1) :
    sout0_B_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 xs0 xs1
      = View.canon (descending (tileE (stepE (grid0.coords t) xs1 x2 x3 x5)) 5 le_rfl) := by
  unfold sout0_B_1
  rw [View.read_writes_eq_canon _ _ _ (scover0_B_1 c _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_3 t).read_unread, (hs0_4 t).read_unread, (hs0_5 t).read_unread, (Memref.isWhole_whole _).read_unread]
  simp only [ld_nodes, ld_limitX, ld_edges, ld_limitE]
  refine congrArg View.canon ?_
  sl_kernel_rfl

/-- The tiles stored to the nodes' samples. -/
theorem out0_B_6_eq (c : Dev nD) (t : Fin cfg0.N) (h : ¬cond0_0 (grid0.coords t)) (x0 x1 x2 x3 x4 x5 xs0 xs1) :
    out0_B_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 xs0 xs1
      = View.canon (descending (tileTotX (stepX (grid0.coords t) xs0 x2 x3 x4)) 16 le_rfl) := by
  unfold out0_B_6
  rw [View.read_writes_eq_canon _ _ _ (cover0_B_6 c _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_3 t).read_unread, (hs0_4 t).read_unread, (hs0_5 t).read_unread, (Memref.isWhole_whole _).read_unread]
  simp only [ld_nodes, ld_limitX, ld_edges, ld_limitE]
  refine congrArg View.canon ?_
  sl_kernel_rfl

/-- The tiles stored to the edges' samples. -/
theorem out0_B_7_eq (c : Dev nD) (t : Fin cfg0.N) (h : ¬cond0_0 (grid0.coords t)) (x0 x1 x2 x3 x4 x5 xs0 xs1) :
    out0_B_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 xs0 xs1
      = View.canon (descending (tileTotE (stepE (grid0.coords t) xs1 x2 x3 x5)) 80 le_rfl) := by
  unfold out0_B_7
  rw [View.read_writes_eq_canon _ _ _ (cover0_B_7 c _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_3 t).read_unread, (hs0_4 t).read_unread, (hs0_5 t).read_unread, (Memref.isWhole_whole _).read_unread]
  simp only [ld_nodes, ld_limitX, ld_edges, ld_limitE]
  refine congrArg View.canon ?_
  sl_kernel_rfl

/-- The nodes' states: the state the step starts from. -/
theorem out0_B_8_eq (c : Dev nD) (t : Fin cfg0.N) (h : ¬cond0_0 (grid0.coords t)) (x0 x1 x2 x3 x4 x5 xs0 xs1) :
    out0_B_8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 xs0 xs1
      = shapeCast S16x1x16x64 xs0 shapeCasts_S16x16x64_S16x1x16x64 := by
  unfold out0_B_8
  rw [View.read_writes_eq_canon _ _ _ (cover0_B_8 c _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_3 t).read_unread, (hs0_4 t).read_unread, (hs0_5 t).read_unread, (Memref.isWhole_whole _).read_unread]
  simp only [ld_nodes, ld_limitX, ld_edges, ld_limitE]
  rw [View.canon_cons_unit_lit' (S := S16x1x16x64) (h := by decide)]
  sl_kernel_rfl

/-- The tiles stored to the edges' states. -/
theorem out0_B_9_eq (c : Dev nD) (t : Fin cfg0.N) (h : ¬cond0_0 (grid0.coords t)) (x0 x1 x2 x3 x4 x5 xs0 xs1) :
    out0_B_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 xs0 xs1
      = View.canon (descending (tileOutE xs1) 16 le_rfl) := by
  unfold out0_B_9
  rw [View.read_writes_eq_canon _ _ _ (cover0_B_9 c _ _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (hs0_3 t).read_unread, (hs0_4 t).read_unread, (hs0_5 t).read_unread, (Memref.isWhole_whole _).read_unread]
  simp only [ld_nodes, ld_limitX, ld_edges, ld_limitE]
  refine congrArg View.canon ?_
  sl_kernel_rfl

end Cert.KernelIdeal.Gen
-- ==== Proof.KernelPoints.lean ====
module
public import proofs.«01_k».proof.Proof.KernelSteps
public import proofs.«01_k».proof.Proof.KernelFirst
public import proofs.«01_k».proof.Proof.KernelLater
/-!
# The states carried from grid step to grid step

Before each step the two buffers hold the sampler's states of the chunk's graphs.
-/
@[expose] public section
noncomputable section
namespace Cert.KernelIdeal.Gen
open Idealize.ShloMosaic Idealize.ShloMosaic.TcCoe

section
variable {F : FTy → Type} [FloatOps F] (m : (ℓ : Loc nD τ sig) → Buf (Elt F) ℓ) (c : Dev nD)

/-- What a grid step leaves, from the states `s` and `e` it starts from. -/
structure Leaves (t : Fin cfg0.N) (s : FVec F S16x16x64 .f32) (e : FVec F S8x5x64x128 .f32) : Prop where
  totX : (outsAt0 m c t.val t.isLt).1
    = View.canon (descending (tileTotX (stepX (grid0.coords t) s (iblk m c 2 t) (iblk m c 3 t) (iblk m c 4 t))) 16 le_rfl)
  totE : (outsAt0 m c t.val t.isLt).2.1
    = View.canon (descending (tileTotE (stepE (grid0.coords t) e (iblk m c 2 t) (iblk m c 3 t) (iblk m c 5 t))) 80 le_rfl)
  outX : (outsAt0 m c t.val t.isLt).2.2.1 = shapeCast S16x1x16x64 s shapeCasts_S16x16x64_S16x1x16x64
  outE : (outsAt0 m c t.val t.isLt).2.2.2.1 = View.canon (descending (tileOutE e) 16 le_rfl)
  stX : ∃ L, (outsAt0 m c t.val t.isLt).2.2.2.2.1
    = View.canon (descending (tileX (stepX (grid0.coords t) s (iblk m c 2 t) (iblk m c 3 t) (iblk m c 4 t))) 16 le_rfl ++ L)
  stE : ∃ L, (outsAt0 m c t.val t.isLt).2.2.2.2.2
    = View.canon (descending (tileE (stepE (grid0.coords t) e (iblk m c 2 t) (iblk m c 3 t) (iblk m c 5 t))) 5 le_rfl ++ L)

/-- The first step of a chunk starts from the blocks read. -/
theorem leaves_first (t : Fin cfg0.N) (h0 : t.val % 50 = 0) : Leaves m c t (k0_pay2 (iblk m c 0 t)) (k0_pay3 (iblk m c 1 t)) where
  totX := by
    rw [outsAt0_A m c t h0]
    dsimp only
    rw [out0_A_6_eq (F := F) c t ((hcond0_0 t).mpr h0) (iblk m c 0 t) (iblk m c 1 t) (iblk m c 2 t) (iblk m c 3 t) (iblk m c 4 t) (iblk m c 5 t)]
  totE := by
    rw [outsAt0_A m c t h0]
    dsimp only
    rw [out0_A_7_eq (F := F) c t ((hcond0_0 t).mpr h0) (iblk m c 0 t) (iblk m c 1 t) (iblk m c 2 t) (iblk m c 3 t) (iblk m c 4 t) (iblk m c 5 t)]
  outX := by
    rw [outsAt0_A m c t h0]
    dsimp only
    rw [out0_A_8_eq (F := F) c t ((hcond0_0 t).mpr h0) (iblk m c 0 t) (iblk m c 1 t) (iblk m c 2 t) (iblk m c 3 t) (iblk m c 4 t) (iblk m c 5 t)]
  outE := by
    rw [outsAt0_A m c t h0]
    dsimp only
    rw [out0_A_9_eq (F := F) c t ((hcond0_0 t).mpr h0) (iblk m c 0 t) (iblk m c 1 t) (iblk m c 2 t) (iblk m c 3 t) (iblk m c 4 t) (iblk m c 5 t)]
  stX := ⟨_, by
    rw [outsAt0_A m c t h0]
    dsimp only
    rw [sout0_A_0_eq (F := F) c t ((hcond0_0 t).mpr h0) (iblk m c 0 t) (iblk m c 1 t) (iblk m c 2 t) (iblk m c 3 t) (iblk m c 4 t) (iblk m c 5 t)]⟩
  stE := ⟨_, by
    rw [outsAt0_A m c t h0]
    dsimp only
    rw [sout0_A_1_eq (F := F) c t ((hcond0_0 t).mpr h0) (iblk m c 0 t) (iblk m c 1 t) (iblk m c 2 t) (iblk m c 3 t) (iblk m c 4 t) (iblk m c 5 t)]⟩

/-- A later step starts from what the step before left. -/
theorem leaves_later (t : Fin cfg0.N) (h0 : ¬t.val % 50 = 0) : Leaves m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 where
  totX := by
    rw [outsAt0_B m c t h0]
    dsimp only
    rw [out0_B_6_eq (F := F) c t (fun h => h0 ((hcond0_0 t).mp h)) (iblk m c 0 t) (iblk m c 1 t) (iblk m c 2 t) (iblk m c 3 t) (iblk m c 4 t) (iblk m c 5 t)]
  totE := by
    rw [outsAt0_B m c t h0]
    dsimp only
    rw [out0_B_7_eq (F := F) c t (fun h => h0 ((hcond0_0 t).mp h)) (iblk m c 0 t) (iblk m c 1 t) (iblk m c 2 t) (iblk m c 3 t) (iblk m c 4 t) (iblk m c 5 t)]
  outX := by
    rw [outsAt0_B m c t h0]
    dsimp only
    rw [out0_B_8_eq (F := F) c t (fun h => h0 ((hcond0_0 t).mp h)) (iblk m c 0 t) (iblk m c 1 t) (iblk m c 2 t) (iblk m c 3 t) (iblk m c 4 t) (iblk m c 5 t)]
  outE := by
    rw [outsAt0_B m c t h0]
    dsimp only
    rw [out0_B_9_eq (F := F) c t (fun h => h0 ((hcond0_0 t).mp h)) (iblk m c 0 t) (iblk m c 1 t) (iblk m c 2 t) (iblk m c 3 t) (iblk m c 4 t) (iblk m c 5 t)]
  stX := ⟨[], by
    rw [outsAt0_B m c t h0]
    dsimp only
    rw [sout0_B_0_eq (F := F) c t (fun h => h0 ((hcond0_0 t).mp h)) (iblk m c 0 t) (iblk m c 1 t) (iblk m c 2 t) (iblk m c 3 t) (iblk m c 4 t) (iblk m c 5 t)]
    exact congrArg View.canon (List.append_nil _).symm⟩
  stE := ⟨[], by
    rw [outsAt0_B m c t h0]
    dsimp only
    rw [sout0_B_1_eq (F := F) c t (fun h => h0 ((hcond0_0 t).mp h)) (iblk m c 0 t) (iblk m c 1 t) (iblk m c 2 t) (iblk m c 3 t) (iblk m c 4 t) (iblk m c 5 t)]
    exact congrArg View.canon (List.append_nil _).symm⟩

end

variable (m : (ℓ : Loc nD τ sig) → Buf (Elt Ideal) ℓ) (c : Dev nD)
variable (hI : (inputs m c).Valid)
include hI

/-- A step that starts from the sampler's states leaves the next ones. -/
theorem leaves_states (t : Fin cfg0.N) {s e} (hs : HoldsX m c (t.val / 50) (t.val % 50) s) (he : HoldsE m c (t.val / 50) (t.val % 50) e)
    (h : Leaves m c t s e) : HoldsX m c (t.val / 50) (t.val % 50 + 1) (outsAt0 m c t.val t.isLt).2.2.2.2.1
      ∧ HoldsE m c (t.val / 50) (t.val % 50 + 1) (outsAt0 m c t.val t.isLt).2.2.2.2.2 := by
  obtain ⟨L, hL⟩ := h.stX
  obtain ⟨L', hL'⟩ := h.stE
  constructor
  · intro b a n
    rw [hL, tileX_apply _ _ _ _ _ (stepX_live m c hI t hs b n)]
    exact stepX_pick m c t hs b a n
  · intro p a i l
    rw [hL', tileE_apply _ _ _ _ _ _ (stepE_live m c hI t he p i l)]
    exact stepE_pick m c t he p a i l

/-- At every point there are the sampler's states, and the step leaves what it leaves from them. -/
theorem point (n : ℕ) (hn : n < cfg0.N) :
    ∃ s e, HoldsX m c (n / 50) (n % 50) s ∧ HoldsE m c (n / 50) (n % 50) e ∧ Leaves m c ⟨n, hn⟩ s e := by
  induction n with
  | zero =>
    refine ⟨_, _, ?_, ?_, leaves_first m c ⟨0, hn⟩ rfl⟩
    · intro b a n; rw [k0_pay2_eq]; exact block0 m c ⟨0, hn⟩ b a n
    · intro p a i l; rw [k0_pay3_eq]; exact block1 m c ⟨0, hn⟩ p a i l
  | succ n ih =>
    by_cases h0 : (n + 1) % 50 = 0
    · refine ⟨_, _, ?_, ?_, leaves_first m c ⟨n + 1, hn⟩ h0⟩
      · intro b a n'; rw [k0_pay2_eq, h0]; exact block0 m c ⟨n + 1, hn⟩ b a n'
      · intro p a i l; rw [k0_pay3_eq, h0]; exact block1 m c ⟨n + 1, hn⟩ p a i l
    · obtain ⟨s, e, hs, he, hl⟩ := ih (Nat.lt_of_succ_lt hn)
      have := leaves_states m c hI ⟨n, Nat.lt_of_succ_lt hn⟩ hs he hl
      have h1 : n / 50 = (n + 1) / 50 := by omega
      have h2 : n % 50 + 1 = (n + 1) % 50 := by omega
      dsimp only at this
      rw [h1, h2] at this
      exact ⟨_, _, this.1, this.2, leaves_later m c ⟨n + 1, hn⟩ h0⟩

end Cert.KernelIdeal.Gen
end
-- ==== Proof.KernelArrays.lean ====
module
public import proofs.«01_k».proof.Proof.KernelPoints
/-!
# The arrays the region leaves

Step by step, the samples and the states of the sampler.
-/
@[expose] public section
noncomputable section
namespace Cert.KernelIdeal.Gen
open Idealize.ShloMosaic Idealize.ShloMosaic.TcCoe

variable (m : (ℓ : Loc nD τ sig) → Buf (Elt Ideal) ℓ) (c : Dev nD)

theorem outIndex_eq : ∀ t : Fin cfg0.N, win0_6.index t = ![t.val / 50, t.val % 50, 0, 0] ∧ win0_7.index t = ![t.val / 50, t.val % 50, 0, 0, 0]
    ∧ win0_8.index t = ![t.val / 50, t.val % 50, 0, 0] ∧ win0_9.index t = ![t.val / 50, t.val % 50, 0, 0, 0] :=
  (by decide +kernel : ∀ t : Fin grid0.N, win0_6.index t = ![t.val / 50, t.val % 50, 0, 0] ∧ win0_7.index t = ![t.val / 50, t.val % 50, 0, 0, 0]
    ∧ win0_8.index t = ![t.val / 50, t.val % 50, 0, 0] ∧ win0_9.index t = ![t.val / 50, t.val % 50, 0, 0, 0])

theorem nodes_congr (I : Sampler.Inputs) {k k' : ℕ} {b b' : Fin 32} {n n' : Fin 64} {x x' : Fin 16} (hk : k = k') (hb : b.val = b'.val)
    (hn : n.val = n'.val) (hx : x.val = x'.val) : Sampler.nodes I k b n x = Sampler.nodes I k' b' n' x' := by
  obtain rfl := hk; obtain rfl := Fin.ext hb; obtain rfl := Fin.ext hn; obtain rfl := Fin.ext hx; rfl

theorem edges_congr (I : Sampler.Inputs) {k k' : ℕ} {b b' : Fin 32} {i i' j j' : Fin 64} {x x' : Fin 5} (hk : k = k') (hb : b.val = b'.val)
    (hi : i.val = i'.val) (hj : j.val = j'.val) (hx : x.val = x'.val) : Sampler.edges I k b i j x = Sampler.edges I k' b' i' j' x' := by
  obtain rfl := hk; obtain rfl := Fin.ext hb; obtain rfl := Fin.ext hi; obtain rfl := Fin.ext hj; obtain rfl := Fin.ext hx; rfl

theorem graph_val (t : Fin cfg0.N) {b : ℕ} (hb : b < 16) : (graph (16 * (t.val / 50) + b)).val = 16 * (t.val / 50) + b := by
  have := lt_points t
  exact Nat.mod_eq_of_lt (by omega)

variable (hI : (inputs m c).Valid)
include hI

/-- The blocks a grid step writes, at an index. -/
theorem left (t : Fin cfg0.N) : ∀ (b : Fin 16) (i j : Fin 64),
    (∀ x, (outsAt0 m c t.val t.isLt).1 (ix4 b 0 x i) = Sampler.nodes (inputs m c) (t.val % 50 + 1) (graph (16 * (t.val / 50) + b.val)) i x)
    ∧ (∀ x, (outsAt0 m c t.val t.isLt).2.1 (ix5 b 0 x i j) = Sampler.edges (inputs m c) (t.val % 50 + 1) (graph (16 * (t.val / 50) + b.val)) i j x)
    ∧ (∀ x, (outsAt0 m c t.val t.isLt).2.2.1 (ix4 b 0 x i) = Sampler.nodes (inputs m c) (t.val % 50) (graph (16 * (t.val / 50) + b.val)) i x)
    ∧ (∀ x, (outsAt0 m c t.val t.isLt).2.2.2.1 (ix5 b 0 x i j) = Sampler.edges (inputs m c) (t.val % 50) (graph (16 * (t.val / 50) + b.val)) i j x) := by
  obtain ⟨s, e, hs, he, h⟩ := point m c hI t.val t.isLt
  intro b i j
  have hb := b.isLt
  refine ⟨fun x => ?_, fun x => ?_, fun x => ?_, fun x => ?_⟩
  · rw [h.totX]
    exact (tileTotX_apply _ b x i (stepX_live m c hI t hs b i)).trans (stepX_pick m c t hs b x i)
  · rw [h.totE]
    refine (tileTotE_apply _ b x i j ⟨b.val / 2, by omega⟩ ⟨64 * (b.val % 2) + j.val, by omega⟩ rfl rfl
      (stepE_live m c hI t he _ i _)).trans ((stepE_pick m c t he _ x i _).trans ?_)
    refine edges_congr _ rfl ?_ rfl ?_ rfl
    · refine congrArg (fun n => (graph (16 * (t.val / 50) + n)).val) ?_
      show 2 * (b.val / 2) + (64 * (b.val % 2) + j.val) / 64 = b.val
      omega
    · show (64 * (b.val % 2) + j.val) % 64 = j.val
      omega
  · rw [h.outX]
    have hp (X : FVec Ideal S16x16x64 .f32) : shapeCast S16x1x16x64 X shapeCasts_S16x16x64_S16x1x16x64 (ix4 b 0 x i) = X (ix3 b x i) := by
      pointwise
    exact (hp s).trans (hs b x i)
  · rw [h.outE]
    refine (tileOutE_apply e b x i j ⟨b.val / 2, by omega⟩ ⟨64 * (b.val % 2) + j.val, by omega⟩ rfl rfl).trans ((he _ x i _).trans ?_)
    refine edges_congr _ rfl ?_ rfl ?_ rfl
    · refine congrArg (fun n => (graph (16 * (t.val / 50) + n)).val) ?_
      show 2 * (b.val / 2) + (64 * (b.val % 2) + j.val) / 64 = b.val
      omega
    · show (64 * (b.val % 2) + j.val) % 64 = j.val
      omega

/-- The nodes' samples: the states after each step. -/
theorem array6 : (dats m 0 c).arrAt 6 cfg0.N = (fun j : S32x50x16x64.Idx => Sampler.nodes (inputs m c) ((j 1).val + 1) (j 0) (j 3) (j 2)) := by
  refine (dats m 0 c).arrAt_eq_of_covers 6 _ (by decide +kernel) fun t hf y => ?_
  blk_simp
  rw [after0_6]
  have key : ∀ y : S16x1x16x64.Idx, (outsAt0 m c t.val t.isLt).1 y
      = Sampler.nodes (inputs m c) (t.val % 50 + 1) (graph (16 * (t.val / 50) + (y 0).val)) (y 3) (y 2) := by
    intro y
    idx_vars y
    obtain rfl : y1 = 0 := Subsingleton.elim _ _
    exact (left m c hI t y0 y3 0).1 y2
  refine (key y).trans (nodes_congr _ ?_ ?_ ?_ ?_)
  · rw [(outIndex_eq t).1]; rfl
  · refine (graph_val t (y 0).isLt).trans ?_
    blk_simp [(outIndex_eq t).1]; simp; omega
  · blk_simp [(outIndex_eq t).1]
  · blk_simp [(outIndex_eq t).1]

/-- The edges' samples: the states after each step. -/
theorem array7 : (dats m 0 c).arrAt 7 cfg0.N = (fun j : S32x50x5x64x64.Idx => Sampler.edges (inputs m c) ((j 1).val + 1) (j 0) (j 3) (j 4) (j 2)) := by
  refine (dats m 0 c).arrAt_eq_of_covers 7 _ (by decide +kernel) fun t hf y => ?_
  blk_simp
  rw [after0_7]
  have key : ∀ y : S16x1x5x64x64.Idx, (outsAt0 m c t.val t.isLt).2.1 y
      = Sampler.edges (inputs m c) (t.val % 50 + 1) (graph (16 * (t.val / 50) + (y 0).val)) (y 3) (y 4) (y 2) := by
    intro y
    idx_vars y
    obtain rfl : y1 = 0 := Subsingleton.elim _ _
    exact (left m c hI t y0 y3 y4).2.1 y2
  refine (key y).trans (edges_congr _ ?_ ?_ ?_ ?_ ?_)
  · rw [(outIndex_eq t).2.1]; rfl
  · refine (graph_val t (y 0).isLt).trans ?_
    blk_simp [(outIndex_eq t).2.1]; simp; omega
  · blk_simp [(outIndex_eq t).2.1]
  · blk_simp [(outIndex_eq t).2.1]
  · blk_simp [(outIndex_eq t).2.1]

/-- The nodes' states before each step. -/
theorem array8 : (dats m 0 c).arrAt 8 cfg0.N = (fun j : S32x50x16x64.Idx => Sampler.nodes (inputs m c) ((j 1).val) (j 0) (j 3) (j 2)) := by
  refine (dats m 0 c).arrAt_eq_of_covers 8 _ (by decide +kernel) fun t hf y => ?_
  blk_simp
  rw [after0_8]
  have key : ∀ y : S16x1x16x64.Idx, (outsAt0 m c t.val t.isLt).2.2.1 y
      = Sampler.nodes (inputs m c) (t.val % 50) (graph (16 * (t.val / 50) + (y 0).val)) (y 3) (y 2) := by
    intro y
    idx_vars y
    obtain rfl : y1 = 0 := Subsingleton.elim _ _
    exact (left m c hI t y0 y3 0).2.2.1 y2
  refine (key y).trans (nodes_congr _ ?_ ?_ ?_ ?_)
  · rw [(outIndex_eq t).2.2.1]; rfl
  · refine (graph_val t (y 0).isLt).trans ?_
    blk_simp [(outIndex_eq t).2.2.1]; simp; omega
  · blk_simp [(outIndex_eq t).2.2.1]
  · blk_simp [(outIndex_eq t).2.2.1]

/-- The edges' states before each step. -/
theorem array9 : (dats m 0 c).arrAt 9 cfg0.N = (fun j : S32x50x5x64x64.Idx => Sampler.edges (inputs m c) ((j 1).val) (j 0) (j 3) (j 4) (j 2)) := by
  refine (dats m 0 c).arrAt_eq_of_covers 9 _ (by decide +kernel) fun t hf y => ?_
  blk_simp
  rw [after0_9]
  have key : ∀ y : S16x1x5x64x64.Idx, (outsAt0 m c t.val t.isLt).2.2.2.1 y
      = Sampler.edges (inputs m c) (t.val % 50) (graph (16 * (t.val / 50) + (y 0).val)) (y 3) (y 4) (y 2) := by
    intro y
    idx_vars y
    obtain rfl : y1 = 0 := Subsingleton.elim _ _
    exact (left m c hI t y0 y3 y4).2.2.2 y2
  refine (key y).trans (edges_congr _ ?_ ?_ ?_ ?_ ?_)
  · rw [(outIndex_eq t).2.2.2]; rfl
  · refine (graph_val t (y 0).isLt).trans ?_
    blk_simp [(outIndex_eq t).2.2.2]; simp; omega
  · blk_simp [(outIndex_eq t).2.2.2]
  · blk_simp [(outIndex_eq t).2.2.2]
  · blk_simp [(outIndex_eq t).2.2.2]

end Cert.KernelIdeal.Gen
end
-- ==== Proof.KernelResults.lean ====
module
public import proofs.«01_k».proof.Proof.KernelArrays
public import proofs.«01_k».proof.Proof.Gen.KernelIdeal.Run
/-!
# The kernel's results

Each result at an index, in the sampler's words.
-/
@[expose] public section
noncomputable section
namespace Cert.KernelIdeal.Value
open Cert.KernelIdeal Cert.KernelIdeal.Gen Idealize.ShloMosaic Idealize.ShloMosaic.TcCoe

variable (m : (ℓ : Loc nD τ sig) → Buf (Elt Ideal) ℓ) (c : Dev nD) (hI : (inputs m c).Valid)
include hI

/-- The nodes' samples. -/
theorem result0 (b : Fin 32) (k : Fin 50) (i : Fin 64) (x : Fin 16) :
    transpose S32x50x64x16 [0, 1, 3, 2] (reg_main_v9_0 m c) transposes_S32x50x16x64_S32x50x64x16_0_1_3_2 (ix4 b k i x)
      = Sampler.nodes (inputs m c) (k.val + 1) b i x := by
  have h (A : FVec Ideal S32x50x16x64 .f32) : transpose S32x50x64x16 [0, 1, 3, 2] A transposes_S32x50x16x64_S32x50x64x16_0_1_3_2 (ix4 b k i x)
      = A (ix4 b k x i) := by pointwise
  exact (h _).trans (congrFun (array6 m c hI) (ix4 b k x i))

/-- The edges' samples. -/
theorem result1 (b : Fin 32) (k : Fin 50) (i j : Fin 64) (x : Fin 5) :
    transpose S32x50x64x64x5 [0, 1, 3, 4, 2] (reg_main_v9_1 m c) transposes_S32x50x5x64x64_S32x50x64x64x5_0_1_3_4_2 (ix5 b k i j x)
      = Sampler.edges (inputs m c) (k.val + 1) b i j x := by
  have h (A : FVec Ideal S32x50x5x64x64 .f32) : transpose S32x50x64x64x5 [0, 1, 3, 4, 2] A transposes_S32x50x5x64x64_S32x50x64x64x5_0_1_3_4_2
      (ix5 b k i j x) = A (ix5 b k x i j) := by pointwise
  exact (h _).trans (congrFun (array7 m c hI) (ix5 b k x i j))

/-- The nodes' states. -/
theorem result2 (b : Fin 32) (k : Fin 50) (i : Fin 64) (x : Fin 16) :
    transpose S32x50x64x16 [0, 1, 3, 2] (reg_main_v9_2 m c) transposes_S32x50x16x64_S32x50x64x16_0_1_3_2 (ix4 b k i x)
      = Sampler.nodes (inputs m c) k.val b i x := by
  have h (A : FVec Ideal S32x50x16x64 .f32) : transpose S32x50x64x16 [0, 1, 3, 2] A transposes_S32x50x16x64_S32x50x64x16_0_1_3_2 (ix4 b k i x)
      = A (ix4 b k x i) := by pointwise
  exact (h _).trans (congrFun (array8 m c hI) (ix4 b k x i))

/-- The edges' states. -/
theorem result3 (b : Fin 32) (k : Fin 50) (i j : Fin 64) (x : Fin 5) :
    transpose S32x50x64x64x5 [0, 1, 3, 4, 2] (reg_main_v9_3 m c) transposes_S32x50x5x64x64_S32x50x64x64x5_0_1_3_4_2 (ix5 b k i j x)
      = Sampler.edges (inputs m c) k.val b i j x := by
  have h (A : FVec Ideal S32x50x5x64x64 .f32) : transpose S32x50x64x64x5 [0, 1, 3, 4, 2] A transposes_S32x50x5x64x64_S32x50x64x64x5_0_1_3_4_2
      (ix5 b k i j x) = A (ix5 b k x i j) := by pointwise
  exact (h _).trans (congrFun (array9 m c hI) (ix5 b k x i j))

end Cert.KernelIdeal.Value
end
-- ==== Proof.RefNoise.lean ====
module
public import proofs.«01_k».proof.Proof.Noise
public import proofs.«01_k».proof.Proof.Gen.ReferenceIdeal.Run
public import Idealize.ShloMosaic.Lib.Pointwise
/-!
# The reference's threefry blocks

The reference draws its bits by threefry blocks of vectors. At an index, a block of vectors is the block of the words
at that index.
-/
@[expose] public section
noncomputable section
namespace Cert.Noise
open Idealize.ShloMosaic

/-- One round with the sum written first. -/
def round' (a b : BitVec 32) (p : BitVec 32 × BitVec 32) : BitVec 32 × BitVec 32 :=
  (p.1 + p.2, (p.1 + p.2) ^^^ rot a b p.2)

theorem round'_eq : round' = round := by
  funext a b p
  exact congrArg (Prod.mk _) (BitVec.xor_comm _ _)

end Cert.Noise

namespace Cert.ReferenceIdeal.Value
open Cert.ReferenceIdeal Cert.ReferenceIdeal.Gen Idealize.ShloMosaic Idealize.ShloMosaic.TcCoe

section vectors
variable {S : Shape} (hS : S_.BroadcastsInDim S ![])

/-- A scalar word at every index. -/
def spread (k : IVec S_ 32) : IVec S 32 := broadcastInDim S ![] hS k

theorem spread_apply (k : IVec S_ 32) (i : S.Idx) : spread hS k i = k ix0 := by
  unfold spread; pointwise

/-- The pair of words of a pair of vectors at an index. -/
def at' (p : IVec S 32 × IVec S 32) (i : S.Idx) : BitVec 32 × BitVec 32 := (p.1 i, p.2 i)

/-- A round of vectors. -/
def vround (a b : BitVec 32) (p : IVec S 32 × IVec S 32) : IVec S 32 × IVec S 32 :=
  (addi p.1 p.2, xori (addi p.1 p.2) (ori (Host.shli p.2 (spread hS (constantI S_ 32 a)))
    (Host.shrui p.2 (spread hS (constantI S_ 32 b)))))

theorem vround_at {a b : BitVec 32} (ha : a.toNat < 32) (hb : b.toNat < 32) (p : IVec S 32 × IVec S 32) (i : S.Idx) :
    at' (vround hS a b p) i = Noise.round a b (at' p i) := by
  rw [← Noise.round'_eq]
  show (_, _) = (_, _)
  refine congrArg (Prod.mk _) ?_
  show IntOp.xori _ (IntOp.ori (IntOp.shli .scalar (p.2 i) (spread hS (constantI S_ 32 a) i))
    (IntOp.shrui .scalar (p.2 i) (spread hS (constantI S_ 32 b) i))) = _
  rw [spread_apply, spread_apply]
  show IntOp.xori _ (IntOp.ori (if a.toNat < 32 then _ else _) (if b.toNat < 32 then _ else _)) = _
  rw [if_pos ha, if_pos hb]
  rfl

/-- Four rounds of vectors with the even rotations. -/
def vroundsA (p : IVec S 32 × IVec S 32) : IVec S 32 × IVec S 32 :=
  vround hS 6#32 26#32 (vround hS 26#32 6#32 (vround hS 15#32 17#32 (vround hS 13#32 19#32 p)))

/-- Four rounds of vectors with the odd rotations. -/
def vroundsB (p : IVec S 32 × IVec S 32) : IVec S 32 × IVec S 32 :=
  vround hS 24#32 8#32 (vround hS 16#32 16#32 (vround hS 29#32 3#32 (vround hS 17#32 15#32 p)))

theorem vroundsA_at (p : IVec S 32 × IVec S 32) (i : S.Idx) : at' (vroundsA hS p) i = Noise.roundsA (at' p i) := by
  unfold vroundsA Noise.roundsA
  iterate 4 rw [vround_at hS (by decide) (by decide)]

theorem vroundsB_at (p : IVec S 32 × IVec S 32) (i : S.Idx) : at' (vroundsB hS p) i = Noise.roundsB (at' p i) := by
  unfold vroundsB Noise.roundsB
  iterate 4 rw [vround_at hS (by decide) (by decide)]

/-- A key injection of vectors. -/
def vinject (a b : IVec S_ 32) (n : BitVec 32) (p : IVec S 32 × IVec S 32) : IVec S 32 × IVec S 32 :=
  (addi p.1 (spread hS a), addi (addi p.2 (spread hS b)) (spread hS (constantI S_ 32 n)))

theorem vinject_at (a b : IVec S_ 32) (n : BitVec 32) (p : IVec S 32 × IVec S 32) (i : S.Idx) :
    at' (vinject hS a b n p) i = Noise.inject (a ix0) (b ix0) n (at' p i) := by
  show (p.1 i + spread hS a i, p.2 i + spread hS b i + spread hS (constantI S_ 32 n) i) = _
  rw [spread_apply, spread_apply, spread_apply]
  rfl

/-- The third key word of the scalars. -/
def vthird (k1 k2 : IVec S_ 32) : IVec S_ 32 := xori (xori k1 k2) (constantI S_ 32 466688986#32)

/-- A block of vectors. -/
def vblock (k1 k2 : IVec S_ 32) (h l : IVec S 32) : IVec S 32 × IVec S 32 :=
  vinject hS (vthird k1 k2) k1 5#32 (vroundsA hS (vinject hS k2 (vthird k1 k2) 4#32 (vroundsB hS
    (vinject hS k1 k2 3#32 (vroundsA hS (vinject hS (vthird k1 k2) k1 2#32 (vroundsB hS
      (vinject hS k2 (vthird k1 k2) 1#32 (vroundsA hS (addi h (spread hS k1), addi l (spread hS k2)))))))))))

/-- A block of vectors at an index. -/
theorem vblock_at (k1 k2 : IVec S_ 32) (h l : IVec S 32) (i : S.Idx) :
    at' (vblock hS k1 k2 h l) i
      = Noise.block (k1 ix0) (k2 ix0) (h i) (l i) := by
  unfold vblock Noise.block Noise.rounds20
  simp only [vinject_at, vroundsA_at, vroundsB_at]
  have e : at' (addi h (spread hS k1), addi l (spread hS k2)) i
      = (h i + k1 ix0, l i + k2 ix0) := by
    show (h i + spread hS k1 i, l i + spread hS k2 i) = _
    rw [spread_apply, spread_apply]
  rw [e]
  rfl

/-- A group of four even rounds and an injection, by the vectors between them. -/
theorem groupA {a b : IVec S_ 32} {n : BitVec 32} {p : IVec S 32 × IVec S 32} (x1 y1 x2 y2 x3 y3 x4 y4 : IVec S 32)
    (e1 : vround hS 13#32 19#32 p = (x1, y1)) (e2 : vround hS 15#32 17#32 (x1, y1) = (x2, y2))
    (e3 : vround hS 26#32 6#32 (x2, y2) = (x3, y3))
    (e4 : vinject hS a b n (vround hS 6#32 26#32 (x3, y3)) = (addi x4 (spread hS a), y4)) :
    vinject hS a b n (vroundsA hS p) = (addi x4 (spread hS a), y4) := by
  unfold vroundsA
  rw [e1, e2, e3, e4]

/-- A group of four odd rounds and an injection, by the vectors between them. -/
theorem groupB {a b : IVec S_ 32} {n : BitVec 32} {p : IVec S 32 × IVec S 32} (x1 y1 x2 y2 x3 y3 x4 y4 : IVec S 32)
    (e1 : vround hS 17#32 15#32 p = (x1, y1)) (e2 : vround hS 29#32 3#32 (x1, y1) = (x2, y2))
    (e3 : vround hS 16#32 16#32 (x2, y2) = (x3, y3))
    (e4 : vinject hS a b n (vround hS 24#32 8#32 (x3, y3)) = (addi x4 (spread hS a), y4)) :
    vinject hS a b n (vroundsB hS p) = (addi x4 (spread hS a), y4) := by
  unfold vroundsB
  rw [e1, e2, e3, e4]

end vectors

variable {F : FTy → Type} [FloatOps F] (V0 : Valuation τ sig (Elt F))

/-- The two halves of a vector of two words. -/
def joined (p : IVec S1 32 × IVec S1 32) : IVec S2 32 := concatenate S2 0 [⟨S1, p.1⟩, ⟨S1, p.2⟩] concatenates_S1_S1_S2_d0

/-- The block of the step key. -/
theorem call4_eq : vblock bcast_S_S1 (res_main_while0b_v69 V0) (res_main_while0b_v71 V0)
    (extractStridedSlice S1 ![0] (res_main_while0b_v67 V0) slices_S2_S1_0)
    (extractStridedSlice S1 ![1] (res_main_while0b_v67 V0) slices_S2_S1_1)
    = (addi (res_main_while0b_call4_v163 V0) (spread bcast_S_S1 (res_main_while0b_call4_v1 V0)),
      addi (addi (xori (res_main_while0b_call4_v163 V0)
        (ori (Host.shli (res_main_while0b_call4_v162 V0) (spread bcast_S_S1 (constantI S_ 32 6#32)))
          (Host.shrui (res_main_while0b_call4_v162 V0) (spread bcast_S_S1 (constantI S_ 32 26#32)))))
        (spread bcast_S_S1 (res_main_while0b_v69 V0))) (spread bcast_S_S1 (constantI S_ 32 5#32))) := by
  unfold vblock
  rw [show vthird (res_main_while0b_v69 V0) (res_main_while0b_v71 V0) = res_main_while0b_call4_v1 V0 from rfl]
  rw [groupA bcast_S_S1 (n := 1#32) (res_main_while0b_call4_v6 V0) (res_main_while0b_call4_v12 V0) (res_main_while0b_call4_v13 V0) (res_main_while0b_call4_v19 V0)
    (res_main_while0b_call4_v20 V0) (res_main_while0b_call4_v26 V0) (res_main_while0b_call4_v27 V0) (res_main_while0b_call4_v39 V0)]
  rotate_left
  iterate 4 exact rfl
  rw [groupB bcast_S_S1 (n := 2#32) (res_main_while0b_call4_v40 V0) (res_main_while0b_call4_v46 V0) (res_main_while0b_call4_v47 V0) (res_main_while0b_call4_v53 V0)
    (res_main_while0b_call4_v54 V0) (res_main_while0b_call4_v60 V0) (res_main_while0b_call4_v61 V0) (res_main_while0b_call4_v73 V0)]
  rotate_left
  iterate 4 exact rfl
  rw [groupA bcast_S_S1 (n := 3#32) (res_main_while0b_call4_v74 V0) (res_main_while0b_call4_v80 V0) (res_main_while0b_call4_v81 V0) (res_main_while0b_call4_v87 V0)
    (res_main_while0b_call4_v88 V0) (res_main_while0b_call4_v94 V0) (res_main_while0b_call4_v95 V0) (res_main_while0b_call4_v107 V0)]
  rotate_left
  iterate 4 exact rfl
  rw [groupB bcast_S_S1 (n := 4#32) (res_main_while0b_call4_v108 V0) (res_main_while0b_call4_v114 V0) (res_main_while0b_call4_v115 V0) (res_main_while0b_call4_v121 V0)
    (res_main_while0b_call4_v122 V0) (res_main_while0b_call4_v128 V0) (res_main_while0b_call4_v129 V0) (res_main_while0b_call4_v141 V0)]
  rotate_left
  iterate 4 exact rfl
  exact groupA bcast_S_S1 (res_main_while0b_call4_v142 V0) (res_main_while0b_call4_v148 V0) (res_main_while0b_call4_v149 V0) (res_main_while0b_call4_v155 V0)
    (res_main_while0b_call4_v156 V0) (res_main_while0b_call4_v162 V0) (res_main_while0b_call4_v163 V0) _ rfl rfl rfl rfl

/-- The block of the nodes' key. -/
theorem call5_eq : vblock bcast_S_S1 (res_main_while0b_v80 V0) (res_main_while0b_v82 V0)
    (extractStridedSlice S1 ![0] (res_main_while0b_v78 V0) slices_S2_S1_0)
    (extractStridedSlice S1 ![1] (res_main_while0b_v78 V0) slices_S2_S1_1)
    = (addi (res_main_while0b_call5_v163 V0) (spread bcast_S_S1 (res_main_while0b_call5_v1 V0)),
      addi (addi (xori (res_main_while0b_call5_v163 V0)
        (ori (Host.shli (res_main_while0b_call5_v162 V0) (spread bcast_S_S1 (constantI S_ 32 6#32)))
          (Host.shrui (res_main_while0b_call5_v162 V0) (spread bcast_S_S1 (constantI S_ 32 26#32)))))
        (spread bcast_S_S1 (res_main_while0b_v80 V0))) (spread bcast_S_S1 (constantI S_ 32 5#32))) := by
  unfold vblock
  rw [show vthird (res_main_while0b_v80 V0) (res_main_while0b_v82 V0) = res_main_while0b_call5_v1 V0 from rfl]
  rw [groupA bcast_S_S1 (n := 1#32) (res_main_while0b_call5_v6 V0) (res_main_while0b_call5_v12 V0) (res_main_while0b_call5_v13 V0) (res_main_while0b_call5_v19 V0)
    (res_main_while0b_call5_v20 V0) (res_main_while0b_call5_v26 V0) (res_main_while0b_call5_v27 V0) (res_main_while0b_call5_v39 V0)]
  rotate_left
  iterate 4 exact rfl
  rw [groupB bcast_S_S1 (n := 2#32) (res_main_while0b_call5_v40 V0) (res_main_while0b_call5_v46 V0) (res_main_while0b_call5_v47 V0) (res_main_while0b_call5_v53 V0)
    (res_main_while0b_call5_v54 V0) (res_main_while0b_call5_v60 V0) (res_main_while0b_call5_v61 V0) (res_main_while0b_call5_v73 V0)]
  rotate_left
  iterate 4 exact rfl
  rw [groupA bcast_S_S1 (n := 3#32) (res_main_while0b_call5_v74 V0) (res_main_while0b_call5_v80 V0) (res_main_while0b_call5_v81 V0) (res_main_while0b_call5_v87 V0)
    (res_main_while0b_call5_v88 V0) (res_main_while0b_call5_v94 V0) (res_main_while0b_call5_v95 V0) (res_main_while0b_call5_v107 V0)]
  rotate_left
  iterate 4 exact rfl
  rw [groupB bcast_S_S1 (n := 4#32) (res_main_while0b_call5_v108 V0) (res_main_while0b_call5_v114 V0) (res_main_while0b_call5_v115 V0) (res_main_while0b_call5_v121 V0)
    (res_main_while0b_call5_v122 V0) (res_main_while0b_call5_v128 V0) (res_main_while0b_call5_v129 V0) (res_main_while0b_call5_v141 V0)]
  rotate_left
  iterate 4 exact rfl
  exact groupA bcast_S_S1 (res_main_while0b_call5_v142 V0) (res_main_while0b_call5_v148 V0) (res_main_while0b_call5_v149 V0) (res_main_while0b_call5_v155 V0)
    (res_main_while0b_call5_v156 V0) (res_main_while0b_call5_v162 V0) (res_main_while0b_call5_v163 V0) _ rfl rfl rfl rfl

/-- The block of the edges' key. -/
theorem call6_eq : vblock bcast_S_S1 (res_main_while0b_v91 V0) (res_main_while0b_v93 V0)
    (extractStridedSlice S1 ![0] (res_main_while0b_v89 V0) slices_S2_S1_0)
    (extractStridedSlice S1 ![1] (res_main_while0b_v89 V0) slices_S2_S1_1)
    = (addi (res_main_while0b_call6_v163 V0) (spread bcast_S_S1 (res_main_while0b_call6_v1 V0)),
      addi (addi (xori (res_main_while0b_call6_v163 V0)
        (ori (Host.shli (res_main_while0b_call6_v162 V0) (spread bcast_S_S1 (constantI S_ 32 6#32)))
          (Host.shrui (res_main_while0b_call6_v162 V0) (spread bcast_S_S1 (constantI S_ 32 26#32)))))
        (spread bcast_S_S1 (res_main_while0b_v91 V0))) (spread bcast_S_S1 (constantI S_ 32 5#32))) := by
  unfold vblock
  rw [show vthird (res_main_while0b_v91 V0) (res_main_while0b_v93 V0) = res_main_while0b_call6_v1 V0 from rfl]
  rw [groupA bcast_S_S1 (n := 1#32) (res_main_while0b_call6_v6 V0) (res_main_while0b_call6_v12 V0) (res_main_while0b_call6_v13 V0) (res_main_while0b_call6_v19 V0)
    (res_main_while0b_call6_v20 V0) (res_main_while0b_call6_v26 V0) (res_main_while0b_call6_v27 V0) (res_main_while0b_call6_v39 V0)]
  rotate_left
  iterate 4 exact rfl
  rw [groupB bcast_S_S1 (n := 2#32) (res_main_while0b_call6_v40 V0) (res_main_while0b_call6_v46 V0) (res_main_while0b_call6_v47 V0) (res_main_while0b_call6_v53 V0)
    (res_main_while0b_call6_v54 V0) (res_main_while0b_call6_v60 V0) (res_main_while0b_call6_v61 V0) (res_main_while0b_call6_v73 V0)]
  rotate_left
  iterate 4 exact rfl
  rw [groupA bcast_S_S1 (n := 3#32) (res_main_while0b_call6_v74 V0) (res_main_while0b_call6_v80 V0) (res_main_while0b_call6_v81 V0) (res_main_while0b_call6_v87 V0)
    (res_main_while0b_call6_v88 V0) (res_main_while0b_call6_v94 V0) (res_main_while0b_call6_v95 V0) (res_main_while0b_call6_v107 V0)]
  rotate_left
  iterate 4 exact rfl
  rw [groupB bcast_S_S1 (n := 4#32) (res_main_while0b_call6_v108 V0) (res_main_while0b_call6_v114 V0) (res_main_while0b_call6_v115 V0) (res_main_while0b_call6_v121 V0)
    (res_main_while0b_call6_v122 V0) (res_main_while0b_call6_v128 V0) (res_main_while0b_call6_v129 V0) (res_main_while0b_call6_v141 V0)]
  rotate_left
  iterate 4 exact rfl
  exact groupA bcast_S_S1 (res_main_while0b_call6_v142 V0) (res_main_while0b_call6_v148 V0) (res_main_while0b_call6_v149 V0) (res_main_while0b_call6_v155 V0)
    (res_main_while0b_call6_v156 V0) (res_main_while0b_call6_v162 V0) (res_main_while0b_call6_v163 V0) _ rfl rfl rfl rfl

/-- The block of the nodes' bits. -/
theorem call9_eq : vblock bcast_S_S32x64x16 (res_main_while0b_v109 V0) (res_main_while0b_v111 V0)
    (trunci 32 (Host.shrui (res_main_while0b_v122 V0) (broadcastInDim S32x64x16 ![] bcast_S_S32x64x16 (constantI S_ 64 32#64))) natLt_32_64)
    (trunci 32 (res_main_while0b_v122 V0) natLt_32_64)
    = (addi (res_main_while0b_call9_v163 V0) (spread bcast_S_S32x64x16 (res_main_while0b_call9_v1 V0)),
      addi (addi (xori (res_main_while0b_call9_v163 V0)
        (ori (Host.shli (res_main_while0b_call9_v162 V0) (spread bcast_S_S32x64x16 (constantI S_ 32 6#32)))
          (Host.shrui (res_main_while0b_call9_v162 V0) (spread bcast_S_S32x64x16 (constantI S_ 32 26#32)))))
        (spread bcast_S_S32x64x16 (res_main_while0b_v109 V0))) (spread bcast_S_S32x64x16 (constantI S_ 32 5#32))) := by
  unfold vblock
  rw [show vthird (res_main_while0b_v109 V0) (res_main_while0b_v111 V0) = res_main_while0b_call9_v1 V0 from rfl]
  rw [groupA bcast_S_S32x64x16 (n := 1#32) (res_main_while0b_call9_v6 V0) (res_main_while0b_call9_v12 V0) (res_main_while0b_call9_v13 V0) (res_main_while0b_call9_v19 V0)
    (res_main_while0b_call9_v20 V0) (res_main_while0b_call9_v26 V0) (res_main_while0b_call9_v27 V0) (res_main_while0b_call9_v39 V0)]
  rotate_left
  iterate 4 exact rfl
  rw [groupB bcast_S_S32x64x16 (n := 2#32) (res_main_while0b_call9_v40 V0) (res_main_while0b_call9_v46 V0) (res_main_while0b_call9_v47 V0) (res_main_while0b_call9_v53 V0)
    (res_main_while0b_call9_v54 V0) (res_main_while0b_call9_v60 V0) (res_main_while0b_call9_v61 V0) (res_main_while0b_call9_v73 V0)]
  rotate_left
  iterate 4 exact rfl
  rw [groupA bcast_S_S32x64x16 (n := 3#32) (res_main_while0b_call9_v74 V0) (res_main_while0b_call9_v80 V0) (res_main_while0b_call9_v81 V0) (res_main_while0b_call9_v87 V0)
    (res_main_while0b_call9_v88 V0) (res_main_while0b_call9_v94 V0) (res_main_while0b_call9_v95 V0) (res_main_while0b_call9_v107 V0)]
  rotate_left
  iterate 4 exact rfl
  rw [groupB bcast_S_S32x64x16 (n := 4#32) (res_main_while0b_call9_v108 V0) (res_main_while0b_call9_v114 V0) (res_main_while0b_call9_v115 V0) (res_main_while0b_call9_v121 V0)
    (res_main_while0b_call9_v122 V0) (res_main_while0b_call9_v128 V0) (res_main_while0b_call9_v129 V0) (res_main_while0b_call9_v141 V0)]
  rotate_left
  iterate 4 exact rfl
  exact groupA bcast_S_S32x64x16 (res_main_while0b_call9_v142 V0) (res_main_while0b_call9_v148 V0) (res_main_while0b_call9_v149 V0) (res_main_while0b_call9_v155 V0)
    (res_main_while0b_call9_v156 V0) (res_main_while0b_call9_v162 V0) (res_main_while0b_call9_v163 V0) _ rfl rfl rfl rfl

/-- The block of the edges' bits. -/
theorem call12_eq : vblock bcast_S_S32x64x64x5 (res_main_while0b_v155 V0) (res_main_while0b_v157 V0)
    (trunci 32 (Host.shrui (res_main_while0b_v172 V0) (broadcastInDim S32x64x64x5 ![] bcast_S_S32x64x64x5 (constantI S_ 64 32#64))) natLt_32_64)
    (trunci 32 (res_main_while0b_v172 V0) natLt_32_64)
    = (addi (res_main_while0b_call12_v163 V0) (spread bcast_S_S32x64x64x5 (res_main_while0b_call12_v1 V0)),
      addi (addi (xori (res_main_while0b_call12_v163 V0)
        (ori (Host.shli (res_main_while0b_call12_v162 V0) (spread bcast_S_S32x64x64x5 (constantI S_ 32 6#32)))
          (Host.shrui (res_main_while0b_call12_v162 V0) (spread bcast_S_S32x64x64x5 (constantI S_ 32 26#32)))))
        (spread bcast_S_S32x64x64x5 (res_main_while0b_v155 V0))) (spread bcast_S_S32x64x64x5 (constantI S_ 32 5#32))) := by
  unfold vblock
  rw [show vthird (res_main_while0b_v155 V0) (res_main_while0b_v157 V0) = res_main_while0b_call12_v1 V0 from rfl]
  rw [groupA bcast_S_S32x64x64x5 (n := 1#32) (res_main_while0b_call12_v6 V0) (res_main_while0b_call12_v12 V0) (res_main_while0b_call12_v13 V0) (res_main_while0b_call12_v19 V0)
    (res_main_while0b_call12_v20 V0) (res_main_while0b_call12_v26 V0) (res_main_while0b_call12_v27 V0) (res_main_while0b_call12_v39 V0)]
  rotate_left
  iterate 4 exact rfl
  rw [groupB bcast_S_S32x64x64x5 (n := 2#32) (res_main_while0b_call12_v40 V0) (res_main_while0b_call12_v46 V0) (res_main_while0b_call12_v47 V0) (res_main_while0b_call12_v53 V0)
    (res_main_while0b_call12_v54 V0) (res_main_while0b_call12_v60 V0) (res_main_while0b_call12_v61 V0) (res_main_while0b_call12_v73 V0)]
  rotate_left
  iterate 4 exact rfl
  rw [groupA bcast_S_S32x64x64x5 (n := 3#32) (res_main_while0b_call12_v74 V0) (res_main_while0b_call12_v80 V0) (res_main_while0b_call12_v81 V0) (res_main_while0b_call12_v87 V0)
    (res_main_while0b_call12_v88 V0) (res_main_while0b_call12_v94 V0) (res_main_while0b_call12_v95 V0) (res_main_while0b_call12_v107 V0)]
  rotate_left
  iterate 4 exact rfl
  rw [groupB bcast_S_S32x64x64x5 (n := 4#32) (res_main_while0b_call12_v108 V0) (res_main_while0b_call12_v114 V0) (res_main_while0b_call12_v115 V0) (res_main_while0b_call12_v121 V0)
    (res_main_while0b_call12_v122 V0) (res_main_while0b_call12_v128 V0) (res_main_while0b_call12_v129 V0) (res_main_while0b_call12_v141 V0)]
  rotate_left
  iterate 4 exact rfl
  exact groupA bcast_S_S32x64x64x5 (res_main_while0b_call12_v142 V0) (res_main_while0b_call12_v148 V0) (res_main_while0b_call12_v149 V0) (res_main_while0b_call12_v155 V0)
    (res_main_while0b_call12_v156 V0) (res_main_while0b_call12_v162 V0) (res_main_while0b_call12_v163 V0) _ rfl rfl rfl rfl

/-- The words of the step key are a block. -/
theorem v75_eq : res_main_while0b_v75 V0 = joined (vblock bcast_S_S1 (res_main_while0b_v69 V0) (res_main_while0b_v71 V0)
    (extractStridedSlice S1 ![0] (res_main_while0b_v67 V0) slices_S2_S1_0)
    (extractStridedSlice S1 ![1] (res_main_while0b_v67 V0) slices_S2_S1_1)) :=
  (congrArg joined (call4_eq V0)).symm

/-- The words of the nodes key are a block. -/
theorem v86_eq : res_main_while0b_v86 V0 = joined (vblock bcast_S_S1 (res_main_while0b_v80 V0) (res_main_while0b_v82 V0)
    (extractStridedSlice S1 ![0] (res_main_while0b_v78 V0) slices_S2_S1_0)
    (extractStridedSlice S1 ![1] (res_main_while0b_v78 V0) slices_S2_S1_1)) :=
  (congrArg joined (call5_eq V0)).symm

/-- The words of the edges key are a block. -/
theorem v97_eq : res_main_while0b_v97 V0 = joined (vblock bcast_S_S1 (res_main_while0b_v91 V0) (res_main_while0b_v93 V0)
    (extractStridedSlice S1 ![0] (res_main_while0b_v89 V0) slices_S2_S1_0)
    (extractStridedSlice S1 ![1] (res_main_while0b_v89 V0) slices_S2_S1_1)) :=
  (congrArg joined (call6_eq V0)).symm

end Cert.ReferenceIdeal.Value
end
-- ==== Proof.RefKeys.lean ====
module
public import proofs.«01_k».proof.Proof.RefNoise
public import proofs.«01_k».proof.Proof.Spec
public import Idealize.ShloMosaic.Lib.WordCmp
/-!
# The reference's keys

The keys a trip of the reference's loop draws its noise with.
-/
@[expose] public section
noncomputable section
namespace Cert.ReferenceIdeal.Value
open Cert.ReferenceIdeal Cert.ReferenceIdeal.Gen Idealize.ShloMosaic Idealize.ShloMosaic.TcCoe Idealize.ShloMosaic.WordCmp

variable {F : FTy → Type} [FloatOps F] (V0 : Valuation τ sig (Elt F))

/-- The buffers the trips leave alone, and the counter, before trip `k`. -/
structure Counted (k : ℕ) : Prop where
  lt : k < 50
  times : V0 (Proc.devRef .tc main_v38_0) = iotaInDim S50 32 0
  counter : V0 (Proc.devRef .tc main_v38_6) = constantI S_ 32 (BitVec.ofNat 32 k)
  base0 : (V0 (Proc.devRef .tc main_v38_4) : IVec S2 32) (ix1 0) = 0#32
  base1 : (V0 (Proc.devRef .tc main_v38_4) : IVec S2 32) (ix1 1) = 1#32

theorem joined_zero (p : IVec S1 32 × IVec S1 32) : joined p (ix1 0) = p.1 (ix1 0) := by
  unfold joined; pointwise
theorem joined_one (p : IVec S1 32 × IVec S1 32) : joined p (ix1 1) = p.2 (ix1 0) := by
  unfold joined; pointwise
theorem word_zero (x : IVec S2 32) : shapeCast S_ (extractStridedSlice S1 ![0] x slices_S2_S1_0) shapeCasts_S1_S_ ix0 = x (ix1 0) := by
  pointwise
theorem word_one (x : IVec S2 32) : shapeCast S_ (extractStridedSlice S1 ![1] x slices_S2_S1_1) shapeCasts_S1_S_ ix0 = x (ix1 1) := by
  pointwise
theorem half_zero (x : IVec S2 32) : extractStridedSlice S1 ![0] x slices_S2_S1_0 (ix1 0) = x (ix1 0) := by
  pointwise
theorem half_one (x : IVec S2 32) : extractStridedSlice S1 ![1] x slices_S2_S1_1 (ix1 0) = x (ix1 1) := by
  pointwise

/-- The entry of a vector of fifty at the counter. -/
theorem at_counter {α : Type} {k : ℕ} (hk : k < 50) (x : S50.Idx → α) (n : (⟨S_, .i32⟩ : BufTy).Contents (Elt F))
    (hn : n = constantI S_ 32 (BitVec.ofNat 32 k)) :
    shapeCast S_ (Host.dynamicSlice S1 x (fun a => (((![n] : Fin 1 → (⟨S_, .i32⟩ : BufTy).Contents (Elt F))) a
      (Shape.Idx.first h_S_)).toInt) sliceFits_S50_S1) shapeCasts_S1_S_ ix0 = x (ix1 ⟨k, hk⟩) := by
  subst hn
  have hs : S50.Slices (fun _ => k) S1 := ⟨rfl, fun a => by fin_cases a; show k + 1 ≤ 50; omega⟩
  rw [dynamicSlice_eq_extract S1 x _ sliceFits_S50_S1 (fun _ => k) hs fun a => by
    fin_cases a; exact toInt_ofNat_of_lt (by omega)]
  have h (y : S1.Idx → α) : shapeCast S_ y shapeCasts_S1_S_ ix0 = y (ix1 0) := by pointwise
  exact (h _).trans (extractStridedSlice_apply _ x hs (ix1 0) (ix1 ⟨k, hk⟩) fun a => by fin_cases a; simp)

/-- The trip's number as the loop reads it. -/
def counterWord : IVec S_ 32 :=
  shapeCast S_ (Host.dynamicSlice S1 (V0 (Proc.devRef .tc main_v38_0)) (fun a => (((![V0 (Proc.devRef .tc main_v38_6)] :
    Fin 1 → (⟨S_, .i32⟩ : BufTy).Contents (Elt F))) a (Shape.Idx.first h_S_)).toInt) sliceFits_S50_S1) shapeCasts_S1_S_

variable {V0} {k : ℕ} (hV : Counted V0 k)
include hV

theorem v67_zero : res_main_while0b_v67 V0 (ix1 0) = 0#32 := by
  have e : res_main_while0b_v67 V0 = joined (spread bcast_S_S1 (constantI S_ 32 0#32), spread bcast_S_S1 (counterWord V0)) := rfl
  rw [e, joined_zero]
  dsimp only
  rw [spread_apply]
  rfl

theorem v67_one : res_main_while0b_v67 V0 (ix1 1) = BitVec.ofNat 32 k := by
  have e : res_main_while0b_v67 V0 = joined (spread bcast_S_S1 (constantI S_ 32 0#32), spread bcast_S_S1 (counterWord V0)) := rfl
  rw [e, joined_one]
  refine (spread_apply bcast_S_S1 (counterWord V0) _).trans ((at_counter hV.lt _ _ hV.counter).trans ?_)
  rw [hV.times]
  rfl

/-- The two words of the key of the step. -/
theorem v75_words : (res_main_while0b_v75 V0 (ix1 0), res_main_while0b_v75 V0 (ix1 1)) = Sampler.stepKey k := by
  rw [v75_eq, joined_zero, joined_one]
  refine (vblock_at bcast_S_S1 _ _ _ _ (ix1 0)).trans ?_
  rw [half_zero, half_one, v67_zero hV, v67_one hV]
  unfold res_main_while0b_v69 res_main_while0b_v71
  rw [word_zero, word_one, hV.base0, hV.base1]
  rfl

/-- The two words of the key of the nodes' noise. -/
theorem v86_words : (res_main_while0b_v86 V0 (ix1 0), res_main_while0b_v86 V0 (ix1 1)) = Sampler.keyX k := by
  rw [v86_eq, joined_zero, joined_one]
  refine (vblock_at bcast_S_S1 _ _ _ _ (ix1 0)).trans ?_
  have e : res_main_while0b_v78 V0 = joined (spread bcast_S_S1 (constantI S_ 32 0#32), spread bcast_S_S1 (constantI S_ 32 0#32)) := rfl
  rw [half_zero, half_one, e, joined_zero, joined_one]
  dsimp only
  rw [spread_apply]
  unfold res_main_while0b_v80 res_main_while0b_v82
  rw [word_zero, word_one]
  unfold Sampler.keyX
  rw [← v75_words hV]
  rfl

/-- The two words of the key of the edges' noise. -/
theorem v97_words : (res_main_while0b_v97 V0 (ix1 0), res_main_while0b_v97 V0 (ix1 1)) = Sampler.keyE k := by
  rw [v97_eq, joined_zero, joined_one]
  refine (vblock_at bcast_S_S1 _ _ _ _ (ix1 0)).trans ?_
  have e : res_main_while0b_v89 V0 = joined (spread bcast_S_S1 (constantI S_ 32 0#32), spread bcast_S_S1 (constantI S_ 32 1#32)) := rfl
  rw [half_zero, half_one, e, joined_zero, joined_one]
  dsimp only
  rw [spread_apply, spread_apply]
  unfold res_main_while0b_v91 res_main_while0b_v93
  rw [word_zero, word_one]
  unfold Sampler.keyE
  rw [← v75_words hV]
  rfl

end Cert.ReferenceIdeal.Value
end
-- ==== Proof.RefScores.lean ====
module
public import proofs.«01_k».proof.Proof.RefKeys
public import proofs.«01_k».proof.Proof.Live
/-!
# The reference's scores

The weights, the random words and the guarded scores of one trip of the reference's loop, at an index.
-/
@[expose] public section
noncomputable section
namespace Cert.ReferenceIdeal.Value
open Cert.ReferenceIdeal Cert.ReferenceIdeal.Gen Idealize.ShloMosaic Idealize.ShloMosaic.TcCoe Idealize.ShloMosaic.WordCmp

section words
variable {F : FTy → Type} [FloatOps F] (V0 : Valuation τ sig (Elt F))

/-- The low word of a small number of 64 bits. -/
theorem low_word {n : ℕ} : (BitVec.ofNat 64 n).setWidth 32 = BitVec.ofNat 32 n := by
  apply BitVec.eq_of_toNat_eq
  simp only [BitVec.toNat_setWidth, BitVec.toNat_ofNat]
  omega

/-- The high word of a small number of 64 bits. -/
theorem high_word {n : ℕ} (h : n < 2 ^ 32) : ((BitVec.ofNat 64 n) >>> (32#64)).setWidth 32 = 0#32 := by
  apply BitVec.eq_of_toNat_eq
  have : n % 2 ^ 64 = n := Nat.mod_eq_of_lt (by omega)
  simp only [BitVec.toNat_setWidth, BitVec.toNat_ofNat, BitVec.toNat_ushiftRight, BitVec.ushiftRight_eq', this]
  rw [Nat.shiftRight_eq_div_pow]
  have : n / 2 ^ (32 % 2 ^ 64) = 0 := Nat.div_eq_of_lt (by simpa using h)
  rw [show (32 : ℕ) % 2 ^ 64 = 32 from rfl] at this ⊢
  rw [this]

/-- The counter of class `c` of node `i` of graph `b`. -/
theorem v122_apply (b : Fin 32) (i : Fin 64) (c : Fin 16) :
    res_main_while0b_v122 V0 (ix3 b i c) = BitVec.ofNat 64 (b.val * 1024 + i.val * 16 + c.val) := by
  unfold res_main_while0b_v122
  pointwise
  simp only [IntOp.addi, IntOp.muli, ← BitVec.ofNat_mul, ← BitVec.ofNat_add]
  refine congrArg (BitVec.ofNat 64) ?_
  omega

/-- The counter of class `c` of edge `i j` of graph `b`. -/
theorem v172_apply (b : Fin 32) (i j : Fin 64) (c : Fin 5) :
    res_main_while0b_v172 V0 (ix4 b i j c) = BitVec.ofNat 64 (b.val * 20480 + (i.val * 64 + j.val) * 5 + c.val) := by
  unfold res_main_while0b_v172
  pointwise
  simp only [IntOp.addi, IntOp.muli, ← BitVec.ofNat_mul, ← BitVec.ofNat_add]
  refine congrArg (BitVec.ofNat 64) ?_
  omega

/-- The high word of a vector of counters. -/
theorem high_apply {S : Shape} (hS : S_.BroadcastsInDim S ![]) (x : IVec S 64) (i : S.Idx) {n : ℕ} (h : n < 2 ^ 32)
    (hx : x i = BitVec.ofNat 64 n) :
    trunci 32 (Host.shrui x (broadcastInDim S ![] hS (constantI S_ 64 32#64))) natLt_32_64 i = 0#32 := by
  rw [← high_word h, ← hx]
  have e : broadcastInDim S ![] hS (constantI S_ 64 32#64) i = 32#64 := by pointwise
  show (IntOp.shrui .scalar (x i) (broadcastInDim S ![] hS (constantI S_ 64 32#64) i)).setWidth 32 = _
  rw [e]
  rfl

/-- The words drawn for the nodes. -/
def wordsX (V0 : Valuation τ sig (Elt F)) : IVec S32x64x16 32 × IVec S32x64x16 32 :=
  vblock bcast_S_S32x64x16 (res_main_while0b_v109 V0) (res_main_while0b_v111 V0)
    (trunci 32 (Host.shrui (res_main_while0b_v122 V0) (broadcastInDim S32x64x16 ![] bcast_S_S32x64x16 (constantI S_ 64 32#64))) natLt_32_64)
    (trunci 32 (res_main_while0b_v122 V0) natLt_32_64)

/-- The word drawn for a class. -/
theorem wordsX_apply {V0 : Valuation τ sig (Elt F)} {k : ℕ} (hV : Counted V0 k) (b : Fin 32) (i : Fin 64) (c : Fin 16) :
    xori (wordsX V0).1 (wordsX V0).2 (ix3 b i c) = Sampler.wordX k b i c := by
  have h := vblock_at bcast_S_S32x64x16 (res_main_while0b_v109 V0) (res_main_while0b_v111 V0)
    (trunci 32 (Host.shrui (res_main_while0b_v122 V0) (broadcastInDim S32x64x16 ![] bcast_S_S32x64x16 (constantI S_ 64 32#64))) natLt_32_64)
    (trunci 32 (res_main_while0b_v122 V0) natLt_32_64) (ix3 b i c)
  have hl : trunci 32 (res_main_while0b_v122 V0) natLt_32_64 (ix3 b i c) = _ :=
    (congrArg (BitVec.setWidth 32) (v122_apply V0 b i c)).trans low_word
  have h1 : (res_main_while0b_v109 V0 ix0, res_main_while0b_v111 V0 ix0) = ((Sampler.keyX k).1, (Sampler.keyX k).2) := by
    unfold res_main_while0b_v109 res_main_while0b_v111
    rw [word_zero, word_one]
    exact v86_words hV
  rw [high_apply bcast_S_S32x64x16 _ _ (by omega) (v122_apply V0 b i c), hl, (Prod.mk.inj h1).1, (Prod.mk.inj h1).2] at h
  exact congrArg₂ IntOp.xori (Prod.ext_iff.1 h).1 (Prod.ext_iff.1 h).2

/-- The words drawn for the edges. -/
def wordsE (V0 : Valuation τ sig (Elt F)) : IVec S32x64x64x5 32 × IVec S32x64x64x5 32 :=
  vblock bcast_S_S32x64x64x5 (res_main_while0b_v155 V0) (res_main_while0b_v157 V0)
    (trunci 32 (Host.shrui (res_main_while0b_v172 V0) (broadcastInDim S32x64x64x5 ![] bcast_S_S32x64x64x5 (constantI S_ 64 32#64))) natLt_32_64)
    (trunci 32 (res_main_while0b_v172 V0) natLt_32_64)

/-- The word drawn for a class. -/
theorem wordsE_apply {V0 : Valuation τ sig (Elt F)} {k : ℕ} (hV : Counted V0 k) (b : Fin 32) (i j : Fin 64) (c : Fin 5) :
    xori (wordsE V0).1 (wordsE V0).2 (ix4 b i j c) = Noise.bits (Sampler.keyE k).1 (Sampler.keyE k).2 (BitVec.ofNat 32 (b.val * 20480 + (i.val * 64 + j.val) * 5 + c.val)) := by
  have h := vblock_at bcast_S_S32x64x64x5 (res_main_while0b_v155 V0) (res_main_while0b_v157 V0)
    (trunci 32 (Host.shrui (res_main_while0b_v172 V0) (broadcastInDim S32x64x64x5 ![] bcast_S_S32x64x64x5 (constantI S_ 64 32#64))) natLt_32_64)
    (trunci 32 (res_main_while0b_v172 V0) natLt_32_64) (ix4 b i j c)
  have hl : trunci 32 (res_main_while0b_v172 V0) natLt_32_64 (ix4 b i j c) = _ :=
    (congrArg (BitVec.setWidth 32) (v172_apply V0 b i j c)).trans low_word
  have h1 : (res_main_while0b_v155 V0 ix0, res_main_while0b_v157 V0 ix0) = ((Sampler.keyE k).1, (Sampler.keyE k).2) := by
    unfold res_main_while0b_v155 res_main_while0b_v157
    rw [word_zero, word_one]
    exact v97_words hV
  rw [high_apply bcast_S_S32x64x64x5 _ _ (by omega) (v172_apply V0 b i j c), hl, (Prod.mk.inj h1).1, (Prod.mk.inj h1).2] at h
  exact congrArg₂ IntOp.xori (Prod.ext_iff.1 h).1 (Prod.ext_iff.1 h).2

end words

section scores

/-- The share of the limit the trip reads. -/
theorem v49_apply {V0 : Valuation τ sig (Elt Ideal)} {k : ℕ} (hV : Counted V0 k) :
    (res_main_while0b_v49 V0 : FVec Ideal S_ .f32) ix0 = (V0 (Proc.devRef .tc main_v38_1) : FVec Ideal S50 .f32) (ix1 ⟨k, hV.lt⟩) :=
  at_counter hV.lt _ _ hV.counter

/-- The guarded scores of the nodes with weights `P` and words `W`. -/
def drawX (P : FVec Ideal S32x64x16 .f32) (W : IVec S32x64x16 32) : FVec Ideal S32x64x16 .f32 :=
  addf (Host.negf (Host.log (Host.negf (Host.log (maximumf (subf (bitcastToFloat .f32 (ori
    (Host.shrui W (broadcastInDim S32x64x16 ![] bcast_S_S32x64x16 (constantI S_ 32 9#32)))
    (broadcastInDim S32x64x16 ![] bcast_S_S32x64x16 (constantI S_ 32 1065353216#32))))
    (broadcastInDim S32x64x16 ![] bcast_S_S32x64x16 (constant S_ .f32 0x3F800000#32)))
    (broadcastInDim S32x64x16 ![] bcast_S_S32x64x16 (constant S_ .f32 0x00800000#32)))))))
    (Host.log (maximumf (Host.divf P (broadcastInDim S32x64x16 ![0, 1, 2] bcast_S32x64x1_S32x64x16_0_1_2
      (maximumf (broadcastInDim S32x64x1 ![] bcast_S_S32x64x1 (id (constant S_ .f32 0x2B8CBCCC#32)))
        (broadcastInDim S32x64x1 ![0, 1] bcast_S32x64_S32x64x1_0_1
          (Host.reduceAdd P (constant S_ .f32 0x00000000#32) reducesTo_S32x64x16_S32x64_d2 h_S_)))))
      (broadcastInDim S32x64x16 ![] bcast_S_S32x64x16 (constant S_ .f32 0x0DA24260#32))))

/-- The guarded score of a class. -/
theorem drawX_apply (P : FVec Ideal S32x64x16 .f32) (W : IVec S32x64x16 32) (b : Fin 32) (i : Fin 64) (c : Fin 16) :
    drawX P W (ix3 b i c) = Sampler.guarded (fun x => P (ix3 b i x)) (W (ix3 b i c)) c := by
  unfold drawX
  pointwise
  rw [show IntOp.shrui .host (W (ix3 b i c)) 9#32 = W (ix3 b i c) >>> 9#32 from if_pos (by decide)]
  rfl

/-- The weight of a class. -/
theorem v56_apply {V0 : Valuation τ sig (Elt Ideal)} {k : ℕ} (hV : Counted V0 k) (b : Fin 32) (i : Fin 64) (c : Fin 16) :
    (res_main_while0b_v56 V0 : FVec Ideal S32x64x16 .f32) (ix3 b i c)
      = Sampler.weight ((V0 (Proc.devRef .tc main_v38_7) : FVec Ideal S32x64x16 .f32) (ix3 b i c))
        ((V0 (Proc.devRef .tc main_v38_2) : FVec Ideal S32x64x16 .f32) (ix3 b i c))
        ((V0 (Proc.devRef .tc main_v38_1) : FVec Ideal S50 .f32) (ix1 ⟨k, hV.lt⟩)) := by
  unfold res_main_while0b_v56
  pointwise
  rw [v49_apply hV, show id (constant (F := Ideal) S_ .f32 1065353216#32) ix0 = (1 : EReal) from Ideal.ofBits_one_f32,
    show id (constant (F := Ideal) S_ .f32 0#32) ix0 = (0 : EReal) from Ideal.ofBits_zero_f32]
  rfl

/-- The score the trip gives a class of the nodes. -/
theorem v145_apply {V0 : Valuation τ sig (Elt Ideal)} {k : ℕ} (hV : Counted V0 k) (b : Fin 32) (i : Fin 64) (c : Fin 16) :
    (res_main_while0b_v145 V0 : FVec Ideal S32x64x16 .f32) (ix3 b i c)
      = Sampler.guarded (fun x => Sampler.weight ((V0 (Proc.devRef .tc main_v38_7) : FVec Ideal S32x64x16 .f32) (ix3 b i x))
        ((V0 (Proc.devRef .tc main_v38_2) : FVec Ideal S32x64x16 .f32) (ix3 b i x))
        ((V0 (Proc.devRef .tc main_v38_1) : FVec Ideal S50 .f32) (ix1 ⟨k, hV.lt⟩))) (Sampler.wordX k b i c) c := by
  have e : (res_main_while0b_v145 V0 : FVec Ideal S32x64x16 .f32)
      = drawX (res_main_while0b_v56 V0) (xori (wordsX V0).1 (wordsX V0).2) := by
    unfold wordsX
    rw [call9_eq]
    rfl
  rw [e, drawX_apply, wordsX_apply hV]
  simp only [v56_apply hV]

/-- The guarded scores of the edges with weights `P` and words `W`. -/
def drawE (P : FVec Ideal S32x64x64x5 .f32) (W : IVec S32x64x64x5 32) : FVec Ideal S32x64x64x5 .f32 :=
  addf (Host.negf (Host.log (Host.negf (Host.log (maximumf (subf (bitcastToFloat .f32 (ori
    (Host.shrui W (broadcastInDim S32x64x64x5 ![] bcast_S_S32x64x64x5 (constantI S_ 32 9#32)))
    (broadcastInDim S32x64x64x5 ![] bcast_S_S32x64x64x5 (constantI S_ 32 1065353216#32))))
    (broadcastInDim S32x64x64x5 ![] bcast_S_S32x64x64x5 (constant S_ .f32 0x3F800000#32)))
    (broadcastInDim S32x64x64x5 ![] bcast_S_S32x64x64x5 (constant S_ .f32 0x00800000#32)))))))
    (Host.log (maximumf (Host.divf P (broadcastInDim S32x64x64x5 ![0, 1, 2, 3] bcast_S32x64x64x1_S32x64x64x5_0_1_2_3
      (maximumf (broadcastInDim S32x64x64x1 ![] bcast_S_S32x64x64x1 (id (constant S_ .f32 0x2B8CBCCC#32)))
        (broadcastInDim S32x64x64x1 ![0, 1, 2] bcast_S32x64x64_S32x64x64x1_0_1_2
          (Host.reduceAdd P (constant S_ .f32 0x00000000#32) reducesTo_S32x64x64x5_S32x64x64_d3 h_S_)))))
      (broadcastInDim S32x64x64x5 ![] bcast_S_S32x64x64x5 (constant S_ .f32 0x0DA24260#32))))

/-- The guarded score of a class. -/
theorem drawE_apply (P : FVec Ideal S32x64x64x5 .f32) (W : IVec S32x64x64x5 32) (b : Fin 32) (i j : Fin 64) (c : Fin 5) :
    drawE P W (ix4 b i j c) = Sampler.guarded (fun x => P (ix4 b i j x)) (W (ix4 b i j c)) c := by
  unfold drawE
  pointwise
  rw [show IntOp.shrui .host (W (ix4 b i j c)) 9#32 = W (ix4 b i j c) >>> 9#32 from if_pos (by decide)]
  rfl

/-- The weight of a class. -/
theorem v63_apply {V0 : Valuation τ sig (Elt Ideal)} {k : ℕ} (hV : Counted V0 k) (b : Fin 32) (i j : Fin 64) (c : Fin 5) :
    (res_main_while0b_v63 V0 : FVec Ideal S32x64x64x5 .f32) (ix4 b i j c)
      = Sampler.weight ((V0 (Proc.devRef .tc main_v38_8) : FVec Ideal S32x64x64x5 .f32) (ix4 b i j c))
        ((V0 (Proc.devRef .tc main_v38_3) : FVec Ideal S32x64x64x5 .f32) (ix4 b i j c))
        ((V0 (Proc.devRef .tc main_v38_1) : FVec Ideal S50 .f32) (ix1 ⟨k, hV.lt⟩)) := by
  unfold res_main_while0b_v63
  pointwise
  rw [v49_apply hV, show id (constant (F := Ideal) S_ .f32 1065353216#32) ix0 = (1 : EReal) from Ideal.ofBits_one_f32,
    show id (constant (F := Ideal) S_ .f32 0#32) ix0 = (0 : EReal) from Ideal.ofBits_zero_f32]
  rfl

/-- The score the trip gives a class of the edges. -/
theorem v195_apply {V0 : Valuation τ sig (Elt Ideal)} {k : ℕ} (hV : Counted V0 k) (b : Fin 32) (i j : Fin 64) (c : Fin 5) :
    (res_main_while0b_v195 V0 : FVec Ideal S32x64x64x5 .f32) (ix4 b i j c)
      = Sampler.guarded (fun x => Sampler.weight ((V0 (Proc.devRef .tc main_v38_8) : FVec Ideal S32x64x64x5 .f32) (ix4 b i j x))
        ((V0 (Proc.devRef .tc main_v38_3) : FVec Ideal S32x64x64x5 .f32) (ix4 b i j x))
        ((V0 (Proc.devRef .tc main_v38_1) : FVec Ideal S50 .f32) (ix1 ⟨k, hV.lt⟩))) (Noise.bits (Sampler.keyE k).1 (Sampler.keyE k).2 (BitVec.ofNat 32 (b.val * 20480 + (i.val * 64 + j.val) * 5 + c.val))) c := by
  have e : (res_main_while0b_v195 V0 : FVec Ideal S32x64x64x5 .f32)
      = drawE (res_main_while0b_v63 V0) (xori (wordsE V0).1 (wordsE V0).2) := by
    unfold wordsE
    rw [call12_eq]
    rfl
  rw [e, drawE_apply, wordsE_apply hV]
  simp only [v63_apply hV]

end scores
end Cert.ReferenceIdeal.Value
end
-- ==== Proof.RefArgmax.lean ====
module
public import proofs.«01_k».proof.Proof.RefScores
public import Idealize.ShloMosaic.Lib.SortNet.Extract
/-!
# The reference's choice of a class

A row's class is the least lane that holds the row's maximum: a maximum along the row, then a minimum over the lanes
that reach it. Here those two reductions are read as the first maximum of the row.
-/
public section
noncomputable section
namespace Cert.ReferenceIdeal.Value
open Cert.ReferenceIdeal Cert.ReferenceIdeal.Gen Idealize.ShloMosaic Idealize.ShloMosaic.TcCoe

/-- The maximum of a row, from the least element up, is the value at the row's first maximum. -/
theorem fold_max_first {n : ℕ} (z : Fin n → EReal) {c : Fin n} (h : Sampler.First z c) :
    (Finset.univ : Finset (Fin n)).fold max ⊥ z = z c :=
  le_antisymm ((Finset.fold_max_le _).2 ⟨bot_le, fun a _ => h.2 a⟩)
    (Finset.le_fold_max _ |>.2 (Or.inr ⟨c, Finset.mem_univ c, le_rfl⟩))

/-- The signed integer of a minimum of words is below every word it was taken over. -/
theorem fold_min_le {n : ℕ} (q : Fin n → BitVec 32) (e : BitVec 32) (c : Fin n) :
    ((Finset.univ : Finset (Fin n)).fold IntOp.minsi e q).toInt ≤ (q c).toInt := by
  rw [← Finset.fold_hom (op := IntOp.minsi) (op' := min) SortNet.toInt_minsi]
  exact (Finset.fold_min_le _).2 (Or.inr ⟨c, Finset.mem_univ c, le_rfl⟩)

/-- The signed integer of a minimum of words is above every bound of the words and of the initial word. -/
theorem le_fold_min {n : ℕ} (q : Fin n → BitVec 32) (e : BitVec 32) (m : ℤ) (he : m ≤ e.toInt) (hq : ∀ c, m ≤ (q c).toInt) :
    m ≤ ((Finset.univ : Finset (Fin n)).fold IntOp.minsi e q).toInt := by
  rw [← Finset.fold_hom (op := IntOp.minsi) (op' := min) SortNet.toInt_minsi]
  exact (Finset.le_fold_min _).2 ⟨he, fun c _ => hq c⟩

theorem lane_toInt {n : ℕ} (h : n ≤ 16) : (BitVec.ofNat 32 n).toInt = n := by
  rw [BitVec.toInt_ofNat', Int.bmod_def]
  omega

/-- The least lane among those whose value is the row's maximum, for a row of at most sixteen. -/
theorem least_lane {n : ℕ} (hn : n ≤ 16) (z : Fin n → EReal) {c : Fin n} (h : Sampler.First z c) :
    (Finset.univ : Finset (Fin n)).fold IntOp.minsi 2147483647#32
      (fun a => if z a = z c then BitVec.ofNat 32 a.val else BitVec.ofNat 32 n) = BitVec.ofNat 32 c.val := by
  apply BitVec.toInt_inj.1
  apply le_antisymm
  · refine (fold_min_le _ _ c).trans (le_of_eq ?_)
    rw [if_pos rfl]
  · rw [lane_toInt (by omega : c.val ≤ 16)]
    refine le_fold_min _ _ _ ?_ fun a => ?_
    · rw [show (2147483647#32).toInt = 2147483647 by decide]
      omega
    · by_cases e : z a = z c
      · rw [if_pos e, lane_toInt (by omega : a.val ≤ 16)]
        by_contra hlt
        have : a < c := Fin.lt_def.2 (by omega)
        exact absurd e (ne_of_lt (h.1 a this))
      · rw [if_neg e, lane_toInt hn]
        omega

/-- Negative infinity is the least value. -/
theorem infinity_word : Ideal.ofBits .f32 0xFF800000#32 = ⊥ := by
  simp [Ideal.ofBits, Ideal.ieee]

/-- A maximum along a row, then the least lane that reaches it: the row's first maximum. -/
theorem reduce_first {s t : Shape} {axes : List (Fin s.rank)} (h : s.ReducesTo axes t) (hu : 0 < S_.numel) (j : t.Idx) {n : ℕ} (hn : n ≤ 16)
    (row : Fin n → s.Idx) (hi : Function.Injective row) (hr : ∀ i, h.drop i = j ↔ ∃ k, row k = i) (Z : FVec Ideal s .f32)
    (q : IVec s 32)
    (hq : ∀ a, q (row a) = if Z (row a) = Host.reduce FloatOps.maximumf Z (constant S_ .f32 0xFF800000#32) h hu j
      then BitVec.ofNat 32 a.val else BitVec.ofNat 32 n)
    {c : Fin n} (hc : Sampler.First (fun a => (Z (row a) : EReal)) c) :
    Host.reduce IntOp.minsi q (constantI S_ 32 2147483647#32) h hu j = BitVec.ofNat 32 c.val := by
  have top : Host.reduce FloatOps.maximumf Z (constant S_ .f32 0xFF800000#32) h hu j = Z (row c) := by
    refine (Host.reduce_eq_fold (max : EReal → EReal → EReal) Z _ h hu j).trans ?_
    rw [Finset.fold_filter_eq_fold_of_fiber max _ row hi hr]
    refine Eq.trans ?_ (fold_max_first _ hc)
    exact congrArg (fun e => (Finset.univ : Finset (Fin n)).fold max e _) infinity_word
  rw [Host.reduce_eq_fold, Finset.fold_filter_eq_fold_of_fiber IntOp.minsi _ row hi hr]
  refine Eq.trans ?_ (least_lane hn _ hc)
  refine congrArg (fun f => (Finset.univ : Finset (Fin n)).fold IntOp.minsi 2147483647#32 f) (funext fun a => ?_)
  rw [hq a, top]

end Cert.ReferenceIdeal.Value
end
end
-- ==== Proof.RefTrip.lean ====
module
public import proofs.«01_k».proof.Proof.RefArgmax
/-!
# One iteration of the reference

At iteration `k`, where the loop's arrays hold the nodes and the edges of step `k` and every mask word is one, the two
arrays the iteration computes are the nodes and the edges of step `k + 1`.
-/
public section
noncomputable section
namespace Cert.ReferenceIdeal.Value
open Cert.ReferenceIdeal Cert.ReferenceIdeal.Gen Idealize.ShloMosaic Idealize.ShloMosaic.TcCoe

/-- The loop's arrays at the start of iteration `k`. -/
structure Before (I : Sampler.Inputs) (V0 : Valuation τ sig (Elt Ideal)) (k : ℕ) : Prop where
  counted : Counted V0 k
  mask : ∀ b i, (V0 (Proc.devRef .tc main_v38_5) : IVec S32x64 1) (ix2 b i) = 1#1
  share : ∀ s, (V0 (Proc.devRef .tc main_v38_1) : FVec Ideal S50 .f32) (ix1 s) = I.share s.val
  limX : ∀ b i c, (V0 (Proc.devRef .tc main_v38_2) : FVec Ideal S32x64x16 .f32) (ix3 b i c) = I.limX c
  limE : ∀ b i j c, (V0 (Proc.devRef .tc main_v38_3) : FVec Ideal S32x64x64x5 .f32) (ix4 b i j c) = I.limE c
  nodes : ∀ b i c, (V0 (Proc.devRef .tc main_v38_7) : FVec Ideal S32x64x16 .f32) (ix3 b i c) = Sampler.nodes I k b i c
  edges : ∀ b i j c, (V0 (Proc.devRef .tc main_v38_8) : FVec Ideal S32x64x64x5 .f32) (ix4 b i j c) = Sampler.edges I k b i j c

variable {I : Sampler.Inputs} (hI : I.Valid) {V0 : Valuation τ sig (Elt Ideal)} {k : ℕ} (hV : Before I V0 k)

/-- Whether two classes are equal, as a number. -/
theorem same_word {x y : ℕ} (hx : x < 2 ^ 32) (hy : y < 2 ^ 32) :
    (FloatOps.uitofp .f32 (IntOp.cmpi .eq (BitVec.ofNat 32 x) (BitVec.ofNat 32 y)) : Ideal .f32) = if x = y then (1 : EReal) else 0 := by
  show (((IntOp.cmpi .eq (BitVec.ofNat 32 x) (BitVec.ofNat 32 y)).toNat : ℝ) : EReal) = _
  rw [WordCmp.cmpi_eq_ofNat hx hy]
  by_cases e : x = y
  · simp [e]
  · simp [e]

/-- Whether a class is the winner, as a number. -/
theorem pick_word {n : ℕ} (hn : n ≤ 16) (z : Fin n → EReal) {m : Fin n} (h : Sampler.First z m) (c : Fin n) :
    (FloatOps.uitofp .f32 (IntOp.cmpi .eq (BitVec.ofNat 32 m.val) (BitVec.ofNat 32 c.val)) : Ideal .f32) = Sampler.pick z c := by
  rw [same_word (by omega) (by omega)]
  unfold Sampler.pick
  by_cases e : m = c
  · subst e
    rw [if_pos h, if_pos rfl]
  · rw [if_neg fun h' => e (h.unique h'), if_neg fun h' => e (Fin.ext h')]

/-- A mask word of one is the number one. -/
theorem one_word : (FloatOps.uitofp .f32 1#1 : Ideal .f32) = (1 : EReal) := by
  show (((1#1 : BitVec 1).toNat : ℝ) : EReal) = 1
  simp

include hI hV in
/-- The first maximum of a node's guarded scores is that of its scores. -/
theorem node_first (b : Fin 32) (i : Fin 64) (c : Fin 16) :
    Sampler.First (fun a => ((res_main_while0b_v145 V0 : FVec Ideal S32x64x16 .f32) (ix3 b i a) : EReal)) c
      ↔ Sampler.First (fun a => Sampler.score (Sampler.nodes I k b i a) (I.limX a) (I.share k) (Sampler.wordX k b i a)) c := by
  rw [← Sampler.guarded_iff (by norm_num) _ _ _ _ (Sampler.nodes_live hI hV.counted.lt b i) c]
  refine iff_of_eq (congrArg (fun z => Sampler.First z c) (funext fun a => ?_))
  rw [v145_apply hV.counted]
  simp only [hV.nodes, hV.limX, hV.share]

include hI hV in
/-- The first maximum of the guarded scores of the edge between `i` and a later `j` is that of its scores. -/
theorem edge_first (b : Fin 32) {i j : Fin 64} (hij : i < j) (c : Fin 5) :
    Sampler.First (fun a => ((res_main_while0b_v195 V0 : FVec Ideal S32x64x64x5 .f32) (ix4 b i j a) : EReal)) c
      ↔ Sampler.First (fun a => Sampler.score (Sampler.edges I k b i j a) (I.limE a) (I.share k) (Sampler.wordE k b i j a)) c := by
  rw [← Sampler.guarded_iff (by norm_num) _ _ _ _ (Sampler.edges_live hI hV.counted.lt b (ne_of_lt hij)) c]
  refine iff_of_eq (congrArg (fun z => Sampler.First z c) (funext fun a => ?_))
  rw [v195_apply hV.counted]
  simp only [hV.edges, hV.limE, hV.share]
  unfold Sampler.wordE
  have h1 : min i.val j.val = i.val := min_eq_left (le_of_lt hij)
  have h2 : max i.val j.val = j.val := max_eq_right (le_of_lt hij)
  simp only [h1, h2]

include hI hV in
/-- The iteration's nodes. -/
theorem v214_apply (b : Fin 32) (i : Fin 64) (c : Fin 16) :
    (res_main_while0b_v214 V0 : FVec Ideal S32x64x16 .f32) (ix3 b i c) = Sampler.nodes I (k + 1) b i c := by
  obtain ⟨m, hm⟩ := Sampler.exists_first
    (fun a => ((res_main_while0b_v145 V0 : FVec Ideal S32x64x16 .f32) (ix3 b i a) : EReal)) 0
  have key := reduce_first reducesTo_S32x64x16_S32x64_d2 h_S_ (ix2 b i) (n := 16) le_rfl (fun a => ix3 b i a)
    (fun _ _ e => congrFun e 2) (fun x => reducesTo_S32x64x16_S32x64_d2.fiber_r3_a2 (ix2 b i) x) (res_main_while0b_v145 V0)
    (select (cmpf .oeq (res_main_while0b_v145 V0) (broadcastInDim S32x64x16 ![0, 1, 2] bcast_S32x64x1_S32x64x16_0_1_2 (broadcastInDim S32x64x1 ![0, 1] bcast_S32x64_S32x64x1_0_1 (Host.reduce FloatOps.maximumf (res_main_while0b_v145 V0) (constant S_ .f32 0xFF800000#32) reducesTo_S32x64x16_S32x64_d2 h_S_)))) (iotaInDim S32x64x16 32 2) (broadcastInDim S32x64x16 ![] bcast_S_S32x64x16 (id (constantI S_ 32 16#32))))
    (fun a => by
      generalize (Host.reduce FloatOps.maximumf (res_main_while0b_v145 V0) (constant S_ .f32 0xFF800000#32) reducesTo_S32x64x16_S32x64_d2 h_S_) = M
      pointwise
      rfl) hm
  unfold res_main_while0b_v214
  generalize Host.reduce IntOp.minsi _ _ _ _ = R at key ⊢
  pointwise
  rw [key, hV.mask, pick_word le_rfl _ ((node_first hI hV b i m).1 hm) c]
  rw [one_word]
  exact mul_one (Sampler.nodes I (k + 1) b i c)

/-- The word of the upper half of the edges' classes. -/
theorem v203_apply (b : Fin 32) (i j : Fin 64) {m : Fin 5}
    (hm : Sampler.First (fun a => ((res_main_while0b_v195 V0 : FVec Ideal S32x64x64x5 .f32) (ix4 b i j a) : EReal)) m) :
    (res_main_while0b_v203 V0 : IVec S32x64x64 32) (ix3 b i j) = if i < j then BitVec.ofNat 32 m.val else 0#32 := by
  have key := reduce_first reducesTo_S32x64x64x5_S32x64x64_d3 h_S_ (ix3 b i j) (n := 5) (by norm_num) (fun a => ix4 b i j a)
    (fun _ _ e => congrFun e 3) (fun x => reducesTo_S32x64x64x5_S32x64x64_d3.fiber_r4_a3 (ix3 b i j) x) (res_main_while0b_v195 V0)
    (select (cmpf .oeq (res_main_while0b_v195 V0) (broadcastInDim S32x64x64x5 ![0, 1, 2, 3] bcast_S32x64x64x1_S32x64x64x5_0_1_2_3 (broadcastInDim S32x64x64x1 ![0, 1, 2] bcast_S32x64x64_S32x64x64x1_0_1_2 (Host.reduce FloatOps.maximumf (res_main_while0b_v195 V0) (constant S_ .f32 0xFF800000#32) reducesTo_S32x64x64x5_S32x64x64_d3 h_S_)))) (iotaInDim S32x64x64x5 32 3) (broadcastInDim S32x64x64x5 ![] bcast_S_S32x64x64x5 (id (constantI S_ 32 5#32))))
    (fun a => by
      generalize (Host.reduce FloatOps.maximumf (res_main_while0b_v195 V0) (constant S_ .f32 0xFF800000#32) reducesTo_S32x64x64x5_S32x64x64_d3 h_S_) = M
      pointwise
      rfl) hm
  unfold res_main_while0b_v203
  generalize Host.reduce IntOp.minsi _ _ _ _ = R at key ⊢
  pointwise
  rw [key]
  rw [show IntOp.addi (BitVec.ofNat 32 i.val) 0#32 = BitVec.ofNat 32 i.val from BitVec.add_zero _,
    WordCmp.cmpi_sge_ofNat (by omega) (by omega)]
  by_cases h : i < j
  · rw [if_pos h, decide_eq_false (by have := Fin.lt_def.1 h; omega)]
    rfl
  · rw [if_neg h, decide_eq_true (by have := mt Fin.lt_def.2 h; omega)]
    rfl

include hI hV in
/-- The iteration's edges. -/
theorem v218_apply (b : Fin 32) (i j : Fin 64) (c : Fin 5) :
    (res_main_while0b_v218 V0 : FVec Ideal S32x64x64x5 .f32) (ix4 b i j c) = Sampler.edges I (k + 1) b i j c := by
  obtain ⟨m, hm⟩ := Sampler.exists_first
    (fun a => ((res_main_while0b_v195 V0 : FVec Ideal S32x64x64x5 .f32) (ix4 b i j a) : EReal)) 0
  obtain ⟨m', hm'⟩ := Sampler.exists_first
    (fun a => ((res_main_while0b_v195 V0 : FVec Ideal S32x64x64x5 .f32) (ix4 b j i a) : EReal)) 0
  have up := v203_apply b i j hm
  have low := v203_apply b j i hm'
  unfold res_main_while0b_v218
  generalize res_main_while0b_v203 V0 = R at up low ⊢
  pointwise
  rw [up, low, hV.mask, hV.mask, one_word]
  show _ * (1 : EReal) * (1 : EReal) = if i = j then (if c = 0 then 1 else 0)
      else Sampler.pick (fun c => Sampler.score (Sampler.edges I k b i j c) (I.limE c) (I.share k) (Sampler.wordE k b i j c)) c
  rw [mul_one, mul_one]
  rcases lt_trichotomy i j with h | h | h
  · rw [if_pos h, if_neg (not_lt_of_gt h), if_neg (ne_of_lt h), show IntOp.addi (BitVec.ofNat 32 m.val) 0#32 = BitVec.ofNat 32 m.val from BitVec.add_zero _]
    exact pick_word (by norm_num) _ ((edge_first hI hV b h m).1 hm) c
  · subst h
    rw [if_neg (lt_irrefl i), if_neg (lt_irrefl i), if_pos rfl, show IntOp.addi 0#32 0#32 = BitVec.ofNat 32 0 from by decide]
    refine (same_word (x := 0) (by norm_num) (by omega)).trans ?_
    by_cases e : c = 0
    · subst e
      rw [if_pos rfl]
      exact if_pos rfl
    · rw [if_neg e, if_neg fun h' => e (Fin.ext h'.symm)]
  · rw [if_pos h, if_neg (not_lt_of_gt h), if_neg (ne_of_gt h), show IntOp.addi 0#32 (BitVec.ofNat 32 m'.val) = BitVec.ofNat 32 m'.val from BitVec.zero_add _]
    refine (pick_word (by norm_num) _ ((edge_first hI hV b h m').1 hm') c).trans ?_
    refine congrArg (fun z => Sampler.pick z c) (funext fun a => ?_)
    rw [Sampler.edges_symm hI k b i j a, Sampler.wordE_symm k b i j a]

end Cert.ReferenceIdeal.Value
end
end
-- ==== Proof.RefEntry.lean ====
module
public import proofs.«01_k».proof.Proof.RefTrip
public import proofs.«01_k».proof.Proof.Arrays
/-!
# The reference's arrays before its loop

Where every mask word is one, the loop starts from the inputs themselves.
-/
public section
noncomputable section
namespace Cert.ReferenceIdeal.Value
open Cert.ReferenceIdeal Cert.ReferenceIdeal.Gen Idealize.ShloMosaic Idealize.ShloMosaic.TcCoe Idealize.ShloMosaic.StableHlo

variable (m : (ℓ : Loc nD τ sig) → Buf (Elt Ideal) ℓ) (c : Dev nD)

/-- The sampler's inputs on a core. -/
@[expose] def given : Sampler.Inputs :=
  Sampler.Inputs.of (m ((c : Thread nD τ).loc main_arg0)) (m ((c : Thread nD τ).loc main_arg1)) (m ((c : Thread nD τ).loc main_arg3))
    (m ((c : Thread nD τ).loc main_arg4)) (m ((c : Thread nD τ).loc main_arg5))

/-- The loop's contents when it is entered. -/
abbrev entry : Valuation τ sig (Elt Ideal) := entryContents preI m c

theorem entry_times : entry m c (Proc.devRef .tc main_v38_0) = iotaInDim S50 32 0 := by
  simp only [entry, entryContents, afterL_cons, afterL_nil]
  after_reads_simp
  rfl

theorem entry_share (s : Fin 50) : (entry m c (Proc.devRef .tc main_v38_1) : FVec Ideal S50 .f32) (ix1 s) = (given m c).share s.val := by
  have e : entry m c (Proc.devRef .tc main_v38_1) = m ((c.tc : Thread nD τ).loc main_arg5) := by
    simp only [entry, entryContents, afterL_cons, afterL_nil]
    after_reads_simp
    rfl
  rw [e]
  unfold Sampler.Inputs.share
  rw [dif_pos s.isLt]
  rfl

theorem entry_mask : entry m c (Proc.devRef .tc main_v38_5) = m ((c.tc : Thread nD τ).loc main_arg2) := by
  simp only [entry, entryContents, afterL_cons, afterL_nil]
  after_reads_simp
  rfl

/-- The loop's key: the seed's high word and its low word. -/
theorem entry_key : entry m c (Proc.devRef .tc main_v38_4) = joined (spread bcast_S_S1 (Host.shrui (constantI S_ 32 1#32) (constantI S_ 32 32#32)),
    spread bcast_S_S1 (andi (constantI S_ 32 1#32) (constantI S_ 32 4294967295#32))) := by
  simp only [entry, entryContents, afterL_cons, afterL_nil]
  after_reads_simp
  rfl

theorem entry_key0 : (entry m c (Proc.devRef .tc main_v38_4) : IVec S2 32) (ix1 0) = 0#32 := by
  rw [entry_key, joined_zero]
  dsimp only
  rw [spread_apply]
  rfl

theorem entry_key1 : (entry m c (Proc.devRef .tc main_v38_4) : IVec S2 32) (ix1 1) = 1#32 := by
  rw [entry_key, joined_one]
  dsimp only
  rw [spread_apply]
  rfl

variable (hM : ∀ b i, (m ((c.tc : Thread nD τ).loc main_arg2) : IVec S32x64 1) (ix2 b i) = 1#1)

include hM in
theorem entry_limX (b : Fin 32) (i : Fin 64) (a : Fin 16) :
    (entry m c (Proc.devRef .tc main_v38_2) : FVec Ideal S32x64x16 .f32) (ix3 b i a) = (given m c).limX a := by
  have e : (entry m c (Proc.devRef .tc main_v38_2) : FVec Ideal S32x64x16 .f32) = mulf (F := Ideal) (φ := .f32) (broadcastInDim S32x64x16 ![2] bcast_S16_S32x64x16_2 (m ((c.tc : Thread nD τ).loc main_arg3) : FVec Ideal S16 .f32))
        (broadcastInDim S32x64x16 ![0, 1, 2] bcast_S32x64x1_S32x64x16_0_1_2
          (uitofp FTy.f32 (broadcastInDim S32x64x1 ![0, 1] bcast_S32x64_S32x64x1_0_1 (m ((c.tc : Thread nD τ).loc main_arg2))))) := by
    simp only [entry, entryContents, afterL_cons, afterL_nil]
    after_reads_simp
    rfl
  rw [e]
  pointwise
  rw [hM, one_word]
  exact mul_one ((given m c).limX a)

include hM in
theorem entry_limE (b : Fin 32) (i j : Fin 64) (a : Fin 5) :
    (entry m c (Proc.devRef .tc main_v38_3) : FVec Ideal S32x64x64x5 .f32) (ix4 b i j a) = (given m c).limE a := by
  have e : (entry m c (Proc.devRef .tc main_v38_3) : FVec Ideal S32x64x64x5 .f32) = mulf (F := Ideal) (φ := .f32)
        (mulf (broadcastInDim S32x64x64x5 ![3] bcast_S5_S32x64x64x5_3 (m ((c.tc : Thread nD τ).loc main_arg4) : FVec Ideal S5 .f32))
          (broadcastInDim S32x64x64x5 ![0, 1, 2, 3] bcast_S32x64x1x1_S32x64x64x5_0_1_2_3
            (uitofp FTy.f32 (broadcastInDim S32x64x1x1 ![0, 1] bcast_S32x64_S32x64x1x1_0_1 (m ((c.tc : Thread nD τ).loc main_arg2))))))
        (broadcastInDim S32x64x64x5 ![0, 1, 2, 3] bcast_S32x1x64x1_S32x64x64x5_0_1_2_3
          (uitofp FTy.f32 (broadcastInDim S32x1x64x1 ![0, 2] bcast_S32x64_S32x1x64x1_0_2 (m ((c.tc : Thread nD τ).loc main_arg2))))) := by
    simp only [entry, entryContents, afterL_cons, afterL_nil]
    after_reads_simp
    rfl
  rw [e]
  pointwise
  rw [hM, hM, one_word]
  exact (mul_one _).trans (mul_one ((given m c).limE a))

include hM in
theorem entry_nodes (b : Fin 32) (i : Fin 64) (a : Fin 16) :
    (entry m c (Proc.devRef .tc main_v38_7) : FVec Ideal S32x64x16 .f32) (ix3 b i a) = Sampler.nodes (given m c) 0 b i a := by
  have e : (entry m c (Proc.devRef .tc main_v38_7) : FVec Ideal S32x64x16 .f32) = mulf (F := Ideal) (φ := .f32) (m ((c.tc : Thread nD τ).loc main_arg0) : FVec Ideal S32x64x16 .f32)
        (broadcastInDim S32x64x16 ![0, 1, 2] bcast_S32x64x1_S32x64x16_0_1_2
          (uitofp FTy.f32 (broadcastInDim S32x64x1 ![0, 1] bcast_S32x64_S32x64x1_0_1 (m ((c.tc : Thread nD τ).loc main_arg2))))) := by
    simp only [entry, entryContents, afterL_cons, afterL_nil]
    after_reads_simp
    rfl
  rw [e]
  pointwise
  rw [hM, one_word]
  exact mul_one ((given m c).X b i a)

include hM in
theorem entry_edges (b : Fin 32) (i j : Fin 64) (a : Fin 5) :
    (entry m c (Proc.devRef .tc main_v38_8) : FVec Ideal S32x64x64x5 .f32) (ix4 b i j a) = Sampler.edges (given m c) 0 b i j a := by
  have e : (entry m c (Proc.devRef .tc main_v38_8) : FVec Ideal S32x64x64x5 .f32) = mulf (F := Ideal) (φ := .f32)
        (mulf (m ((c.tc : Thread nD τ).loc main_arg1) : FVec Ideal S32x64x64x5 .f32)
          (broadcastInDim S32x64x64x5 ![0, 1, 2, 3] bcast_S32x64x1x1_S32x64x64x5_0_1_2_3
            (uitofp FTy.f32 (broadcastInDim S32x64x1x1 ![0, 1] bcast_S32x64_S32x64x1x1_0_1 (m ((c.tc : Thread nD τ).loc main_arg2))))))
        (broadcastInDim S32x64x64x5 ![0, 1, 2, 3] bcast_S32x1x64x1_S32x64x64x5_0_1_2_3
          (uitofp FTy.f32 (broadcastInDim S32x1x64x1 ![0, 2] bcast_S32x64_S32x1x64x1_0_2 (m ((c.tc : Thread nD τ).loc main_arg2))))) := by
    simp only [entry, entryContents, afterL_cons, afterL_nil]
    after_reads_simp
    rfl
  rw [e]
  pointwise
  rw [hM, hM, one_word]
  exact (mul_one _).trans (mul_one ((given m c).E b i j a))

include hM in
/-- Before the loop's first iteration. -/
theorem entry_before : Before (given m c) (entry m c) 0 where
  counted := ⟨by norm_num, entry_times m c, ctr_entry m c, entry_key0 m c, entry_key1 m c⟩
  mask b i := by rw [entry_mask]; exact hM b i
  share := entry_share m c
  limX := entry_limX m c hM
  limE := entry_limE m c hM
  nodes := entry_nodes m c hM
  edges := entry_edges m c hM

end Cert.ReferenceIdeal.Value
end
end
-- ==== Proof.RefRows.lean ====
module
public import proofs.«01_k».proof.Proof.RefEntry
/-!
# Writing one row of a stack

The loop writes its arrays into row `k` of four stacks. A written stack holds the new array at row `k` and is unchanged
elsewhere.
-/
public section
noncomputable section
namespace Cert.ReferenceIdeal.Value
open Cert.ReferenceIdeal Cert.ReferenceIdeal.Gen Idealize.ShloMosaic Idealize.ShloMosaic.TcCoe

theorem counter_toInt {k : ℕ} (hk : k < 50) : (BitVec.ofNat 32 k).toInt = (k : ℤ) := by
  rw [BitVec.toInt_ofNat', Int.bmod_def]
  omega

/-- A stack of the nodes' arrays after row `k` is written. -/
theorem write_nodes (x : FVec Ideal S50x32x64x16 .f32) (u : FVec Ideal S32x64x16 .f32) {k : ℕ} (hk : k < 50) (w : IVec S_ 32)
    (hw : w = constantI S_ 32 (BitVec.ofNat 32 k)) (s : Fin 50) (b : Fin 32) (i : Fin 64) (a : Fin 16) :
    Host.dynamicUpdateSlice x (broadcastInDim S1x32x64x16 ![1, 2, 3] bcast_S32x64x16_S1x32x64x16_1_2_3 u)
      (fun k => (((![w, constantI S_ 32 0#32, constantI S_ 32 0#32, constantI S_ 32 0#32] : Fin 4 → IVec S_ 32)) k (Shape.Idx.first h_S_)).toInt)
      updateFits_S50x32x64x16_S1x32x64x16 (ix4 s b i a) = if s.val = k then u (ix3 b i a) else x (ix4 s b i a) := by
  subst hw
  have fits : S50x32x64x16.Slices ![k, 0, 0, 0] S1x32x64x16 := ⟨rfl, fun a => by
    match a with
    | 0 => show k + 1 ≤ 50; omega
    | 1 => exact le_rfl
    | 2 => exact le_rfl
    | 3 => exact le_rfl⟩
  have start : ∀ a : Fin 4, ((![constantI S_ 32 (BitVec.ofNat 32 k), constantI S_ 32 0#32, constantI S_ 32 0#32, constantI S_ 32 0#32] : Fin 4 → IVec S_ 32) a
      (Shape.Idx.first h_S_)).toInt = ((![k, 0, 0, 0] : Fin 4 → ℕ) a : ℤ) := fun a => by
    match a with
    | 0 => exact counter_toInt hk
    | 1 => rfl
    | 2 => rfl
    | 3 => rfl
  refine (congrFun (WordCmp.dynamicUpdateSlice_eq_update x _ _ _ _ fits start) (ix4 s b i a)).trans ?_
  rw [updateSlice_apply]
  by_cases e : s.val = k
  · rw [if_pos e, dif_pos fun d => by
      match d with
      | 0 => show k ≤ s.val ∧ s.val < k + 1; omega
      | 1 => exact ⟨Nat.zero_le _, by show b.val < 0 + 32; omega⟩
      | 2 => exact ⟨Nat.zero_le _, by show i.val < 0 + 64; omega⟩
      | 3 => exact ⟨Nat.zero_le _, by show a.val < 0 + 16; omega⟩]
    pointwise
  · rw [if_neg e, dif_neg fun h => e (by
      have := h 0
      have h' : k ≤ s.val ∧ s.val < k + 1 := this
      omega)]

/-- A stack of the edges' arrays after row `k` is written. -/
theorem write_edges (x : FVec Ideal S50x32x64x64x5 .f32) (u : FVec Ideal S32x64x64x5 .f32) {k : ℕ} (hk : k < 50) (w : IVec S_ 32)
    (hw : w = constantI S_ 32 (BitVec.ofNat 32 k)) (s : Fin 50) (b : Fin 32) (i j : Fin 64) (a : Fin 5) :
    Host.dynamicUpdateSlice x (broadcastInDim S1x32x64x64x5 ![1, 2, 3, 4] bcast_S32x64x64x5_S1x32x64x64x5_1_2_3_4 u)
      (fun k => (((![w, constantI S_ 32 0#32, constantI S_ 32 0#32, constantI S_ 32 0#32, constantI S_ 32 0#32] : Fin 5 → IVec S_ 32)) k
        (Shape.Idx.first h_S_)).toInt) updateFits_S50x32x64x64x5_S1x32x64x64x5 (ix5 s b i j a)
      = if s.val = k then u (ix4 b i j a) else x (ix5 s b i j a) := by
  subst hw
  have fits : S50x32x64x64x5.Slices ![k, 0, 0, 0, 0] S1x32x64x64x5 := ⟨rfl, fun a => by
    match a with
    | 0 => show k + 1 ≤ 50; omega
    | 1 => exact le_rfl
    | 2 => exact le_rfl
    | 3 => exact le_rfl
    | 4 => exact le_rfl⟩
  have start : ∀ a : Fin 5, ((![constantI S_ 32 (BitVec.ofNat 32 k), constantI S_ 32 0#32, constantI S_ 32 0#32, constantI S_ 32 0#32, constantI S_ 32 0#32] : Fin 5 → IVec S_ 32) a
      (Shape.Idx.first h_S_)).toInt = ((![k, 0, 0, 0, 0] : Fin 5 → ℕ) a : ℤ) := fun a => by
    match a with
    | 0 => exact counter_toInt hk
    | 1 => rfl
    | 2 => rfl
    | 3 => rfl
    | 4 => rfl
  refine (congrFun (WordCmp.dynamicUpdateSlice_eq_update x _ _ _ _ fits start) (ix5 s b i j a)).trans ?_
  rw [updateSlice_apply]
  by_cases e : s.val = k
  · rw [if_pos e, dif_pos fun d => by
      match d with
      | 0 => show k ≤ s.val ∧ s.val < k + 1; omega
      | 1 => exact ⟨Nat.zero_le _, by show b.val < 0 + 32; omega⟩
      | 2 => exact ⟨Nat.zero_le _, by show i.val < 0 + 64; omega⟩
      | 3 => exact ⟨Nat.zero_le _, by show j.val < 0 + 64; omega⟩
      | 4 => exact ⟨Nat.zero_le _, by show a.val < 0 + 5; omega⟩]
    pointwise
  · rw [if_neg e, dif_neg fun h => e (by
      have := h 0
      have h' : k ≤ s.val ∧ s.val < k + 1 := this
      omega)]

end Cert.ReferenceIdeal.Value
end
end
-- ==== Proof.RefLoop.lean ====
module
public import proofs.«01_k».proof.Proof.RefRows
/-!
# The reference's loop

After `k` iterations the loop holds the nodes and the edges of step `k`, and the first `k` rows of its four stacks hold
the arrays after and before each step.
-/
public section
noncomputable section
namespace Cert.ReferenceIdeal.Value
open Cert.ReferenceIdeal Cert.ReferenceIdeal.Gen Idealize.ShloMosaic Idealize.ShloMosaic.TcCoe

/-- The first `k` rows of the stacks. -/
structure Stacked (I : Sampler.Inputs) (V0 : Valuation τ sig (Elt Ideal)) (k : ℕ) : Prop where
  nodesAfter : ∀ (s : Fin 50), s.val < k → ∀ b i c,
    (V0 (Proc.devRef .tc main_v38_9) : FVec Ideal S50x32x64x16 .f32) (ix4 s b i c) = Sampler.nodes I (s.val + 1) b i c
  edgesAfter : ∀ (s : Fin 50), s.val < k → ∀ b i j c,
    (V0 (Proc.devRef .tc main_v38_10) : FVec Ideal S50x32x64x64x5 .f32) (ix5 s b i j c) = Sampler.edges I (s.val + 1) b i j c
  nodesBefore : ∀ (s : Fin 50), s.val < k → ∀ b i c,
    (V0 (Proc.devRef .tc main_v38_11) : FVec Ideal S50x32x64x16 .f32) (ix4 s b i c) = Sampler.nodes I s.val b i c
  edgesBefore : ∀ (s : Fin 50), s.val < k → ∀ b i j c,
    (V0 (Proc.devRef .tc main_v38_12) : FVec Ideal S50x32x64x64x5 .f32) (ix5 s b i j c) = Sampler.edges I s.val b i j c

variable {I : Sampler.Inputs} (hI : I.Valid) {V0 : Valuation τ sig (Elt Ideal)} {k : ℕ} (hV : Before I V0 k)

/-- The counter after an iteration. -/
theorem step_counter (hV : Before I V0 k) : step_main_v38_6 V0 = constantI S_ 32 (BitVec.ofNat 32 (k + 1)) := by
  unfold step_main_v38_6
  rw [hV.counted.counter]
  funext x
  show BitVec.ofNat 32 k + 1#32 = BitVec.ofNat 32 (k + 1)
  rw [BitVec.ofNat_add]

include hI hV in
/-- An iteration leads from step `k` to step `k + 1`. -/
theorem step_before (hk : k + 1 < 50) : Before I (STEP V0) (k + 1) where
  counted := ⟨hk, by rw [STEP_main_v38_0]; exact hV.counted.times, by rw [STEP_main_v38_6]; exact step_counter hV,
    by rw [STEP_main_v38_4]; exact hV.counted.base0, by rw [STEP_main_v38_4]; exact hV.counted.base1⟩
  mask b i := by rw [STEP_main_v38_5]; exact hV.mask b i
  share s := by rw [STEP_main_v38_1]; exact hV.share s
  limX b i c := by rw [STEP_main_v38_2]; exact hV.limX b i c
  limE b i j c := by rw [STEP_main_v38_3]; exact hV.limE b i j c
  nodes b i c := by rw [STEP_main_v38_7]; exact v214_apply hI hV b i c
  edges b i j c := by rw [STEP_main_v38_8]; exact v218_apply hI hV b i j c

include hI hV in
/-- An iteration writes row `k`. -/
theorem step_stacked (hS : Stacked I V0 k) : Stacked I (STEP V0) (k + 1) where
  nodesAfter s hs b i c := by
    rw [STEP_main_v38_9]
    refine (write_nodes _ _ hV.counted.lt _ hV.counted.counter s b i c).trans ?_
    by_cases e : s.val = k
    · rw [if_pos e, v214_apply hI hV, e]
    · rw [if_neg e, hS.nodesAfter s (by omega)]
  edgesAfter s hs b i j c := by
    rw [STEP_main_v38_10]
    refine (write_edges _ _ hV.counted.lt _ hV.counted.counter s b i j c).trans ?_
    by_cases e : s.val = k
    · rw [if_pos e, v218_apply hI hV, e]
    · rw [if_neg e, hS.edgesAfter s (by omega)]
  nodesBefore s hs b i c := by
    rw [STEP_main_v38_11]
    refine (write_nodes _ _ hV.counted.lt _ hV.counted.counter s b i c).trans ?_
    by_cases e : s.val = k
    · rw [if_pos e, hV.nodes, e]
    · rw [if_neg e, hS.nodesBefore s (by omega)]
  edgesBefore s hs b i j c := by
    rw [STEP_main_v38_12]
    refine (write_edges _ _ hV.counted.lt _ hV.counted.counter s b i j c).trans ?_
    by_cases e : s.val = k
    · rw [if_pos e, hV.edges, e]
    · rw [if_neg e, hS.edgesBefore s (by omega)]

section
variable (m : (ℓ : Loc nD τ sig) → Buf (Elt Ideal) ℓ) (c : Dev nD)
  (hM : ∀ b i, (m ((c.tc : Thread nD τ).loc main_arg2) : IVec S32x64 1) (ix2 b i) = 1#1) (hG : (given m c).Valid)

include hM hG in
/-- The loop after `k` iterations. -/
theorem loop_at : ∀ k, (k < 50 → Before (given m c) (STEP^[k] (entry m c)) k) ∧ (k ≤ 50 → Stacked (given m c) (STEP^[k] (entry m c)) k)
  | 0 => ⟨fun _ => entry_before m c hM, fun _ => ⟨fun _ h => absurd h (Nat.not_lt_zero _), fun _ h => absurd h (Nat.not_lt_zero _),
      fun _ h => absurd h (Nat.not_lt_zero _), fun _ h => absurd h (Nat.not_lt_zero _)⟩⟩
  | k + 1 => by
    rw [Function.iterate_succ_apply']
    exact ⟨fun h => step_before hG ((loop_at k).1 (by omega)) h,
      fun h => step_stacked hG ((loop_at k).1 (by omega)) ((loop_at k).2 (by omega))⟩

include hM hG in
/-- The stacks the loop ends with. -/
theorem all_rows : Stacked (given m c) (STEP^[50] (entry m c)) 50 := (loop_at m c hM hG 50).2 le_rfl

include hM hG in
/-- The nodes after each step. -/
theorem result_nodesAfter (b : Fin 32) (s : Fin 50) (i : Fin 64) (x : Fin 16) :
    (out_main_v44 (STEP^[50] (entry m c)) : FVec Ideal S32x50x64x16 .f32) (ix4 b s i x) = Sampler.nodes (given m c) (s.val + 1) b i x := by
  unfold out_main_v44
  pointwise
  exact (all_rows m c hM hG).nodesAfter s s.isLt b i x

include hM hG in
/-- The edges after each step. -/
theorem result_edgesAfter (b : Fin 32) (s : Fin 50) (i j : Fin 64) (x : Fin 5) :
    (out_main_v45 (STEP^[50] (entry m c)) : FVec Ideal S32x50x64x64x5 .f32) (ix5 b s i j x) = Sampler.edges (given m c) (s.val + 1) b i j x := by
  unfold out_main_v45
  pointwise
  exact (all_rows m c hM hG).edgesAfter s s.isLt b i j x

include hM hG in
/-- The nodes before each step. -/
theorem result_nodesBefore (b : Fin 32) (s : Fin 50) (i : Fin 64) (x : Fin 16) :
    (out_main_v46 (STEP^[50] (entry m c)) : FVec Ideal S32x50x64x16 .f32) (ix4 b s i x) = Sampler.nodes (given m c) s.val b i x := by
  unfold out_main_v46
  pointwise
  exact (all_rows m c hM hG).nodesBefore s s.isLt b i x

include hM hG in
/-- The edges before each step. -/
theorem result_edgesBefore (b : Fin 32) (s : Fin 50) (i j : Fin 64) (x : Fin 5) :
    (out_main_v47 (STEP^[50] (entry m c)) : FVec Ideal S32x50x64x64x5 .f32) (ix5 b s i j x) = Sampler.edges (given m c) s.val b i j x := by
  unfold out_main_v47
  pointwise
  exact (all_rows m c hM hG).edgesBefore s s.isLt b i j x
end

end Cert.ReferenceIdeal.Value
end
end
-- ==== Proof.Equation.lean ====
module
public import proofs.«01_k».proof.Proof.KernelResults
public import proofs.«01_k».proof.Proof.RefLoop
/-!
# The equation

Started from the same arguments, the kernel's six results are the reference's six results.
-/
public section
noncomputable section
namespace Cert.Equation
open Cert.KernelIdeal Cert.KernelIdeal.Facts₀ Cert.KernelIdeal.Value Idealize.ShloMosaic Idealize.ShloMosaic.TcCoe

/-- The kernel's memory at the start. -/
abbrev KernelMemory := (ℓ : Loc nD τ sig) → Buf (Elt Ideal) ℓ
/-- The reference's memory at the start. -/
abbrev ReferenceMemory := (ℓ : Loc Cert.ReferenceIdeal.nD Cert.ReferenceIdeal.τ Cert.ReferenceIdeal.sig) → Buf (Elt Ideal) ℓ

/-- The two memories hold the same arguments on a core. -/
structure Same (m : KernelMemory) (m' : ReferenceMemory) (c : Dev nD) : Prop where
  arg0 : m' ((c.tc : Thread Cert.ReferenceIdeal.nD Cert.ReferenceIdeal.τ).loc Cert.ReferenceIdeal.main_arg0)
    = m ((c.tc : Thread nD τ).loc main_arg0)
  arg1 : m' ((c.tc : Thread Cert.ReferenceIdeal.nD Cert.ReferenceIdeal.τ).loc Cert.ReferenceIdeal.main_arg1)
    = m ((c.tc : Thread nD τ).loc main_arg1)
  arg2 : m' ((c.tc : Thread Cert.ReferenceIdeal.nD Cert.ReferenceIdeal.τ).loc Cert.ReferenceIdeal.main_arg2)
    = m ((c.tc : Thread nD τ).loc main_arg2)
  arg3 : m' ((c.tc : Thread Cert.ReferenceIdeal.nD Cert.ReferenceIdeal.τ).loc Cert.ReferenceIdeal.main_arg3)
    = m ((c.tc : Thread nD τ).loc main_arg3)
  arg4 : m' ((c.tc : Thread Cert.ReferenceIdeal.nD Cert.ReferenceIdeal.τ).loc Cert.ReferenceIdeal.main_arg4)
    = m ((c.tc : Thread nD τ).loc main_arg4)
  arg5 : m' ((c.tc : Thread Cert.ReferenceIdeal.nD Cert.ReferenceIdeal.τ).loc Cert.ReferenceIdeal.main_arg5)
    = m ((c.tc : Thread nD τ).loc main_arg5)

/-- Two arrays with four axes are equal if they agree at all coordinates. -/
theorem ext4 {α : Type} {n0 n1 n2 n3 : ℕ} {A B : (⟨4, ![n0, n1, n2, n3]⟩ : Shape).Idx → α}
    (h : ∀ a b c d, A (ix4 a b c d) = B (ix4 a b c d)) : A = B :=
  funext fun j => by rw [eq_ix4 j]; exact h _ _ _ _

/-- Two arrays with five axes are equal if they agree at all coordinates. -/
theorem ext5 {α : Type} {n0 n1 n2 n3 n4 : ℕ} {A B : (⟨5, ![n0, n1, n2, n3, n4]⟩ : Shape).Idx → α}
    (h : ∀ a b c d e, A (ix5 a b c d e) = B (ix5 a b c d e)) : A = B :=
  funext fun j => by rw [eq_ix5 j]; exact h _ _ _ _ _

variable {m : KernelMemory} {m' : ReferenceMemory} {c : Dev nD}

/-- The two programs sample from the same inputs. -/
theorem same_inputs (h : Same m m' c) : Cert.ReferenceIdeal.Value.given m' c = Cert.KernelIdeal.Gen.inputs m c := by
  unfold Cert.ReferenceIdeal.Value.given Cert.KernelIdeal.Gen.inputs
  rw [h.arg0, h.arg1, h.arg3, h.arg4, h.arg5]

/-- The reference's memory after its fifty iterations. -/
abbrev last (m' : ReferenceMemory) (c : Dev Cert.ReferenceIdeal.nD) :=
  Cert.ReferenceIdeal.Value.STEP^[50] (Cert.ReferenceIdeal.Value.entry m' c)

section Samples
variable (h : Same m m' c)
  (hM : ∀ b i, (m ((c.tc : Thread nD τ).loc main_arg2) : IVec S32x64 1) (ix2 b i) = 1#1)
  (hI : (Cert.KernelIdeal.Gen.inputs m c).Valid)

include h hM in
/-- The reference's mask is one everywhere. -/
theorem mask_one (b : Fin 32) (i : Fin 64) :
    (m' ((c.tc : Thread Cert.ReferenceIdeal.nD Cert.ReferenceIdeal.τ).loc Cert.ReferenceIdeal.main_arg2) : IVec Cert.ReferenceIdeal.S32x64 1) (ix2 b i) = 1#1 :=
  (congrFun h.arg2 (ix2 b i)).trans (hM b i)

include h hI in
/-- The reference's inputs are valid. -/
theorem given_valid : (Cert.ReferenceIdeal.Value.given m' c).Valid := (same_inputs h).symm ▸ hI

include h hM hI

/-- The first result, the nodes after each step. -/
theorem nodesAfter_eq : Cert.ReferenceIdeal.Value.out_main_v44 (last m' c) = transpose S32x50x64x16 [0, 1, 3, 2] (reg_main_v9_0 m c) transposes_S32x50x16x64_S32x50x64x16_0_1_3_2 :=
  ext4 fun b s i x => (Cert.ReferenceIdeal.Value.result_nodesAfter m' c (mask_one h hM) (given_valid h hI) b s i x).trans
    ((congrArg (fun I => Sampler.nodes I (s.val + 1) b i x) (same_inputs h)).trans (result0 m c hI b s i x).symm)

/-- The second result, the edges after each step. -/
theorem edgesAfter_eq : Cert.ReferenceIdeal.Value.out_main_v45 (last m' c) = transpose S32x50x64x64x5 [0, 1, 3, 4, 2] (reg_main_v9_1 m c) transposes_S32x50x5x64x64_S32x50x64x64x5_0_1_3_4_2 :=
  ext5 fun b s i j x => (Cert.ReferenceIdeal.Value.result_edgesAfter m' c (mask_one h hM) (given_valid h hI) b s i j x).trans
    ((congrArg (fun I => Sampler.edges I (s.val + 1) b i j x) (same_inputs h)).trans (result1 m c hI b s i j x).symm)

/-- The third result, the nodes before each step. -/
theorem nodesBefore_eq : Cert.ReferenceIdeal.Value.out_main_v46 (last m' c) = transpose S32x50x64x16 [0, 1, 3, 2] (reg_main_v9_2 m c) transposes_S32x50x16x64_S32x50x64x16_0_1_3_2 :=
  ext4 fun b s i x => (Cert.ReferenceIdeal.Value.result_nodesBefore m' c (mask_one h hM) (given_valid h hI) b s i x).trans
    ((congrArg (fun I => Sampler.nodes I s.val b i x) (same_inputs h)).trans (result2 m c hI b s i x).symm)

/-- The fourth result, the edges before each step. -/
theorem edgesBefore_eq : Cert.ReferenceIdeal.Value.out_main_v47 (last m' c) = transpose S32x50x64x64x5 [0, 1, 3, 4, 2] (reg_main_v9_3 m c) transposes_S32x50x5x64x64_S32x50x64x64x5_0_1_3_4_2 :=
  ext5 fun b s i j x => (Cert.ReferenceIdeal.Value.result_edgesBefore m' c (mask_one h hM) (given_valid h hI) b s i j x).trans
    ((congrArg (fun I => Sampler.edges I s.val b i j x) (same_inputs h)).trans (result3 m c hI b s i j x).symm)

end Samples

/-- The iterations leave the step lengths as they are. -/
theorem last_steps (h : Same m m' c) : last m' c (Proc.devRef .tc Cert.ReferenceIdeal.main_arg5) = m ((c.tc : Thread nD τ).loc main_arg5) :=
  (Cert.ReferenceIdeal.Value.iter_main_arg5 m' c 50).trans h.arg5

/-- The fifth result, the step lengths repeated for each graph. -/
theorem steps_eq (h : Same m m' c) : Cert.ReferenceIdeal.Value.out_main_v43 (last m' c)
    = broadcastInDim S32x50x1 ![0, 1, 2] bcast_S1x50x1_S32x50x1_0_1_2 (shapeCast _ (m ((c.tc : Thread nD τ).loc main_arg5)) shapeCasts_S50_S1x50x1) := by
  unfold Cert.ReferenceIdeal.Value.out_main_v43
  rw [last_steps h]

/-- The sixth result, the running sums of the step lengths repeated for each graph. -/
theorem times_eq (h : Same m m' c) : Cert.ReferenceIdeal.Value.out_main_v41 (last m' c)
    = (broadcastInDim S32x50x1 ![0, 1, 2] bcast_S1x50x1_S32x50x1_0_1_2 (shapeCast _ (Host.reduceWindowAdd ![50] ![1] ![49] ![0] (m ((c.tc : Thread nD τ).loc main_arg5))
        (broadcastInDim S_ ![] bcast_S_S_ (constant S_ .f32 0x00000000#32)) reduceWindows_S50_S50_w50s1p49_0 h_S_) shapeCasts_S50_S1x50x1) : FVec Ideal S32x50x1 .f32) := by
  unfold Cert.ReferenceIdeal.Value.out_main_v41
  rw [last_steps h]

end Cert.Equation
end
-- ==== Proof.Precondition.lean ====
module
public import proofs.«01_k».proof.Defs
public import proofs.«01_k».proof.Proof.Guard
public import proofs.«01_k».proof.Proof.Arrays
public import Idealize.ShloMosaic.Lib.ReduceAll
public import Idealize.ShloMosaic.Lib.Routing.OpsOrder
/-!
# What the precondition says

Where the precondition's one bit is set, every mask bit is set and the inputs are valid.
-/
public section
noncomputable section
namespace Cert.Pre_valid
open Idealize.ShloMosaic

/-- The shape relations of the precondition's operations. -/
theorem facts : Facts where
  reducesTo_S32x64_S_d0_1 := by decide
  h_S_ := by decide
  transposes_S32x64x64x5_S32x64x64x5_0_2_1_3 := by decide
  reducesTo_S32x64x64x5_S_d0_1_2_3 := by decide
  bcast_S_S32x64x16 := by decide
  reducesTo_S32x64x16_S32x64_d2 := by decide
  bcast_S_S32x64x64x5 := by decide
  reducesTo_S32x64x64x5_S32x64x64_d3 := by decide
  reducesTo_S32x64x64_S_d0_1_2 := by decide
  bcast_S_S16 := by decide
  reducesTo_S16_S_d0 := by decide
  bcast_S_S5 := by decide
  reducesTo_S5_S_d0 := by decide
  bcast_S_S50 := by decide
  reducesTo_S50_S_d0 := by decide

instance : Subsingleton S_.Idx := ⟨fun _ _ => funext fun a => a.elim0⟩

/-- The least weight of a class the precondition asks for. -/
theorem least_word : Ideal.ofBits .f32 0x36000000#32 = (((2 : ℝ) ^ (-19 : ℤ) : ℝ) : EReal) := by
  rw [Sampler.ofBits_normal _ 108 0 (by decide) (by decide) (by decide) (by decide) (by decide)]
  congr 1
  norm_num

/-- The greatest share of the limit the precondition allows. -/
theorem share_word : Ideal.ofBits .f32 0x3F7FFFE0#32 = ((1 - (2 : ℝ) ^ (-19 : ℤ) : ℝ) : EReal) := by
  rw [Sampler.ofBits_normal _ 126 8388576 (by decide) (by decide) (by decide) (by decide) (by decide)]
  congr 1
  norm_num

theorem zero_word : Ideal.ofBits .f32 0x00000000#32 = 0 := Ideal.ofBits_zero_f32

/-- An «or» along an axis is set where some element is. -/
theorem any_bit {s t u : Shape} {axes : List (Fin s.rank)} (x : s.Idx → BitVec 1) (init : u.Idx → BitVec 1) (h : s.ReducesTo axes t)
    (hu : 0 < u.numel) (j : t.Idx) (hi : init (Shape.Idx.first hu) = 0#1) (e : Host.reduce IntOp.ori x init h hu j = 1#1) :
    ∃ i, h.drop i = j ∧ x i = 1#1 := by
  classical
  rw [Host.reduce_eq_fold, hi] at e
  obtain ⟨i, hm, hx⟩ := (Routing.fold_ori _ _).1 e
  exact ⟨i, (Finset.mem_filter.1 hm).2, hx⟩

variable [Facts]
open Facts

/-- The precondition's bit, taken apart. -/
theorem valid_of_bit (X : FVec Ideal S32x64x16 .f32) (E : FVec Ideal S32x64x64x5 .f32) (M : IVec S32x64 1) (lx : FVec Ideal S16 .f32)
    (le : FVec Ideal S5 .f32) (g : FVec Ideal S50 .f32) (h : fn (F := Ideal) X E M lx le g = fun _ => 1#1) :
    (∀ b i, M (ix2 b i) = 1#1) ∧ (Sampler.Inputs.of X E lx le g).Valid := by
  have h0 := congrFun h ix0
  unfold fn fn_part1 fn_part2 at h0
  dsimp only at h0
  obtain ⟨h1, hg⟩ := IntOp.andi_eq_one.1 h0
  obtain ⟨h2, hle⟩ := IntOp.andi_eq_one.1 h1
  obtain ⟨h3, hlx⟩ := IntOp.andi_eq_one.1 h2
  obtain ⟨h4, hE⟩ := IntOp.andi_eq_one.1 h3
  obtain ⟨h5, hX⟩ := IntOp.andi_eq_one.1 h4
  obtain ⟨hM, hs⟩ := IntOp.andi_eq_one.1 h5
  refine ⟨fun b i => Host.reduce_andi_all _ _ _ _ _ hM _, fun b i j c => ?_, fun b i => ?_, fun b i j hij => ?_, fun c => ?_, fun c => ?_,
    fun k => ?_, fun k => ?_⟩
  · have e := Host.reduce_andi_all _ _ _ _ _ hs (ix4 b i j c)
    have t : transpose S32x64x64x5 [0, 2, 1, 3] E transposes_S32x64x64x5_S32x64x64x5_0_2_1_3 (ix4 b i j c) = E (ix4 b j i c) := by
      pointwise
    exact ((Ideal.cmp_oeq_eq_one (E (ix4 b i j c)) _).1 e).trans t
  · obtain ⟨x, hd, hx⟩ := any_bit _ _ _ _ _ rfl (Host.reduce_andi_all _ _ _ _ _ hX (ix2 b i))
    obtain ⟨c, rfl⟩ := (reducesTo_S32x64x16_S32x64_d2.fiber_r3_a2 (ix2 b i) x).1 hd
    exact ⟨c, least_word.symm.trans_le ((Ideal.cmp_oge_eq_one _ _).1 hx)⟩
  · rcases IntOp.ori_eq_one.1 (Host.reduce_andi_all _ _ _ _ _ hE (ix3 b i j)) with e | e
    · obtain ⟨x, hd, hx⟩ := any_bit _ _ _ _ _ rfl e
      obtain ⟨c, rfl⟩ := (reducesTo_S32x64x64x5_S32x64x64_d3.fiber_r4_a3 (ix3 b i j) x).1 hd
      exact ⟨c, least_word.symm.trans_le ((Ideal.cmp_oge_eq_one _ _).1 hx)⟩
    · have w : BitVec.ofNat 32 i.val = BitVec.ofNat 32 j.val := IntOp.cmpi_eq.1 e
      have w' := congrArg BitVec.toNat w
      simp only [BitVec.toNat_ofNat] at w'
      exact absurd (Fin.ext (by omega)) hij
  · exact zero_word.symm.trans_le ((Ideal.cmp_oge_eq_one _ _).1 (Host.reduce_andi_all _ _ _ _ _ hlx (ix1 c)))
  · exact zero_word.symm.trans_le ((Ideal.cmp_oge_eq_one _ _).1 (Host.reduce_andi_all _ _ _ _ _ hle (ix1 c)))
  · exact zero_word.symm.trans_le ((Ideal.cmp_oge_eq_one _ _).1 (IntOp.andi_eq_one.1 (Host.reduce_andi_all _ _ _ _ _ hg (ix1 k))).1)
  · exact ((Ideal.cmp_ole_eq_one _ _).1 (IntOp.andi_eq_one.1 (Host.reduce_andi_all _ _ _ _ _ hg (ix1 k))).2).trans_eq share_word

end Cert.Pre_valid
end
end
-- ==== Proof.RefFrame.lean ====
module
public import proofs.«01_k».proof.Proof.Gen.ReferenceIdeal.Run
public import Idealize.ShloMosaic.PureOps.Ideal
/-!
# The reference's frame

The reference ends with its arguments unchanged. It has no semaphores, so no counter can be other than zero.
-/
public section
noncomputable section
namespace Cert.ReferenceIdeal.Value
open Cert.ReferenceIdeal Cert.ReferenceIdeal.Gen Idealize.ShloMosaic Idealize.ShloMosaic.TcCoe Idealize.SL.Sem

/-- The reference names no semaphore. -/
theorem no_semaphore : SemLoc sig → False
  | .reg s => s.elim0
  | .dma s => s.elim0

variable (m : (ℓ : Loc nD τ sig) → Buf (Elt Ideal) ℓ) (ρ : Dev nD → PrngReg)

/-- From any memory the reference ends with its arguments unchanged and every counter at zero. -/
theorem frame : θ_run (defs (F := Ideal)) (onTc (τ := τ) (main (F := Ideal))) ⟨m, fun _ => 0, ρ⟩ fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 :=
  (θ_run defs _ _).mono (fun _ h => ⟨fun c => (h c).2.2.2.2.2.2, funext fun g => (no_semaphore g.2).elim⟩) (run m ρ)

end Cert.ReferenceIdeal.Value
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.Gen.ReferenceIdeal.Run
public import proofs.«01_k».proof.Proof.Equation
public import proofs.«01_k».proof.Proof.Precondition
public import proofs.«01_k».proof.Proof.RefFrame
public import Idealize.ShloMosaic.Adequacy
public import Idealize.ShloMosaic.Init
/-!
# The claim

The frames of the three programs, and the equation between the kernel's results and the reference's.
-/

@[expose] public section

noncomputable section

namespace Cert.Proof

open Idealize.ShloMosaic Idealize.ShloMosaic.TcCoe Idealize.SL.Sem

local instance : Cert.Pre_valid.Facts := Cert.Pre_valid.facts

/-- From arguments the precondition admits, both programs run, end with the same six results and leave the arguments
    unchanged. -/
theorem equal_results : Cert.algebraic_KernelIdeal_ReferenceIdeal_pre_valid := by
  intro m g m' g' hv hm
  have hs (c : Dev Cert.KernelIdeal.nD) : Cert.Equation.Same m m' c :=
    ⟨(hm c).1, (hm c).2.1, (hm c).2.2.1, (hm c).2.2.2.1, (hm c).2.2.2.2.1, (hm c).2.2.2.2.2⟩
  have hp (c : Dev Cert.KernelIdeal.nD) := Cert.Pre_valid.valid_of_bit _ _ _ _ _ _ (hv c)
  refine ⟨_, _, _, _, _, _, Cert.KernelIdeal.Value.run m g,
    (θ_run Cert.ReferenceIdeal.defs _ _).mono (fun _ h c => ?_) (Cert.ReferenceIdeal.Value.run m' g')⟩
  obtain ⟨h0, h1, h2, h3, h4, h5, hargs⟩ := h c
  exact ⟨h0.trans (Cert.Equation.nodesAfter_eq (hs c) (hp c).1 (hp c).2),
    h1.trans (Cert.Equation.edgesAfter_eq (hs c) (hp c).1 (hp c).2),
    h2.trans (Cert.Equation.nodesBefore_eq (hs c) (hp c).1 (hp c).2),
    h3.trans (Cert.Equation.edgesBefore_eq (hs c) (hp c).1 (hp c).2),
    h4.trans (Cert.Equation.steps_eq (hs c)), h5.trans (Cert.Equation.times_eq (hs c)), hargs⟩

/-- Every claim: the three frames, the idealization's preservation, and the equation of the results. -/
theorem claim : Cert.Claim :=
  ⟨Cert.Kernel.Gen.facts, Cert.KernelIdeal.Gen.facts, Cert.ReferenceIdeal.Gen.facts, Cert.Pre_valid.facts,
    fun m g _ => Cert.Kernel.Gen.frame m g,
    fun m g _ => Cert.KernelIdeal.Gen.frame m g,
    fun m g _ => Cert.KernelIdeal.Gen.frame m g,
    fun m g _ => Cert.ReferenceIdeal.Value.frame m g,
    fun m g _ => Cert.ReferenceIdeal.Value.frame m g,
    trivial, equal_results⟩

end Cert.Proof

end
